-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S8x128x1024 : Shape := ⟨3, ![8, 128, 1024]⟩
abbrev S2x128x1024 : Shape := ⟨3, ![2, 128, 1024]⟩
abbrev S2 : Shape := ⟨1, ![2]⟩
abbrev S8 : Shape := ⟨1, ![8]⟩
abbrev S64 : Shape := ⟨1, ![64]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S8x128x1024, .f32⟩
  | .local _ .vmem, ⟨1, _⟩ => ⟨S8x128x1024, .f32⟩
  | .local _ .vmem, ⟨2, _⟩ => ⟨S2x128x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 3 → Bool
  | ⟨0, _⟩ => true
  | ⟨1, _⟩ => true
  | ⟨2, _⟩ => false
  | _ => false

abbrev dmaSemScoped : Fin 276 → Bool
  | ⟨i, _⟩ => dmaSemScopedAt i

abbrev sig : RefSig :=
  (ofTc nBuf bufTy 3 276 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_18 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32_17 : BitVec 32 := 8192#32
  let v26 : BitVec 32 := Scalar.muli v2 c8192_i32_17
  let v27 : BitVec 32 := Scalar.addi v26 c0_i32_18
  let c0_i32_545 : BitVec 32 := 0#32
  ![v27.toNat, 0]
def k0_dev3 (d0 : Dev nD) : Nat :=
  let c0_i32_541 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_540 : BitVec 32 := 2#32
  let v671 : BitVec 32 := Scalar.muli v2 c2_i32_540
  let v672 : BitVec 32 := Scalar.addi c0_i32_541 v671
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_542 : BitVec 32 := 1#32
  let v673 : BitVec 32 := Scalar.muli v6 c1_i32_542
  let v674 : BitVec 32 := Scalar.addi v672 v673
  v674.toNat
def k0_off2 (d0 : Dev nD) (c0_i32_339 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_338 : BitVec 32 := 16384#32
  let v410 : BitVec 32 := Scalar.muli v5 c16384_i32_338
  let v411 : BitVec 32 := Scalar.addi v410 c0_i32_339
  let c0_i32_560 : BitVec 32 := 0#32
  ![v411.toNat, 0]
def k0_dev4 (d0 : Dev nD) : Nat :=
  let c0_i32_589 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_588 : BitVec 32 := 2#32
  let v717 : BitVec 32 := Scalar.muli v2 c2_i32_588
  let v718 : BitVec 32 := Scalar.addi c0_i32_589 v717
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_590 : BitVec 32 := 1#32
  let v719 : BitVec 32 := Scalar.muli v6 c1_i32_590
  let v720 : BitVec 32 := Scalar.addi v718 v719
  v720.toNat
def k0_dev5 (d0 : Dev nD) : Nat :=
  let c0_i32_642 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_641 : BitVec 32 := 2#32
  let v768 : BitVec 32 := Scalar.muli v2 c2_i32_641
  let v769 : BitVec 32 := Scalar.addi c0_i32_642 v768
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_643 : BitVec 32 := 1#32
  let v770 : BitVec 32 := Scalar.muli v6 c1_i32_643
  let v771 : BitVec 32 := Scalar.addi v769 v770
  v771.toNat
def k0_off3 (d0 : Dev nD) (c0_i32_210 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_12 v5
  let c16384_i32 : BitVec 32 := 16384#32
  let v18 : BitVec 32 := Scalar.muli v17 c16384_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v19 : BitVec 32 := Scalar.muli v2 c8192_i32
  let v20 : BitVec 32 := Scalar.addi v18 v19
  let v282 : BitVec 32 := Scalar.addi v20 c0_i32_210
  let c0_i32_702 : BitVec 32 := 0#32
  ![v282.toNat, 0]
def k0_dev6 (d0 : Dev nD) : Nat :=
  let c0_i32_710 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_709 : BitVec 32 := 2#32
  let v833 : BitVec 32 := Scalar.muli v7 c2_i32_709
  let v834 : BitVec 32 := Scalar.addi c0_i32_710 v833
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_711 : BitVec 32 := 1#32
  let v835 : BitVec 32 := Scalar.muli v5 c1_i32_711
  let v836 : BitVec 32 := Scalar.addi v834 v835
  v836.toNat
def k0_dev7 (d0 : Dev nD) : Nat :=
  let c0_i32_719 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_718 : BitVec 32 := 2#32
  let v845 : BitVec 32 := Scalar.muli v2 c2_i32_718
  let v846 : BitVec 32 := Scalar.addi c0_i32_719 v845
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_720 : BitVec 32 := 1#32
  let v847 : BitVec 32 := Scalar.muli v6 c1_i32_720
  let v848 : BitVec 32 := Scalar.addi v846 v847
  v848.toNat
def k0_dev8 (d0 : Dev nD) : Nat :=
  let c0_i32_787 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_786 : BitVec 32 := 2#32
  let v910 : BitVec 32 := Scalar.muli v7 c2_i32_786
  let v911 : BitVec 32 := Scalar.addi c0_i32_787 v910
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_788 : BitVec 32 := 1#32
  let v912 : BitVec 32 := Scalar.muli v5 c1_i32_788
  let v913 : BitVec 32 := Scalar.addi v911 v912
  v913.toNat
def k0_dev9 (d0 : Dev nD) : Nat :=
  let c0_i32_796 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_795 : BitVec 32 := 2#32
  let v922 : BitVec 32 := Scalar.muli v2 c2_i32_795
  let v923 : BitVec 32 := Scalar.addi c0_i32_796 v922
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_797 : BitVec 32 := 1#32
  let v924 : BitVec 32 := Scalar.muli v6 c1_i32_797
  let v925 : BitVec 32 := Scalar.addi v923 v924
  v925.toNat
def k0_dev10 (d0 : Dev nD) : Nat :=
  let c0_i32_864 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_863 : BitVec 32 := 2#32
  let v987 : BitVec 32 := Scalar.muli v7 c2_i32_863
  let v988 : BitVec 32 := Scalar.addi c0_i32_864 v987
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_865 : BitVec 32 := 1#32
  let v989 : BitVec 32 := Scalar.muli v5 c1_i32_865
  let v990 : BitVec 32 := Scalar.addi v988 v989
  v990.toNat
def k0_dev11 (d0 : Dev nD) : Nat :=
  let c0_i32_886 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_885 : BitVec 32 := 2#32
  let v1010 : BitVec 32 := Scalar.muli v2 c2_i32_885
  let v1011 : BitVec 32 := Scalar.addi c0_i32_886 v1010
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_887 : BitVec 32 := 1#32
  let v1012 : BitVec 32 := Scalar.muli v6 c1_i32_887
  let v1013 : BitVec 32 := Scalar.addi v1011 v1012
  v1013.toNat
def k0_off4 (d0 : Dev nD) (c0_i32_274 : BitVec 32) : Fin 2 → Nat :=
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_13 v5
  let c16384_i32_14 : BitVec 32 := 16384#32
  let v22 : BitVec 32 := Scalar.muli v21 c16384_i32_14
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v23 : BitVec 32 := Scalar.subi c1_i32_15 v2
  let c8192_i32_16 : BitVec 32 := 8192#32
  let v24 : BitVec 32 := Scalar.muli v23 c8192_i32_16
  let v25 : BitVec 32 := Scalar.addi v22 v24
  let v346 : BitVec 32 := Scalar.addi v25 c0_i32_274
  let c0_i32_901 : BitVec 32 := 0#32
  ![v346.toNat, 0]
def k0_dev12 (d0 : Dev nD) : Nat :=
  let c0_i32_907 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_906 : BitVec 32 := 2#32
  let v1029 : BitVec 32 := Scalar.muli v2 c2_i32_906
  let v1030 : BitVec 32 := Scalar.addi c0_i32_907 v1029
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_908 : BitVec 32 := 1#32
  let v1031 : BitVec 32 := Scalar.muli v6 c1_i32_908
  let v1032 : BitVec 32 := Scalar.addi v1030 v1031
  v1032.toNat
def k0_dev13 (d0 : Dev nD) : Nat :=
  let c0_i32_975 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_974 : BitVec 32 := 2#32
  let v1094 : BitVec 32 := Scalar.muli v7 c2_i32_974
  let v1095 : BitVec 32 := Scalar.addi c0_i32_975 v1094
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_976 : BitVec 32 := 1#32
  let v1096 : BitVec 32 := Scalar.muli v5 c1_i32_976
  let v1097 : BitVec 32 := Scalar.addi v1095 v1096
  v1097.toNat
def k0_dev14 (d0 : Dev nD) : Nat :=
  let c0_i32_997 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_996 : BitVec 32 := 2#32
  let v1117 : BitVec 32 := Scalar.muli v2 c2_i32_996
  let v1118 : BitVec 32 := Scalar.addi c0_i32_997 v1117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_998 : BitVec 32 := 1#32
  let v1119 : BitVec 32 := Scalar.muli v6 c1_i32_998
  let v1120 : BitVec 32 := Scalar.addi v1118 v1119
  v1120.toNat
def k0_dev15 (d0 : Dev nD) : Nat :=
  let c0_i32_1018 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1017 : BitVec 32 := 2#32
  let v1136 : BitVec 32 := Scalar.muli v2 c2_i32_1017
  let v1137 : BitVec 32 := Scalar.addi c0_i32_1018 v1136
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1019 : BitVec 32 := 1#32
  let v1138 : BitVec 32 := Scalar.muli v6 c1_i32_1019
  let v1139 : BitVec 32 := Scalar.addi v1137 v1138
  v1139.toNat
def k0_dev16 (d0 : Dev nD) : Nat :=
  let c0_i32_1086 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1085 : BitVec 32 := 2#32
  let v1201 : BitVec 32 := Scalar.muli v7 c2_i32_1085
  let v1202 : BitVec 32 := Scalar.addi c0_i32_1086 v1201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1087 : BitVec 32 := 1#32
  let v1203 : BitVec 32 := Scalar.muli v5 c1_i32_1087
  let v1204 : BitVec 32 := Scalar.addi v1202 v1203
  v1204.toNat
def k0_dev17 (d0 : Dev nD) : Nat :=
  let c0_i32_1108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1107 : BitVec 32 := 2#32
  let v1224 : BitVec 32 := Scalar.muli v2 c2_i32_1107
  let v1225 : BitVec 32 := Scalar.addi c0_i32_1108 v1224
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1109 : BitVec 32 := 1#32
  let v1226 : BitVec 32 := Scalar.muli v6 c1_i32_1109
  let v1227 : BitVec 32 := Scalar.addi v1225 v1226
  v1227.toNat
def k0_dev18 (d0 : Dev nD) : Nat :=
  let c0_i32_1133 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1132 : BitVec 32 := 2#32
  let v1248 : BitVec 32 := Scalar.muli v7 c2_i32_1132
  let v1249 : BitVec 32 := Scalar.addi c0_i32_1133 v1248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1134 : BitVec 32 := 1#32
  let v1250 : BitVec 32 := Scalar.muli v5 c1_i32_1134
  let v1251 : BitVec 32 := Scalar.addi v1249 v1250
  v1251.toNat
def k0_dev19 (d0 : Dev nD) : Nat :=
  let c0_i32_1138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1137 : BitVec 32 := 2#32
  let v1252 : BitVec 32 := Scalar.muli v2 c2_i32_1137
  let v1253 : BitVec 32 := Scalar.addi c0_i32_1138 v1252
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1139 : BitVec 32 := 1#32
  let v1254 : BitVec 32 := Scalar.muli v6 c1_i32_1139
  let v1255 : BitVec 32 := Scalar.addi v1253 v1254
  v1255.toNat
def k0_dev20 (d0 : Dev nD) : Nat :=
  let c0_i32_1206 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1205 : BitVec 32 := 2#32
  let v1317 : BitVec 32 := Scalar.muli v7 c2_i32_1205
  let v1318 : BitVec 32 := Scalar.addi c0_i32_1206 v1317
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1207 : BitVec 32 := 1#32
  let v1319 : BitVec 32 := Scalar.muli v5 c1_i32_1207
  let v1320 : BitVec 32 := Scalar.addi v1318 v1319
  v1320.toNat
def k0_dev21 (d0 : Dev nD) : Nat :=
  let c0_i32_1228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1227 : BitVec 32 := 2#32
  let v1340 : BitVec 32 := Scalar.muli v2 c2_i32_1227
  let v1341 : BitVec 32 := Scalar.addi c0_i32_1228 v1340
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1229 : BitVec 32 := 1#32
  let v1342 : BitVec 32 := Scalar.muli v6 c1_i32_1229
  let v1343 : BitVec 32 := Scalar.addi v1341 v1342
  v1343.toNat
def k0_dev22 (d0 : Dev nD) : Nat :=
  let c0_i32_1253 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1252 : BitVec 32 := 2#32
  let v1364 : BitVec 32 := Scalar.muli v7 c2_i32_1252
  let v1365 : BitVec 32 := Scalar.addi c0_i32_1253 v1364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1254 : BitVec 32 := 1#32
  let v1366 : BitVec 32 := Scalar.muli v5 c1_i32_1254
  let v1367 : BitVec 32 := Scalar.addi v1365 v1366
  v1367.toNat
def k0_dev23 (d0 : Dev nD) : Nat :=
  let c0_i32_1260 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1259 : BitVec 32 := 2#32
  let v1368 : BitVec 32 := Scalar.muli v2 c2_i32_1259
  let v1369 : BitVec 32 := Scalar.addi c0_i32_1260 v1368
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1261 : BitVec 32 := 1#32
  let v1370 : BitVec 32 := Scalar.muli v6 c1_i32_1261
  let v1371 : BitVec 32 := Scalar.addi v1369 v1370
  v1371.toNat
def k0_dev24 (d0 : Dev nD) : Nat :=
  let c0_i32_1328 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1327 : BitVec 32 := 2#32
  let v1433 : BitVec 32 := Scalar.muli v7 c2_i32_1327
  let v1434 : BitVec 32 := Scalar.addi c0_i32_1328 v1433
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1329 : BitVec 32 := 1#32
  let v1435 : BitVec 32 := Scalar.muli v5 c1_i32_1329
  let v1436 : BitVec 32 := Scalar.addi v1434 v1435
  v1436.toNat
def k0_dev25 (d0 : Dev nD) : Nat :=
  let c0_i32_1350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1349 : BitVec 32 := 2#32
  let v1456 : BitVec 32 := Scalar.muli v2 c2_i32_1349
  let v1457 : BitVec 32 := Scalar.addi c0_i32_1350 v1456
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1351 : BitVec 32 := 1#32
  let v1458 : BitVec 32 := Scalar.muli v6 c1_i32_1351
  let v1459 : BitVec 32 := Scalar.addi v1457 v1458
  v1459.toNat
def k0_dev26 (d0 : Dev nD) : Nat :=
  let c0_i32_1375 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1374 : BitVec 32 := 2#32
  let v1480 : BitVec 32 := Scalar.muli v7 c2_i32_1374
  let v1481 : BitVec 32 := Scalar.addi c0_i32_1375 v1480
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1376 : BitVec 32 := 1#32
  let v1482 : BitVec 32 := Scalar.muli v5 c1_i32_1376
  let v1483 : BitVec 32 := Scalar.addi v1481 v1482
  v1483.toNat
def k0_dev27 (d0 : Dev nD) : Nat :=
  let c0_i32_1382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1381 : BitVec 32 := 2#32
  let v1484 : BitVec 32 := Scalar.muli v2 c2_i32_1381
  let v1485 : BitVec 32 := Scalar.addi c0_i32_1382 v1484
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1383 : BitVec 32 := 1#32
  let v1486 : BitVec 32 := Scalar.muli v6 c1_i32_1383
  let v1487 : BitVec 32 := Scalar.addi v1485 v1486
  v1487.toNat
def k0_dev28 (d0 : Dev nD) : Nat :=
  let c0_i32_1450 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1449 : BitVec 32 := 2#32
  let v1549 : BitVec 32 := Scalar.muli v7 c2_i32_1449
  let v1550 : BitVec 32 := Scalar.addi c0_i32_1450 v1549
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1451 : BitVec 32 := 1#32
  let v1551 : BitVec 32 := Scalar.muli v5 c1_i32_1451
  let v1552 : BitVec 32 := Scalar.addi v1550 v1551
  v1552.toNat
def k0_dev29 (d0 : Dev nD) : Nat :=
  let c0_i32_1472 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1471 : BitVec 32 := 2#32
  let v1572 : BitVec 32 := Scalar.muli v2 c2_i32_1471
  let v1573 : BitVec 32 := Scalar.addi c0_i32_1472 v1572
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1473 : BitVec 32 := 1#32
  let v1574 : BitVec 32 := Scalar.muli v6 c1_i32_1473
  let v1575 : BitVec 32 := Scalar.addi v1573 v1574
  v1575.toNat
def k0_dev30 (d0 : Dev nD) : Nat :=
  let c0_i32_1497 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1496 : BitVec 32 := 2#32
  let v1596 : BitVec 32 := Scalar.muli v7 c2_i32_1496
  let v1597 : BitVec 32 := Scalar.addi c0_i32_1497 v1596
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1498 : BitVec 32 := 1#32
  let v1598 : BitVec 32 := Scalar.muli v5 c1_i32_1498
  let v1599 : BitVec 32 := Scalar.addi v1597 v1598
  v1599.toNat
def k0_dev31 (d0 : Dev nD) : Nat :=
  let c0_i32_1504 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1503 : BitVec 32 := 2#32
  let v1600 : BitVec 32 := Scalar.muli v2 c2_i32_1503
  let v1601 : BitVec 32 := Scalar.addi c0_i32_1504 v1600
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1505 : BitVec 32 := 1#32
  let v1602 : BitVec 32 := Scalar.muli v6 c1_i32_1505
  let v1603 : BitVec 32 := Scalar.addi v1601 v1602
  v1603.toNat
def k0_dev32 (d0 : Dev nD) : Nat :=
  let c0_i32_1574 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1573 : BitVec 32 := 2#32
  let v1665 : BitVec 32 := Scalar.muli v7 c2_i32_1573
  let v1666 : BitVec 32 := Scalar.addi c0_i32_1574 v1665
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1575 : BitVec 32 := 1#32
  let v1667 : BitVec 32 := Scalar.muli v5 c1_i32_1575
  let v1668 : BitVec 32 := Scalar.addi v1666 v1667
  v1668.toNat
def k0_dev33 (d0 : Dev nD) : Nat :=
  let c0_i32_1596 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1595 : BitVec 32 := 2#32
  let v1688 : BitVec 32 := Scalar.muli v2 c2_i32_1595
  let v1689 : BitVec 32 := Scalar.addi c0_i32_1596 v1688
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1597 : BitVec 32 := 1#32
  let v1690 : BitVec 32 := Scalar.muli v6 c1_i32_1597
  let v1691 : BitVec 32 := Scalar.addi v1689 v1690
  v1691.toNat
def k0_dev34 (d0 : Dev nD) : Nat :=
  let c0_i32_1621 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1620 : BitVec 32 := 2#32
  let v1712 : BitVec 32 := Scalar.muli v7 c2_i32_1620
  let v1713 : BitVec 32 := Scalar.addi c0_i32_1621 v1712
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1622 : BitVec 32 := 1#32
  let v1714 : BitVec 32 := Scalar.muli v5 c1_i32_1622
  let v1715 : BitVec 32 := Scalar.addi v1713 v1714
  v1715.toNat
def k0_dev35 (d0 : Dev nD) : Nat :=
  let c0_i32_1628 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1627 : BitVec 32 := 2#32
  let v1716 : BitVec 32 := Scalar.muli v2 c2_i32_1627
  let v1717 : BitVec 32 := Scalar.addi c0_i32_1628 v1716
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1629 : BitVec 32 := 1#32
  let v1718 : BitVec 32 := Scalar.muli v6 c1_i32_1629
  let v1719 : BitVec 32 := Scalar.addi v1717 v1718
  v1719.toNat
def k0_dev36 (d0 : Dev nD) : Nat :=
  let c0_i32_1698 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1697 : BitVec 32 := 2#32
  let v1781 : BitVec 32 := Scalar.muli v7 c2_i32_1697
  let v1782 : BitVec 32 := Scalar.addi c0_i32_1698 v1781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1699 : BitVec 32 := 1#32
  let v1783 : BitVec 32 := Scalar.muli v5 c1_i32_1699
  let v1784 : BitVec 32 := Scalar.addi v1782 v1783
  v1784.toNat
def k0_dev37 (d0 : Dev nD) : Nat :=
  let c0_i32_1720 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1719 : BitVec 32 := 2#32
  let v1804 : BitVec 32 := Scalar.muli v2 c2_i32_1719
  let v1805 : BitVec 32 := Scalar.addi c0_i32_1720 v1804
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1721 : BitVec 32 := 1#32
  let v1806 : BitVec 32 := Scalar.muli v6 c1_i32_1721
  let v1807 : BitVec 32 := Scalar.addi v1805 v1806
  v1807.toNat
def k0_dev38 (d0 : Dev nD) : Nat :=
  let c0_i32_1745 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1744 : BitVec 32 := 2#32
  let v1828 : BitVec 32 := Scalar.muli v7 c2_i32_1744
  let v1829 : BitVec 32 := Scalar.addi c0_i32_1745 v1828
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1746 : BitVec 32 := 1#32
  let v1830 : BitVec 32 := Scalar.muli v5 c1_i32_1746
  let v1831 : BitVec 32 := Scalar.addi v1829 v1830
  v1831.toNat
def k0_dev39 (d0 : Dev nD) : Nat :=
  let c0_i32_1752 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1751 : BitVec 32 := 2#32
  let v1832 : BitVec 32 := Scalar.muli v2 c2_i32_1751
  let v1833 : BitVec 32 := Scalar.addi c0_i32_1752 v1832
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1753 : BitVec 32 := 1#32
  let v1834 : BitVec 32 := Scalar.muli v6 c1_i32_1753
  let v1835 : BitVec 32 := Scalar.addi v1833 v1834
  v1835.toNat
def k0_dev40 (d0 : Dev nD) : Nat :=
  let c0_i32_1822 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1821 : BitVec 32 := 2#32
  let v1897 : BitVec 32 := Scalar.muli v7 c2_i32_1821
  let v1898 : BitVec 32 := Scalar.addi c0_i32_1822 v1897
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1823 : BitVec 32 := 1#32
  let v1899 : BitVec 32 := Scalar.muli v5 c1_i32_1823
  let v1900 : BitVec 32 := Scalar.addi v1898 v1899
  v1900.toNat
def k0_dev41 (d0 : Dev nD) : Nat :=
  let c0_i32_1844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1843 : BitVec 32 := 2#32
  let v1920 : BitVec 32 := Scalar.muli v2 c2_i32_1843
  let v1921 : BitVec 32 := Scalar.addi c0_i32_1844 v1920
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1845 : BitVec 32 := 1#32
  let v1922 : BitVec 32 := Scalar.muli v6 c1_i32_1845
  let v1923 : BitVec 32 := Scalar.addi v1921 v1922
  v1923.toNat
def k0_dev42 (d0 : Dev nD) : Nat :=
  let c0_i32_1869 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1868 : BitVec 32 := 2#32
  let v1944 : BitVec 32 := Scalar.muli v7 c2_i32_1868
  let v1945 : BitVec 32 := Scalar.addi c0_i32_1869 v1944
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1870 : BitVec 32 := 1#32
  let v1946 : BitVec 32 := Scalar.muli v5 c1_i32_1870
  let v1947 : BitVec 32 := Scalar.addi v1945 v1946
  v1947.toNat
def k0_dev43 (d0 : Dev nD) : Nat :=
  let c0_i32_1876 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1875 : BitVec 32 := 2#32
  let v1948 : BitVec 32 := Scalar.muli v2 c2_i32_1875
  let v1949 : BitVec 32 := Scalar.addi c0_i32_1876 v1948
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1877 : BitVec 32 := 1#32
  let v1950 : BitVec 32 := Scalar.muli v6 c1_i32_1877
  let v1951 : BitVec 32 := Scalar.addi v1949 v1950
  v1951.toNat
def k0_dev44 (d0 : Dev nD) : Nat :=
  let c0_i32_1946 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1945 : BitVec 32 := 2#32
  let v2013 : BitVec 32 := Scalar.muli v7 c2_i32_1945
  let v2014 : BitVec 32 := Scalar.addi c0_i32_1946 v2013
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1947 : BitVec 32 := 1#32
  let v2015 : BitVec 32 := Scalar.muli v5 c1_i32_1947
  let v2016 : BitVec 32 := Scalar.addi v2014 v2015
  v2016.toNat
def k0_dev45 (d0 : Dev nD) : Nat :=
  let c0_i32_1968 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1967 : BitVec 32 := 2#32
  let v2036 : BitVec 32 := Scalar.muli v2 c2_i32_1967
  let v2037 : BitVec 32 := Scalar.addi c0_i32_1968 v2036
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1969 : BitVec 32 := 1#32
  let v2038 : BitVec 32 := Scalar.muli v6 c1_i32_1969
  let v2039 : BitVec 32 := Scalar.addi v2037 v2038
  v2039.toNat
def k0_dev46 (d0 : Dev nD) : Nat :=
  let c0_i32_1993 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1992 : BitVec 32 := 2#32
  let v2060 : BitVec 32 := Scalar.muli v7 c2_i32_1992
  let v2061 : BitVec 32 := Scalar.addi c0_i32_1993 v2060
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1994 : BitVec 32 := 1#32
  let v2062 : BitVec 32 := Scalar.muli v5 c1_i32_1994
  let v2063 : BitVec 32 := Scalar.addi v2061 v2062
  v2063.toNat
def k0_dev47 (d0 : Dev nD) : Nat :=
  let c0_i32_2000 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1999 : BitVec 32 := 2#32
  let v2064 : BitVec 32 := Scalar.muli v2 c2_i32_1999
  let v2065 : BitVec 32 := Scalar.addi c0_i32_2000 v2064
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2001 : BitVec 32 := 1#32
  let v2066 : BitVec 32 := Scalar.muli v6 c1_i32_2001
  let v2067 : BitVec 32 := Scalar.addi v2065 v2066
  v2067.toNat
def k0_dev48 (d0 : Dev nD) : Nat :=
  let c0_i32_2070 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2069 : BitVec 32 := 2#32
  let v2129 : BitVec 32 := Scalar.muli v7 c2_i32_2069
  let v2130 : BitVec 32 := Scalar.addi c0_i32_2070 v2129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2071 : BitVec 32 := 1#32
  let v2131 : BitVec 32 := Scalar.muli v5 c1_i32_2071
  let v2132 : BitVec 32 := Scalar.addi v2130 v2131
  v2132.toNat
def k0_dev49 (d0 : Dev nD) : Nat :=
  let c0_i32_2092 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2091 : BitVec 32 := 2#32
  let v2152 : BitVec 32 := Scalar.muli v2 c2_i32_2091
  let v2153 : BitVec 32 := Scalar.addi c0_i32_2092 v2152
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2093 : BitVec 32 := 1#32
  let v2154 : BitVec 32 := Scalar.muli v6 c1_i32_2093
  let v2155 : BitVec 32 := Scalar.addi v2153 v2154
  v2155.toNat
def k0_dev50 (d0 : Dev nD) : Nat :=
  let c0_i32_2117 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2116 : BitVec 32 := 2#32
  let v2176 : BitVec 32 := Scalar.muli v7 c2_i32_2116
  let v2177 : BitVec 32 := Scalar.addi c0_i32_2117 v2176
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2118 : BitVec 32 := 1#32
  let v2178 : BitVec 32 := Scalar.muli v5 c1_i32_2118
  let v2179 : BitVec 32 := Scalar.addi v2177 v2178
  v2179.toNat
def k0_dev51 (d0 : Dev nD) : Nat :=
  let c0_i32_2124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2123 : BitVec 32 := 2#32
  let v2180 : BitVec 32 := Scalar.muli v2 c2_i32_2123
  let v2181 : BitVec 32 := Scalar.addi c0_i32_2124 v2180
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2125 : BitVec 32 := 1#32
  let v2182 : BitVec 32 := Scalar.muli v6 c1_i32_2125
  let v2183 : BitVec 32 := Scalar.addi v2181 v2182
  v2183.toNat
def k0_dev52 (d0 : Dev nD) : Nat :=
  let c0_i32_2194 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2193 : BitVec 32 := 2#32
  let v2245 : BitVec 32 := Scalar.muli v7 c2_i32_2193
  let v2246 : BitVec 32 := Scalar.addi c0_i32_2194 v2245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2195 : BitVec 32 := 1#32
  let v2247 : BitVec 32 := Scalar.muli v5 c1_i32_2195
  let v2248 : BitVec 32 := Scalar.addi v2246 v2247
  v2248.toNat
def k0_dev53 (d0 : Dev nD) : Nat :=
  let c0_i32_2216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2215 : BitVec 32 := 2#32
  let v2268 : BitVec 32 := Scalar.muli v2 c2_i32_2215
  let v2269 : BitVec 32 := Scalar.addi c0_i32_2216 v2268
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2217 : BitVec 32 := 1#32
  let v2270 : BitVec 32 := Scalar.muli v6 c1_i32_2217
  let v2271 : BitVec 32 := Scalar.addi v2269 v2270
  v2271.toNat
def k0_dev54 (d0 : Dev nD) : Nat :=
  let c0_i32_2241 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2240 : BitVec 32 := 2#32
  let v2292 : BitVec 32 := Scalar.muli v7 c2_i32_2240
  let v2293 : BitVec 32 := Scalar.addi c0_i32_2241 v2292
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2242 : BitVec 32 := 1#32
  let v2294 : BitVec 32 := Scalar.muli v5 c1_i32_2242
  let v2295 : BitVec 32 := Scalar.addi v2293 v2294
  v2295.toNat
def k0_dev55 (d0 : Dev nD) : Nat :=
  let c0_i32_2248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2247 : BitVec 32 := 2#32
  let v2296 : BitVec 32 := Scalar.muli v2 c2_i32_2247
  let v2297 : BitVec 32 := Scalar.addi c0_i32_2248 v2296
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2249 : BitVec 32 := 1#32
  let v2298 : BitVec 32 := Scalar.muli v6 c1_i32_2249
  let v2299 : BitVec 32 := Scalar.addi v2297 v2298
  v2299.toNat
def k0_dev56 (d0 : Dev nD) : Nat :=
  let c0_i32_2318 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2317 : BitVec 32 := 2#32
  let v2361 : BitVec 32 := Scalar.muli v7 c2_i32_2317
  let v2362 : BitVec 32 := Scalar.addi c0_i32_2318 v2361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2319 : BitVec 32 := 1#32
  let v2363 : BitVec 32 := Scalar.muli v5 c1_i32_2319
  let v2364 : BitVec 32 := Scalar.addi v2362 v2363
  v2364.toNat
def k0_dev57 (d0 : Dev nD) : Nat :=
  let c0_i32_2340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2339 : BitVec 32 := 2#32
  let v2384 : BitVec 32 := Scalar.muli v2 c2_i32_2339
  let v2385 : BitVec 32 := Scalar.addi c0_i32_2340 v2384
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2341 : BitVec 32 := 1#32
  let v2386 : BitVec 32 := Scalar.muli v6 c1_i32_2341
  let v2387 : BitVec 32 := Scalar.addi v2385 v2386
  v2387.toNat
def k0_dev58 (d0 : Dev nD) : Nat :=
  let c0_i32_2365 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2364 : BitVec 32 := 2#32
  let v2408 : BitVec 32 := Scalar.muli v7 c2_i32_2364
  let v2409 : BitVec 32 := Scalar.addi c0_i32_2365 v2408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2366 : BitVec 32 := 1#32
  let v2410 : BitVec 32 := Scalar.muli v5 c1_i32_2366
  let v2411 : BitVec 32 := Scalar.addi v2409 v2410
  v2411.toNat
def k0_dev59 (d0 : Dev nD) : Nat :=
  let c0_i32_2372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2371 : BitVec 32 := 2#32
  let v2412 : BitVec 32 := Scalar.muli v2 c2_i32_2371
  let v2413 : BitVec 32 := Scalar.addi c0_i32_2372 v2412
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2373 : BitVec 32 := 1#32
  let v2414 : BitVec 32 := Scalar.muli v6 c1_i32_2373
  let v2415 : BitVec 32 := Scalar.addi v2413 v2414
  v2415.toNat
def k0_dev60 (d0 : Dev nD) : Nat :=
  let c0_i32_2442 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2441 : BitVec 32 := 2#32
  let v2477 : BitVec 32 := Scalar.muli v7 c2_i32_2441
  let v2478 : BitVec 32 := Scalar.addi c0_i32_2442 v2477
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2443 : BitVec 32 := 1#32
  let v2479 : BitVec 32 := Scalar.muli v5 c1_i32_2443
  let v2480 : BitVec 32 := Scalar.addi v2478 v2479
  v2480.toNat
def k0_dev61 (d0 : Dev nD) : Nat :=
  let c0_i32_2464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2463 : BitVec 32 := 2#32
  let v2500 : BitVec 32 := Scalar.muli v2 c2_i32_2463
  let v2501 : BitVec 32 := Scalar.addi c0_i32_2464 v2500
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2465 : BitVec 32 := 1#32
  let v2502 : BitVec 32 := Scalar.muli v6 c1_i32_2465
  let v2503 : BitVec 32 := Scalar.addi v2501 v2502
  v2503.toNat
def k0_dev62 (d0 : Dev nD) : Nat :=
  let c0_i32_2489 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2488 : BitVec 32 := 2#32
  let v2524 : BitVec 32 := Scalar.muli v7 c2_i32_2488
  let v2525 : BitVec 32 := Scalar.addi c0_i32_2489 v2524
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2490 : BitVec 32 := 1#32
  let v2526 : BitVec 32 := Scalar.muli v5 c1_i32_2490
  let v2527 : BitVec 32 := Scalar.addi v2525 v2526
  v2527.toNat
def k0_dev63 (d0 : Dev nD) : Nat :=
  let c0_i32_2496 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2495 : BitVec 32 := 2#32
  let v2528 : BitVec 32 := Scalar.muli v2 c2_i32_2495
  let v2529 : BitVec 32 := Scalar.addi c0_i32_2496 v2528
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2497 : BitVec 32 := 1#32
  let v2530 : BitVec 32 := Scalar.muli v6 c1_i32_2497
  let v2531 : BitVec 32 := Scalar.addi v2529 v2530
  v2531.toNat
def k0_dev64 (d0 : Dev nD) : Nat :=
  let c0_i32_2566 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2565 : BitVec 32 := 2#32
  let v2593 : BitVec 32 := Scalar.muli v7 c2_i32_2565
  let v2594 : BitVec 32 := Scalar.addi c0_i32_2566 v2593
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2567 : BitVec 32 := 1#32
  let v2595 : BitVec 32 := Scalar.muli v5 c1_i32_2567
  let v2596 : BitVec 32 := Scalar.addi v2594 v2595
  v2596.toNat
def k0_dev65 (d0 : Dev nD) : Nat :=
  let c0_i32_2588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2587 : BitVec 32 := 2#32
  let v2616 : BitVec 32 := Scalar.muli v2 c2_i32_2587
  let v2617 : BitVec 32 := Scalar.addi c0_i32_2588 v2616
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2589 : BitVec 32 := 1#32
  let v2618 : BitVec 32 := Scalar.muli v6 c1_i32_2589
  let v2619 : BitVec 32 := Scalar.addi v2617 v2618
  v2619.toNat
def k0_dev66 (d0 : Dev nD) : Nat :=
  let c0_i32_2613 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2612 : BitVec 32 := 2#32
  let v2640 : BitVec 32 := Scalar.muli v7 c2_i32_2612
  let v2641 : BitVec 32 := Scalar.addi c0_i32_2613 v2640
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2614 : BitVec 32 := 1#32
  let v2642 : BitVec 32 := Scalar.muli v5 c1_i32_2614
  let v2643 : BitVec 32 := Scalar.addi v2641 v2642
  v2643.toNat
def k0_dev67 (d0 : Dev nD) : Nat :=
  let c0_i32_2620 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2619 : BitVec 32 := 2#32
  let v2644 : BitVec 32 := Scalar.muli v2 c2_i32_2619
  let v2645 : BitVec 32 := Scalar.addi c0_i32_2620 v2644
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2621 : BitVec 32 := 1#32
  let v2646 : BitVec 32 := Scalar.muli v6 c1_i32_2621
  let v2647 : BitVec 32 := Scalar.addi v2645 v2646
  v2647.toNat
def k0_dev68 (d0 : Dev nD) : Nat :=
  let c0_i32_2690 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2689 : BitVec 32 := 2#32
  let v2709 : BitVec 32 := Scalar.muli v7 c2_i32_2689
  let v2710 : BitVec 32 := Scalar.addi c0_i32_2690 v2709
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2691 : BitVec 32 := 1#32
  let v2711 : BitVec 32 := Scalar.muli v5 c1_i32_2691
  let v2712 : BitVec 32 := Scalar.addi v2710 v2711
  v2712.toNat
def k0_dev69 (d0 : Dev nD) : Nat :=
  let c0_i32_2712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2711 : BitVec 32 := 2#32
  let v2732 : BitVec 32 := Scalar.muli v2 c2_i32_2711
  let v2733 : BitVec 32 := Scalar.addi c0_i32_2712 v2732
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2713 : BitVec 32 := 1#32
  let v2734 : BitVec 32 := Scalar.muli v6 c1_i32_2713
  let v2735 : BitVec 32 := Scalar.addi v2733 v2734
  v2735.toNat
def k0_dev70 (d0 : Dev nD) : Nat :=
  let c0_i32_2737 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2736 : BitVec 32 := 2#32
  let v2756 : BitVec 32 := Scalar.muli v7 c2_i32_2736
  let v2757 : BitVec 32 := Scalar.addi c0_i32_2737 v2756
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2738 : BitVec 32 := 1#32
  let v2758 : BitVec 32 := Scalar.muli v5 c1_i32_2738
  let v2759 : BitVec 32 := Scalar.addi v2757 v2758
  v2759.toNat
def k0_dev71 (d0 : Dev nD) : Nat :=
  let c0_i32_2744 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2743 : BitVec 32 := 2#32
  let v2760 : BitVec 32 := Scalar.muli v2 c2_i32_2743
  let v2761 : BitVec 32 := Scalar.addi c0_i32_2744 v2760
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2745 : BitVec 32 := 1#32
  let v2762 : BitVec 32 := Scalar.muli v6 c1_i32_2745
  let v2763 : BitVec 32 := Scalar.addi v2761 v2762
  v2763.toNat
def k0_dev72 (d0 : Dev nD) : Nat :=
  let c0_i32_2814 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2813 : BitVec 32 := 2#32
  let v2825 : BitVec 32 := Scalar.muli v7 c2_i32_2813
  let v2826 : BitVec 32 := Scalar.addi c0_i32_2814 v2825
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2815 : BitVec 32 := 1#32
  let v2827 : BitVec 32 := Scalar.muli v5 c1_i32_2815
  let v2828 : BitVec 32 := Scalar.addi v2826 v2827
  v2828.toNat
def k0_dev73 (d0 : Dev nD) : Nat :=
  let c0_i32_2836 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2835 : BitVec 32 := 2#32
  let v2848 : BitVec 32 := Scalar.muli v2 c2_i32_2835
  let v2849 : BitVec 32 := Scalar.addi c0_i32_2836 v2848
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2837 : BitVec 32 := 1#32
  let v2850 : BitVec 32 := Scalar.muli v6 c1_i32_2837
  let v2851 : BitVec 32 := Scalar.addi v2849 v2850
  v2851.toNat
def k0_dev74 (d0 : Dev nD) : Nat :=
  let c0_i32_2861 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2860 : BitVec 32 := 2#32
  let v2872 : BitVec 32 := Scalar.muli v7 c2_i32_2860
  let v2873 : BitVec 32 := Scalar.addi c0_i32_2861 v2872
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2862 : BitVec 32 := 1#32
  let v2874 : BitVec 32 := Scalar.muli v5 c1_i32_2862
  let v2875 : BitVec 32 := Scalar.addi v2873 v2874
  v2875.toNat
def k0_dev75 (d0 : Dev nD) : Nat :=
  let c0_i32_2868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2867 : BitVec 32 := 2#32
  let v2876 : BitVec 32 := Scalar.muli v2 c2_i32_2867
  let v2877 : BitVec 32 := Scalar.addi c0_i32_2868 v2876
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2869 : BitVec 32 := 1#32
  let v2878 : BitVec 32 := Scalar.muli v6 c1_i32_2869
  let v2879 : BitVec 32 := Scalar.addi v2877 v2878
  v2879.toNat
def k0_dev76 (d0 : Dev nD) : Nat :=
  let c0_i32_2938 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2937 : BitVec 32 := 2#32
  let v2941 : BitVec 32 := Scalar.muli v7 c2_i32_2937
  let v2942 : BitVec 32 := Scalar.addi c0_i32_2938 v2941
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2939 : BitVec 32 := 1#32
  let v2943 : BitVec 32 := Scalar.muli v5 c1_i32_2939
  let v2944 : BitVec 32 := Scalar.addi v2942 v2943
  v2944.toNat
def k0_dev77 (d0 : Dev nD) : Nat :=
  let c0_i32_2960 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2959 : BitVec 32 := 2#32
  let v2964 : BitVec 32 := Scalar.muli v2 c2_i32_2959
  let v2965 : BitVec 32 := Scalar.addi c0_i32_2960 v2964
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2961 : BitVec 32 := 1#32
  let v2966 : BitVec 32 := Scalar.muli v6 c1_i32_2961
  let v2967 : BitVec 32 := Scalar.addi v2965 v2966
  v2967.toNat
def k0_dev78 (d0 : Dev nD) : Nat :=
  let c0_i32_2985 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2984 : BitVec 32 := 2#32
  let v2988 : BitVec 32 := Scalar.muli v7 c2_i32_2984
  let v2989 : BitVec 32 := Scalar.addi c0_i32_2985 v2988
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2986 : BitVec 32 := 1#32
  let v2990 : BitVec 32 := Scalar.muli v5 c1_i32_2986
  let v2991 : BitVec 32 := Scalar.addi v2989 v2990
  v2991.toNat
def k0_dev79 (d0 : Dev nD) : Nat :=
  let c0_i32_2992 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2991 : BitVec 32 := 2#32
  let v2992 : BitVec 32 := Scalar.muli v2 c2_i32_2991
  let v2993 : BitVec 32 := Scalar.addi c0_i32_2992 v2992
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2993 : BitVec 32 := 1#32
  let v2994 : BitVec 32 := Scalar.muli v6 c1_i32_2993
  let v2995 : BitVec 32 := Scalar.addi v2993 v2994
  v2995.toNat
def k0_dev80 (d0 : Dev nD) : Nat :=
  let c0_i32_3062 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3061 : BitVec 32 := 2#32
  let v3057 : BitVec 32 := Scalar.muli v7 c2_i32_3061
  let v3058 : BitVec 32 := Scalar.addi c0_i32_3062 v3057
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3063 : BitVec 32 := 1#32
  let v3059 : BitVec 32 := Scalar.muli v5 c1_i32_3063
  let v3060 : BitVec 32 := Scalar.addi v3058 v3059
  v3060.toNat
def k0_dev81 (d0 : Dev nD) : Nat :=
  let c0_i32_3084 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3083 : BitVec 32 := 2#32
  let v3080 : BitVec 32 := Scalar.muli v2 c2_i32_3083
  let v3081 : BitVec 32 := Scalar.addi c0_i32_3084 v3080
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3085 : BitVec 32 := 1#32
  let v3082 : BitVec 32 := Scalar.muli v6 c1_i32_3085
  let v3083 : BitVec 32 := Scalar.addi v3081 v3082
  v3083.toNat
def k0_dev82 (d0 : Dev nD) : Nat :=
  let c0_i32_3109 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3108 : BitVec 32 := 2#32
  let v3104 : BitVec 32 := Scalar.muli v7 c2_i32_3108
  let v3105 : BitVec 32 := Scalar.addi c0_i32_3109 v3104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3110 : BitVec 32 := 1#32
  let v3106 : BitVec 32 := Scalar.muli v5 c1_i32_3110
  let v3107 : BitVec 32 := Scalar.addi v3105 v3106
  v3107.toNat
def k0_dev83 (d0 : Dev nD) : Nat :=
  let c0_i32_3116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3115 : BitVec 32 := 2#32
  let v3108 : BitVec 32 := Scalar.muli v2 c2_i32_3115
  let v3109 : BitVec 32 := Scalar.addi c0_i32_3116 v3108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3117 : BitVec 32 := 1#32
  let v3110 : BitVec 32 := Scalar.muli v6 c1_i32_3117
  let v3111 : BitVec 32 := Scalar.addi v3109 v3110
  v3111.toNat
def k0_dev84 (d0 : Dev nD) : Nat :=
  let c0_i32_3186 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3185 : BitVec 32 := 2#32
  let v3173 : BitVec 32 := Scalar.muli v7 c2_i32_3185
  let v3174 : BitVec 32 := Scalar.addi c0_i32_3186 v3173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3187 : BitVec 32 := 1#32
  let v3175 : BitVec 32 := Scalar.muli v5 c1_i32_3187
  let v3176 : BitVec 32 := Scalar.addi v3174 v3175
  v3176.toNat
def k0_dev85 (d0 : Dev nD) : Nat :=
  let c0_i32_3208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3207 : BitVec 32 := 2#32
  let v3196 : BitVec 32 := Scalar.muli v2 c2_i32_3207
  let v3197 : BitVec 32 := Scalar.addi c0_i32_3208 v3196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3209 : BitVec 32 := 1#32
  let v3198 : BitVec 32 := Scalar.muli v6 c1_i32_3209
  let v3199 : BitVec 32 := Scalar.addi v3197 v3198
  v3199.toNat
def k0_dev86 (d0 : Dev nD) : Nat :=
  let c0_i32_3233 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3232 : BitVec 32 := 2#32
  let v3220 : BitVec 32 := Scalar.muli v7 c2_i32_3232
  let v3221 : BitVec 32 := Scalar.addi c0_i32_3233 v3220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3234 : BitVec 32 := 1#32
  let v3222 : BitVec 32 := Scalar.muli v5 c1_i32_3234
  let v3223 : BitVec 32 := Scalar.addi v3221 v3222
  v3223.toNat
def k0_dev87 (d0 : Dev nD) : Nat :=
  let c0_i32_3240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3239 : BitVec 32 := 2#32
  let v3224 : BitVec 32 := Scalar.muli v2 c2_i32_3239
  let v3225 : BitVec 32 := Scalar.addi c0_i32_3240 v3224
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3241 : BitVec 32 := 1#32
  let v3226 : BitVec 32 := Scalar.muli v6 c1_i32_3241
  let v3227 : BitVec 32 := Scalar.addi v3225 v3226
  v3227.toNat
def k0_dev88 (d0 : Dev nD) : Nat :=
  let c0_i32_3310 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3309 : BitVec 32 := 2#32
  let v3289 : BitVec 32 := Scalar.muli v7 c2_i32_3309
  let v3290 : BitVec 32 := Scalar.addi c0_i32_3310 v3289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3311 : BitVec 32 := 1#32
  let v3291 : BitVec 32 := Scalar.muli v5 c1_i32_3311
  let v3292 : BitVec 32 := Scalar.addi v3290 v3291
  v3292.toNat
def k0_dev89 (d0 : Dev nD) : Nat :=
  let c0_i32_3332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3331 : BitVec 32 := 2#32
  let v3312 : BitVec 32 := Scalar.muli v2 c2_i32_3331
  let v3313 : BitVec 32 := Scalar.addi c0_i32_3332 v3312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3333 : BitVec 32 := 1#32
  let v3314 : BitVec 32 := Scalar.muli v6 c1_i32_3333
  let v3315 : BitVec 32 := Scalar.addi v3313 v3314
  v3315.toNat
def k0_dev90 (d0 : Dev nD) : Nat :=
  let c0_i32_3357 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3356 : BitVec 32 := 2#32
  let v3336 : BitVec 32 := Scalar.muli v7 c2_i32_3356
  let v3337 : BitVec 32 := Scalar.addi c0_i32_3357 v3336
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3358 : BitVec 32 := 1#32
  let v3338 : BitVec 32 := Scalar.muli v5 c1_i32_3358
  let v3339 : BitVec 32 := Scalar.addi v3337 v3338
  v3339.toNat
def k0_dev91 (d0 : Dev nD) : Nat :=
  let c0_i32_3364 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3363 : BitVec 32 := 2#32
  let v3340 : BitVec 32 := Scalar.muli v2 c2_i32_3363
  let v3341 : BitVec 32 := Scalar.addi c0_i32_3364 v3340
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3365 : BitVec 32 := 1#32
  let v3342 : BitVec 32 := Scalar.muli v6 c1_i32_3365
  let v3343 : BitVec 32 := Scalar.addi v3341 v3342
  v3343.toNat
def k0_dev92 (d0 : Dev nD) : Nat :=
  let c0_i32_3434 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3433 : BitVec 32 := 2#32
  let v3405 : BitVec 32 := Scalar.muli v7 c2_i32_3433
  let v3406 : BitVec 32 := Scalar.addi c0_i32_3434 v3405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3435 : BitVec 32 := 1#32
  let v3407 : BitVec 32 := Scalar.muli v5 c1_i32_3435
  let v3408 : BitVec 32 := Scalar.addi v3406 v3407
  v3408.toNat
def k0_dev93 (d0 : Dev nD) : Nat :=
  let c0_i32_3456 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3455 : BitVec 32 := 2#32
  let v3428 : BitVec 32 := Scalar.muli v2 c2_i32_3455
  let v3429 : BitVec 32 := Scalar.addi c0_i32_3456 v3428
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3457 : BitVec 32 := 1#32
  let v3430 : BitVec 32 := Scalar.muli v6 c1_i32_3457
  let v3431 : BitVec 32 := Scalar.addi v3429 v3430
  v3431.toNat
def k0_dev94 (d0 : Dev nD) : Nat :=
  let c0_i32_3481 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3480 : BitVec 32 := 2#32
  let v3452 : BitVec 32 := Scalar.muli v7 c2_i32_3480
  let v3453 : BitVec 32 := Scalar.addi c0_i32_3481 v3452
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3482 : BitVec 32 := 1#32
  let v3454 : BitVec 32 := Scalar.muli v5 c1_i32_3482
  let v3455 : BitVec 32 := Scalar.addi v3453 v3454
  v3455.toNat
def k0_dev95 (d0 : Dev nD) : Nat :=
  let c0_i32_3488 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3487 : BitVec 32 := 2#32
  let v3456 : BitVec 32 := Scalar.muli v2 c2_i32_3487
  let v3457 : BitVec 32 := Scalar.addi c0_i32_3488 v3456
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3489 : BitVec 32 := 1#32
  let v3458 : BitVec 32 := Scalar.muli v6 c1_i32_3489
  let v3459 : BitVec 32 := Scalar.addi v3457 v3458
  v3459.toNat
def k0_dev96 (d0 : Dev nD) : Nat :=
  let c0_i32_3558 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3557 : BitVec 32 := 2#32
  let v3521 : BitVec 32 := Scalar.muli v7 c2_i32_3557
  let v3522 : BitVec 32 := Scalar.addi c0_i32_3558 v3521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3559 : BitVec 32 := 1#32
  let v3523 : BitVec 32 := Scalar.muli v5 c1_i32_3559
  let v3524 : BitVec 32 := Scalar.addi v3522 v3523
  v3524.toNat
def k0_dev97 (d0 : Dev nD) : Nat :=
  let c0_i32_3580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3579 : BitVec 32 := 2#32
  let v3544 : BitVec 32 := Scalar.muli v2 c2_i32_3579
  let v3545 : BitVec 32 := Scalar.addi c0_i32_3580 v3544
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3581 : BitVec 32 := 1#32
  let v3546 : BitVec 32 := Scalar.muli v6 c1_i32_3581
  let v3547 : BitVec 32 := Scalar.addi v3545 v3546
  v3547.toNat
def k0_dev98 (d0 : Dev nD) : Nat :=
  let c0_i32_3605 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3604 : BitVec 32 := 2#32
  let v3568 : BitVec 32 := Scalar.muli v7 c2_i32_3604
  let v3569 : BitVec 32 := Scalar.addi c0_i32_3605 v3568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3606 : BitVec 32 := 1#32
  let v3570 : BitVec 32 := Scalar.muli v5 c1_i32_3606
  let v3571 : BitVec 32 := Scalar.addi v3569 v3570
  v3571.toNat
def k0_dev99 (d0 : Dev nD) : Nat :=
  let c0_i32_3612 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3611 : BitVec 32 := 2#32
  let v3572 : BitVec 32 := Scalar.muli v2 c2_i32_3611
  let v3573 : BitVec 32 := Scalar.addi c0_i32_3612 v3572
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3613 : BitVec 32 := 1#32
  let v3574 : BitVec 32 := Scalar.muli v6 c1_i32_3613
  let v3575 : BitVec 32 := Scalar.addi v3573 v3574
  v3575.toNat
def k0_dev100 (d0 : Dev nD) : Nat :=
  let c0_i32_3682 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3681 : BitVec 32 := 2#32
  let v3637 : BitVec 32 := Scalar.muli v7 c2_i32_3681
  let v3638 : BitVec 32 := Scalar.addi c0_i32_3682 v3637
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3683 : BitVec 32 := 1#32
  let v3639 : BitVec 32 := Scalar.muli v5 c1_i32_3683
  let v3640 : BitVec 32 := Scalar.addi v3638 v3639
  v3640.toNat
def k0_dev101 (d0 : Dev nD) : Nat :=
  let c0_i32_3704 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3703 : BitVec 32 := 2#32
  let v3660 : BitVec 32 := Scalar.muli v2 c2_i32_3703
  let v3661 : BitVec 32 := Scalar.addi c0_i32_3704 v3660
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3705 : BitVec 32 := 1#32
  let v3662 : BitVec 32 := Scalar.muli v6 c1_i32_3705
  let v3663 : BitVec 32 := Scalar.addi v3661 v3662
  v3663.toNat
def k0_dev102 (d0 : Dev nD) : Nat :=
  let c0_i32_3729 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3728 : BitVec 32 := 2#32
  let v3684 : BitVec 32 := Scalar.muli v7 c2_i32_3728
  let v3685 : BitVec 32 := Scalar.addi c0_i32_3729 v3684
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3730 : BitVec 32 := 1#32
  let v3686 : BitVec 32 := Scalar.muli v5 c1_i32_3730
  let v3687 : BitVec 32 := Scalar.addi v3685 v3686
  v3687.toNat
def k0_dev103 (d0 : Dev nD) : Nat :=
  let c0_i32_3736 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3735 : BitVec 32 := 2#32
  let v3688 : BitVec 32 := Scalar.muli v2 c2_i32_3735
  let v3689 : BitVec 32 := Scalar.addi c0_i32_3736 v3688
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3737 : BitVec 32 := 1#32
  let v3690 : BitVec 32 := Scalar.muli v6 c1_i32_3737
  let v3691 : BitVec 32 := Scalar.addi v3689 v3690
  v3691.toNat
def k0_dev104 (d0 : Dev nD) : Nat :=
  let c0_i32_3806 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3805 : BitVec 32 := 2#32
  let v3753 : BitVec 32 := Scalar.muli v7 c2_i32_3805
  let v3754 : BitVec 32 := Scalar.addi c0_i32_3806 v3753
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3807 : BitVec 32 := 1#32
  let v3755 : BitVec 32 := Scalar.muli v5 c1_i32_3807
  let v3756 : BitVec 32 := Scalar.addi v3754 v3755
  v3756.toNat
def k0_dev105 (d0 : Dev nD) : Nat :=
  let c0_i32_3828 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3827 : BitVec 32 := 2#32
  let v3776 : BitVec 32 := Scalar.muli v2 c2_i32_3827
  let v3777 : BitVec 32 := Scalar.addi c0_i32_3828 v3776
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3829 : BitVec 32 := 1#32
  let v3778 : BitVec 32 := Scalar.muli v6 c1_i32_3829
  let v3779 : BitVec 32 := Scalar.addi v3777 v3778
  v3779.toNat
def k0_dev106 (d0 : Dev nD) : Nat :=
  let c0_i32_3853 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3852 : BitVec 32 := 2#32
  let v3800 : BitVec 32 := Scalar.muli v7 c2_i32_3852
  let v3801 : BitVec 32 := Scalar.addi c0_i32_3853 v3800
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3854 : BitVec 32 := 1#32
  let v3802 : BitVec 32 := Scalar.muli v5 c1_i32_3854
  let v3803 : BitVec 32 := Scalar.addi v3801 v3802
  v3803.toNat
def k0_dev107 (d0 : Dev nD) : Nat :=
  let c0_i32_3860 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3859 : BitVec 32 := 2#32
  let v3804 : BitVec 32 := Scalar.muli v2 c2_i32_3859
  let v3805 : BitVec 32 := Scalar.addi c0_i32_3860 v3804
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3861 : BitVec 32 := 1#32
  let v3806 : BitVec 32 := Scalar.muli v6 c1_i32_3861
  let v3807 : BitVec 32 := Scalar.addi v3805 v3806
  v3807.toNat
def k0_dev108 (d0 : Dev nD) : Nat :=
  let c0_i32_3930 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3929 : BitVec 32 := 2#32
  let v3869 : BitVec 32 := Scalar.muli v7 c2_i32_3929
  let v3870 : BitVec 32 := Scalar.addi c0_i32_3930 v3869
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3931 : BitVec 32 := 1#32
  let v3871 : BitVec 32 := Scalar.muli v5 c1_i32_3931
  let v3872 : BitVec 32 := Scalar.addi v3870 v3871
  v3872.toNat
def k0_dev109 (d0 : Dev nD) : Nat :=
  let c0_i32_3952 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3951 : BitVec 32 := 2#32
  let v3892 : BitVec 32 := Scalar.muli v2 c2_i32_3951
  let v3893 : BitVec 32 := Scalar.addi c0_i32_3952 v3892
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3953 : BitVec 32 := 1#32
  let v3894 : BitVec 32 := Scalar.muli v6 c1_i32_3953
  let v3895 : BitVec 32 := Scalar.addi v3893 v3894
  v3895.toNat
def k0_dev110 (d0 : Dev nD) : Nat :=
  let c0_i32_3977 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3976 : BitVec 32 := 2#32
  let v3916 : BitVec 32 := Scalar.muli v7 c2_i32_3976
  let v3917 : BitVec 32 := Scalar.addi c0_i32_3977 v3916
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3978 : BitVec 32 := 1#32
  let v3918 : BitVec 32 := Scalar.muli v5 c1_i32_3978
  let v3919 : BitVec 32 := Scalar.addi v3917 v3918
  v3919.toNat
def k0_dev111 (d0 : Dev nD) : Nat :=
  let c0_i32_3984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3983 : BitVec 32 := 2#32
  let v3920 : BitVec 32 := Scalar.muli v2 c2_i32_3983
  let v3921 : BitVec 32 := Scalar.addi c0_i32_3984 v3920
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3985 : BitVec 32 := 1#32
  let v3922 : BitVec 32 := Scalar.muli v6 c1_i32_3985
  let v3923 : BitVec 32 := Scalar.addi v3921 v3922
  v3923.toNat
def k0_dev112 (d0 : Dev nD) : Nat :=
  let c0_i32_4054 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4053 : BitVec 32 := 2#32
  let v3985 : BitVec 32 := Scalar.muli v7 c2_i32_4053
  let v3986 : BitVec 32 := Scalar.addi c0_i32_4054 v3985
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4055 : BitVec 32 := 1#32
  let v3987 : BitVec 32 := Scalar.muli v5 c1_i32_4055
  let v3988 : BitVec 32 := Scalar.addi v3986 v3987
  v3988.toNat
def k0_dev113 (d0 : Dev nD) : Nat :=
  let c0_i32_4076 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4075 : BitVec 32 := 2#32
  let v4008 : BitVec 32 := Scalar.muli v2 c2_i32_4075
  let v4009 : BitVec 32 := Scalar.addi c0_i32_4076 v4008
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4077 : BitVec 32 := 1#32
  let v4010 : BitVec 32 := Scalar.muli v6 c1_i32_4077
  let v4011 : BitVec 32 := Scalar.addi v4009 v4010
  v4011.toNat
def k0_dev114 (d0 : Dev nD) : Nat :=
  let c0_i32_4101 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4100 : BitVec 32 := 2#32
  let v4032 : BitVec 32 := Scalar.muli v7 c2_i32_4100
  let v4033 : BitVec 32 := Scalar.addi c0_i32_4101 v4032
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4102 : BitVec 32 := 1#32
  let v4034 : BitVec 32 := Scalar.muli v5 c1_i32_4102
  let v4035 : BitVec 32 := Scalar.addi v4033 v4034
  v4035.toNat
def k0_dev115 (d0 : Dev nD) : Nat :=
  let c0_i32_4108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4107 : BitVec 32 := 2#32
  let v4036 : BitVec 32 := Scalar.muli v2 c2_i32_4107
  let v4037 : BitVec 32 := Scalar.addi c0_i32_4108 v4036
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4109 : BitVec 32 := 1#32
  let v4038 : BitVec 32 := Scalar.muli v6 c1_i32_4109
  let v4039 : BitVec 32 := Scalar.addi v4037 v4038
  v4039.toNat
def k0_dev116 (d0 : Dev nD) : Nat :=
  let c0_i32_4178 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4177 : BitVec 32 := 2#32
  let v4101 : BitVec 32 := Scalar.muli v7 c2_i32_4177
  let v4102 : BitVec 32 := Scalar.addi c0_i32_4178 v4101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4179 : BitVec 32 := 1#32
  let v4103 : BitVec 32 := Scalar.muli v5 c1_i32_4179
  let v4104 : BitVec 32 := Scalar.addi v4102 v4103
  v4104.toNat
def k0_dev117 (d0 : Dev nD) : Nat :=
  let c0_i32_4200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4199 : BitVec 32 := 2#32
  let v4124 : BitVec 32 := Scalar.muli v2 c2_i32_4199
  let v4125 : BitVec 32 := Scalar.addi c0_i32_4200 v4124
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4201 : BitVec 32 := 1#32
  let v4126 : BitVec 32 := Scalar.muli v6 c1_i32_4201
  let v4127 : BitVec 32 := Scalar.addi v4125 v4126
  v4127.toNat
def k0_dev118 (d0 : Dev nD) : Nat :=
  let c0_i32_4225 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4224 : BitVec 32 := 2#32
  let v4148 : BitVec 32 := Scalar.muli v7 c2_i32_4224
  let v4149 : BitVec 32 := Scalar.addi c0_i32_4225 v4148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4226 : BitVec 32 := 1#32
  let v4150 : BitVec 32 := Scalar.muli v5 c1_i32_4226
  let v4151 : BitVec 32 := Scalar.addi v4149 v4150
  v4151.toNat
def k0_dev119 (d0 : Dev nD) : Nat :=
  let c0_i32_4232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4231 : BitVec 32 := 2#32
  let v4152 : BitVec 32 := Scalar.muli v2 c2_i32_4231
  let v4153 : BitVec 32 := Scalar.addi c0_i32_4232 v4152
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4233 : BitVec 32 := 1#32
  let v4154 : BitVec 32 := Scalar.muli v6 c1_i32_4233
  let v4155 : BitVec 32 := Scalar.addi v4153 v4154
  v4155.toNat
def k0_dev120 (d0 : Dev nD) : Nat :=
  let c0_i32_4302 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4301 : BitVec 32 := 2#32
  let v4217 : BitVec 32 := Scalar.muli v7 c2_i32_4301
  let v4218 : BitVec 32 := Scalar.addi c0_i32_4302 v4217
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4303 : BitVec 32 := 1#32
  let v4219 : BitVec 32 := Scalar.muli v5 c1_i32_4303
  let v4220 : BitVec 32 := Scalar.addi v4218 v4219
  v4220.toNat
def k0_dev121 (d0 : Dev nD) : Nat :=
  let c0_i32_4324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4323 : BitVec 32 := 2#32
  let v4240 : BitVec 32 := Scalar.muli v2 c2_i32_4323
  let v4241 : BitVec 32 := Scalar.addi c0_i32_4324 v4240
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4325 : BitVec 32 := 1#32
  let v4242 : BitVec 32 := Scalar.muli v6 c1_i32_4325
  let v4243 : BitVec 32 := Scalar.addi v4241 v4242
  v4243.toNat
def k0_dev122 (d0 : Dev nD) : Nat :=
  let c0_i32_4349 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4348 : BitVec 32 := 2#32
  let v4264 : BitVec 32 := Scalar.muli v7 c2_i32_4348
  let v4265 : BitVec 32 := Scalar.addi c0_i32_4349 v4264
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4350 : BitVec 32 := 1#32
  let v4266 : BitVec 32 := Scalar.muli v5 c1_i32_4350
  let v4267 : BitVec 32 := Scalar.addi v4265 v4266
  v4267.toNat
def k0_dev123 (d0 : Dev nD) : Nat :=
  let c0_i32_4356 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4355 : BitVec 32 := 2#32
  let v4268 : BitVec 32 := Scalar.muli v2 c2_i32_4355
  let v4269 : BitVec 32 := Scalar.addi c0_i32_4356 v4268
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4357 : BitVec 32 := 1#32
  let v4270 : BitVec 32 := Scalar.muli v6 c1_i32_4357
  let v4271 : BitVec 32 := Scalar.addi v4269 v4270
  v4271.toNat
def k0_dev124 (d0 : Dev nD) : Nat :=
  let c0_i32_4426 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4425 : BitVec 32 := 2#32
  let v4333 : BitVec 32 := Scalar.muli v7 c2_i32_4425
  let v4334 : BitVec 32 := Scalar.addi c0_i32_4426 v4333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4427 : BitVec 32 := 1#32
  let v4335 : BitVec 32 := Scalar.muli v5 c1_i32_4427
  let v4336 : BitVec 32 := Scalar.addi v4334 v4335
  v4336.toNat
def k0_dev125 (d0 : Dev nD) : Nat :=
  let c0_i32_4448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4447 : BitVec 32 := 2#32
  let v4356 : BitVec 32 := Scalar.muli v2 c2_i32_4447
  let v4357 : BitVec 32 := Scalar.addi c0_i32_4448 v4356
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4449 : BitVec 32 := 1#32
  let v4358 : BitVec 32 := Scalar.muli v6 c1_i32_4449
  let v4359 : BitVec 32 := Scalar.addi v4357 v4358
  v4359.toNat
def k0_dev126 (d0 : Dev nD) : Nat :=
  let c0_i32_4473 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4472 : BitVec 32 := 2#32
  let v4380 : BitVec 32 := Scalar.muli v7 c2_i32_4472
  let v4381 : BitVec 32 := Scalar.addi c0_i32_4473 v4380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4474 : BitVec 32 := 1#32
  let v4382 : BitVec 32 := Scalar.muli v5 c1_i32_4474
  let v4383 : BitVec 32 := Scalar.addi v4381 v4382
  v4383.toNat
def k0_dev127 (d0 : Dev nD) : Nat :=
  let c0_i32_4480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4479 : BitVec 32 := 2#32
  let v4384 : BitVec 32 := Scalar.muli v2 c2_i32_4479
  let v4385 : BitVec 32 := Scalar.addi c0_i32_4480 v4384
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4481 : BitVec 32 := 1#32
  let v4386 : BitVec 32 := Scalar.muli v6 c1_i32_4481
  let v4387 : BitVec 32 := Scalar.addi v4385 v4386
  v4387.toNat
def k0_dev128 (d0 : Dev nD) : Nat :=
  let c0_i32_4550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4549 : BitVec 32 := 2#32
  let v4449 : BitVec 32 := Scalar.muli v7 c2_i32_4549
  let v4450 : BitVec 32 := Scalar.addi c0_i32_4550 v4449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4551 : BitVec 32 := 1#32
  let v4451 : BitVec 32 := Scalar.muli v5 c1_i32_4551
  let v4452 : BitVec 32 := Scalar.addi v4450 v4451
  v4452.toNat
def k0_dev129 (d0 : Dev nD) : Nat :=
  let c0_i32_4572 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4571 : BitVec 32 := 2#32
  let v4472 : BitVec 32 := Scalar.muli v2 c2_i32_4571
  let v4473 : BitVec 32 := Scalar.addi c0_i32_4572 v4472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4573 : BitVec 32 := 1#32
  let v4474 : BitVec 32 := Scalar.muli v6 c1_i32_4573
  let v4475 : BitVec 32 := Scalar.addi v4473 v4474
  v4475.toNat
def k0_dev130 (d0 : Dev nD) : Nat :=
  let c0_i32_4597 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4596 : BitVec 32 := 2#32
  let v4496 : BitVec 32 := Scalar.muli v7 c2_i32_4596
  let v4497 : BitVec 32 := Scalar.addi c0_i32_4597 v4496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4598 : BitVec 32 := 1#32
  let v4498 : BitVec 32 := Scalar.muli v5 c1_i32_4598
  let v4499 : BitVec 32 := Scalar.addi v4497 v4498
  v4499.toNat
def k0_dev131 (d0 : Dev nD) : Nat :=
  let c0_i32_4604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4603 : BitVec 32 := 2#32
  let v4500 : BitVec 32 := Scalar.muli v2 c2_i32_4603
  let v4501 : BitVec 32 := Scalar.addi c0_i32_4604 v4500
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4605 : BitVec 32 := 1#32
  let v4502 : BitVec 32 := Scalar.muli v6 c1_i32_4605
  let v4503 : BitVec 32 := Scalar.addi v4501 v4502
  v4503.toNat
def k0_dev132 (d0 : Dev nD) : Nat :=
  let c0_i32_4674 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4673 : BitVec 32 := 2#32
  let v4565 : BitVec 32 := Scalar.muli v7 c2_i32_4673
  let v4566 : BitVec 32 := Scalar.addi c0_i32_4674 v4565
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4675 : BitVec 32 := 1#32
  let v4567 : BitVec 32 := Scalar.muli v5 c1_i32_4675
  let v4568 : BitVec 32 := Scalar.addi v4566 v4567
  v4568.toNat
def k0_dev133 (d0 : Dev nD) : Nat :=
  let c0_i32_4696 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4695 : BitVec 32 := 2#32
  let v4588 : BitVec 32 := Scalar.muli v2 c2_i32_4695
  let v4589 : BitVec 32 := Scalar.addi c0_i32_4696 v4588
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4697 : BitVec 32 := 1#32
  let v4590 : BitVec 32 := Scalar.muli v6 c1_i32_4697
  let v4591 : BitVec 32 := Scalar.addi v4589 v4590
  v4591.toNat
def k0_dev134 (d0 : Dev nD) : Nat :=
  let c0_i32_4721 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4720 : BitVec 32 := 2#32
  let v4612 : BitVec 32 := Scalar.muli v7 c2_i32_4720
  let v4613 : BitVec 32 := Scalar.addi c0_i32_4721 v4612
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4722 : BitVec 32 := 1#32
  let v4614 : BitVec 32 := Scalar.muli v5 c1_i32_4722
  let v4615 : BitVec 32 := Scalar.addi v4613 v4614
  v4615.toNat
def k0_dev135 (d0 : Dev nD) : Nat :=
  let c0_i32_4728 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4727 : BitVec 32 := 2#32
  let v4616 : BitVec 32 := Scalar.muli v2 c2_i32_4727
  let v4617 : BitVec 32 := Scalar.addi c0_i32_4728 v4616
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4729 : BitVec 32 := 1#32
  let v4618 : BitVec 32 := Scalar.muli v6 c1_i32_4729
  let v4619 : BitVec 32 := Scalar.addi v4617 v4618
  v4619.toNat
def k0_dev136 (d0 : Dev nD) : Nat :=
  let c0_i32_4798 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4797 : BitVec 32 := 2#32
  let v4681 : BitVec 32 := Scalar.muli v7 c2_i32_4797
  let v4682 : BitVec 32 := Scalar.addi c0_i32_4798 v4681
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4799 : BitVec 32 := 1#32
  let v4683 : BitVec 32 := Scalar.muli v5 c1_i32_4799
  let v4684 : BitVec 32 := Scalar.addi v4682 v4683
  v4684.toNat
def k0_dev137 (d0 : Dev nD) : Nat :=
  let c0_i32_4820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4819 : BitVec 32 := 2#32
  let v4704 : BitVec 32 := Scalar.muli v2 c2_i32_4819
  let v4705 : BitVec 32 := Scalar.addi c0_i32_4820 v4704
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4821 : BitVec 32 := 1#32
  let v4706 : BitVec 32 := Scalar.muli v6 c1_i32_4821
  let v4707 : BitVec 32 := Scalar.addi v4705 v4706
  v4707.toNat
def k0_dev138 (d0 : Dev nD) : Nat :=
  let c0_i32_4845 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4844 : BitVec 32 := 2#32
  let v4728 : BitVec 32 := Scalar.muli v7 c2_i32_4844
  let v4729 : BitVec 32 := Scalar.addi c0_i32_4845 v4728
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4846 : BitVec 32 := 1#32
  let v4730 : BitVec 32 := Scalar.muli v5 c1_i32_4846
  let v4731 : BitVec 32 := Scalar.addi v4729 v4730
  v4731.toNat
def k0_dev139 (d0 : Dev nD) : Nat :=
  let c0_i32_4852 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4851 : BitVec 32 := 2#32
  let v4732 : BitVec 32 := Scalar.muli v2 c2_i32_4851
  let v4733 : BitVec 32 := Scalar.addi c0_i32_4852 v4732
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4853 : BitVec 32 := 1#32
  let v4734 : BitVec 32 := Scalar.muli v6 c1_i32_4853
  let v4735 : BitVec 32 := Scalar.addi v4733 v4734
  v4735.toNat
def k0_dev140 (d0 : Dev nD) : Nat :=
  let c0_i32_4922 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4921 : BitVec 32 := 2#32
  let v4797 : BitVec 32 := Scalar.muli v7 c2_i32_4921
  let v4798 : BitVec 32 := Scalar.addi c0_i32_4922 v4797
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4923 : BitVec 32 := 1#32
  let v4799 : BitVec 32 := Scalar.muli v5 c1_i32_4923
  let v4800 : BitVec 32 := Scalar.addi v4798 v4799
  v4800.toNat
def k0_dev141 (d0 : Dev nD) : Nat :=
  let c0_i32_4944 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4943 : BitVec 32 := 2#32
  let v4820 : BitVec 32 := Scalar.muli v2 c2_i32_4943
  let v4821 : BitVec 32 := Scalar.addi c0_i32_4944 v4820
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4945 : BitVec 32 := 1#32
  let v4822 : BitVec 32 := Scalar.muli v6 c1_i32_4945
  let v4823 : BitVec 32 := Scalar.addi v4821 v4822
  v4823.toNat
def k0_dev142 (d0 : Dev nD) : Nat :=
  let c0_i32_4969 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4968 : BitVec 32 := 2#32
  let v4844 : BitVec 32 := Scalar.muli v7 c2_i32_4968
  let v4845 : BitVec 32 := Scalar.addi c0_i32_4969 v4844
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4970 : BitVec 32 := 1#32
  let v4846 : BitVec 32 := Scalar.muli v5 c1_i32_4970
  let v4847 : BitVec 32 := Scalar.addi v4845 v4846
  v4847.toNat
def k0_dev143 (d0 : Dev nD) : Nat :=
  let c0_i32_4976 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4975 : BitVec 32 := 2#32
  let v4848 : BitVec 32 := Scalar.muli v2 c2_i32_4975
  let v4849 : BitVec 32 := Scalar.addi c0_i32_4976 v4848
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4977 : BitVec 32 := 1#32
  let v4850 : BitVec 32 := Scalar.muli v6 c1_i32_4977
  let v4851 : BitVec 32 := Scalar.addi v4849 v4850
  v4851.toNat
def k0_dev144 (d0 : Dev nD) : Nat :=
  let c0_i32_5046 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5045 : BitVec 32 := 2#32
  let v4913 : BitVec 32 := Scalar.muli v7 c2_i32_5045
  let v4914 : BitVec 32 := Scalar.addi c0_i32_5046 v4913
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5047 : BitVec 32 := 1#32
  let v4915 : BitVec 32 := Scalar.muli v5 c1_i32_5047
  let v4916 : BitVec 32 := Scalar.addi v4914 v4915
  v4916.toNat
def k0_dev145 (d0 : Dev nD) : Nat :=
  let c0_i32_5068 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5067 : BitVec 32 := 2#32
  let v4936 : BitVec 32 := Scalar.muli v2 c2_i32_5067
  let v4937 : BitVec 32 := Scalar.addi c0_i32_5068 v4936
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5069 : BitVec 32 := 1#32
  let v4938 : BitVec 32 := Scalar.muli v6 c1_i32_5069
  let v4939 : BitVec 32 := Scalar.addi v4937 v4938
  v4939.toNat
def k0_dev146 (d0 : Dev nD) : Nat :=
  let c0_i32_5093 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5092 : BitVec 32 := 2#32
  let v4960 : BitVec 32 := Scalar.muli v7 c2_i32_5092
  let v4961 : BitVec 32 := Scalar.addi c0_i32_5093 v4960
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5094 : BitVec 32 := 1#32
  let v4962 : BitVec 32 := Scalar.muli v5 c1_i32_5094
  let v4963 : BitVec 32 := Scalar.addi v4961 v4962
  v4963.toNat
def k0_dev147 (d0 : Dev nD) : Nat :=
  let c0_i32_5100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5099 : BitVec 32 := 2#32
  let v4964 : BitVec 32 := Scalar.muli v2 c2_i32_5099
  let v4965 : BitVec 32 := Scalar.addi c0_i32_5100 v4964
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5101 : BitVec 32 := 1#32
  let v4966 : BitVec 32 := Scalar.muli v6 c1_i32_5101
  let v4967 : BitVec 32 := Scalar.addi v4965 v4966
  v4967.toNat
def k0_dev148 (d0 : Dev nD) : Nat :=
  let c0_i32_5170 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5169 : BitVec 32 := 2#32
  let v5029 : BitVec 32 := Scalar.muli v7 c2_i32_5169
  let v5030 : BitVec 32 := Scalar.addi c0_i32_5170 v5029
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5171 : BitVec 32 := 1#32
  let v5031 : BitVec 32 := Scalar.muli v5 c1_i32_5171
  let v5032 : BitVec 32 := Scalar.addi v5030 v5031
  v5032.toNat
def k0_dev149 (d0 : Dev nD) : Nat :=
  let c0_i32_5192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5191 : BitVec 32 := 2#32
  let v5052 : BitVec 32 := Scalar.muli v2 c2_i32_5191
  let v5053 : BitVec 32 := Scalar.addi c0_i32_5192 v5052
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5193 : BitVec 32 := 1#32
  let v5054 : BitVec 32 := Scalar.muli v6 c1_i32_5193
  let v5055 : BitVec 32 := Scalar.addi v5053 v5054
  v5055.toNat
def k0_dev150 (d0 : Dev nD) : Nat :=
  let c0_i32_5217 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5216 : BitVec 32 := 2#32
  let v5076 : BitVec 32 := Scalar.muli v7 c2_i32_5216
  let v5077 : BitVec 32 := Scalar.addi c0_i32_5217 v5076
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5218 : BitVec 32 := 1#32
  let v5078 : BitVec 32 := Scalar.muli v5 c1_i32_5218
  let v5079 : BitVec 32 := Scalar.addi v5077 v5078
  v5079.toNat
def k0_dev151 (d0 : Dev nD) : Nat :=
  let c0_i32_5224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5223 : BitVec 32 := 2#32
  let v5080 : BitVec 32 := Scalar.muli v2 c2_i32_5223
  let v5081 : BitVec 32 := Scalar.addi c0_i32_5224 v5080
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5225 : BitVec 32 := 1#32
  let v5082 : BitVec 32 := Scalar.muli v6 c1_i32_5225
  let v5083 : BitVec 32 := Scalar.addi v5081 v5082
  v5083.toNat
def k0_dev152 (d0 : Dev nD) : Nat :=
  let c0_i32_5294 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5293 : BitVec 32 := 2#32
  let v5145 : BitVec 32 := Scalar.muli v7 c2_i32_5293
  let v5146 : BitVec 32 := Scalar.addi c0_i32_5294 v5145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5295 : BitVec 32 := 1#32
  let v5147 : BitVec 32 := Scalar.muli v5 c1_i32_5295
  let v5148 : BitVec 32 := Scalar.addi v5146 v5147
  v5148.toNat
def k0_dev153 (d0 : Dev nD) : Nat :=
  let c0_i32_5316 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5315 : BitVec 32 := 2#32
  let v5168 : BitVec 32 := Scalar.muli v2 c2_i32_5315
  let v5169 : BitVec 32 := Scalar.addi c0_i32_5316 v5168
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5317 : BitVec 32 := 1#32
  let v5170 : BitVec 32 := Scalar.muli v6 c1_i32_5317
  let v5171 : BitVec 32 := Scalar.addi v5169 v5170
  v5171.toNat
def k0_dev154 (d0 : Dev nD) : Nat :=
  let c0_i32_5341 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5340 : BitVec 32 := 2#32
  let v5192 : BitVec 32 := Scalar.muli v7 c2_i32_5340
  let v5193 : BitVec 32 := Scalar.addi c0_i32_5341 v5192
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5342 : BitVec 32 := 1#32
  let v5194 : BitVec 32 := Scalar.muli v5 c1_i32_5342
  let v5195 : BitVec 32 := Scalar.addi v5193 v5194
  v5195.toNat
def k0_dev155 (d0 : Dev nD) : Nat :=
  let c0_i32_5348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5347 : BitVec 32 := 2#32
  let v5196 : BitVec 32 := Scalar.muli v2 c2_i32_5347
  let v5197 : BitVec 32 := Scalar.addi c0_i32_5348 v5196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5349 : BitVec 32 := 1#32
  let v5198 : BitVec 32 := Scalar.muli v6 c1_i32_5349
  let v5199 : BitVec 32 := Scalar.addi v5197 v5198
  v5199.toNat
def k0_dev156 (d0 : Dev nD) : Nat :=
  let c0_i32_5418 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5417 : BitVec 32 := 2#32
  let v5261 : BitVec 32 := Scalar.muli v7 c2_i32_5417
  let v5262 : BitVec 32 := Scalar.addi c0_i32_5418 v5261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5419 : BitVec 32 := 1#32
  let v5263 : BitVec 32 := Scalar.muli v5 c1_i32_5419
  let v5264 : BitVec 32 := Scalar.addi v5262 v5263
  v5264.toNat
def k0_dev157 (d0 : Dev nD) : Nat :=
  let c0_i32_5440 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5439 : BitVec 32 := 2#32
  let v5284 : BitVec 32 := Scalar.muli v2 c2_i32_5439
  let v5285 : BitVec 32 := Scalar.addi c0_i32_5440 v5284
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5441 : BitVec 32 := 1#32
  let v5286 : BitVec 32 := Scalar.muli v6 c1_i32_5441
  let v5287 : BitVec 32 := Scalar.addi v5285 v5286
  v5287.toNat
def k0_dev158 (d0 : Dev nD) : Nat :=
  let c0_i32_5465 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5464 : BitVec 32 := 2#32
  let v5308 : BitVec 32 := Scalar.muli v7 c2_i32_5464
  let v5309 : BitVec 32 := Scalar.addi c0_i32_5465 v5308
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5466 : BitVec 32 := 1#32
  let v5310 : BitVec 32 := Scalar.muli v5 c1_i32_5466
  let v5311 : BitVec 32 := Scalar.addi v5309 v5310
  v5311.toNat
def k0_dev159 (d0 : Dev nD) : Nat :=
  let c0_i32_5472 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5471 : BitVec 32 := 2#32
  let v5312 : BitVec 32 := Scalar.muli v2 c2_i32_5471
  let v5313 : BitVec 32 := Scalar.addi c0_i32_5472 v5312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5473 : BitVec 32 := 1#32
  let v5314 : BitVec 32 := Scalar.muli v6 c1_i32_5473
  let v5315 : BitVec 32 := Scalar.addi v5313 v5314
  v5315.toNat
def k0_dev160 (d0 : Dev nD) : Nat :=
  let c0_i32_5542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5541 : BitVec 32 := 2#32
  let v5377 : BitVec 32 := Scalar.muli v7 c2_i32_5541
  let v5378 : BitVec 32 := Scalar.addi c0_i32_5542 v5377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5543 : BitVec 32 := 1#32
  let v5379 : BitVec 32 := Scalar.muli v5 c1_i32_5543
  let v5380 : BitVec 32 := Scalar.addi v5378 v5379
  v5380.toNat
def k0_dev161 (d0 : Dev nD) : Nat :=
  let c0_i32_5564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5563 : BitVec 32 := 2#32
  let v5400 : BitVec 32 := Scalar.muli v2 c2_i32_5563
  let v5401 : BitVec 32 := Scalar.addi c0_i32_5564 v5400
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5565 : BitVec 32 := 1#32
  let v5402 : BitVec 32 := Scalar.muli v6 c1_i32_5565
  let v5403 : BitVec 32 := Scalar.addi v5401 v5402
  v5403.toNat
def k0_dev162 (d0 : Dev nD) : Nat :=
  let c0_i32_5589 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5588 : BitVec 32 := 2#32
  let v5424 : BitVec 32 := Scalar.muli v7 c2_i32_5588
  let v5425 : BitVec 32 := Scalar.addi c0_i32_5589 v5424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5590 : BitVec 32 := 1#32
  let v5426 : BitVec 32 := Scalar.muli v5 c1_i32_5590
  let v5427 : BitVec 32 := Scalar.addi v5425 v5426
  v5427.toNat
def k0_dev163 (d0 : Dev nD) : Nat :=
  let c0_i32_5596 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5595 : BitVec 32 := 2#32
  let v5428 : BitVec 32 := Scalar.muli v2 c2_i32_5595
  let v5429 : BitVec 32 := Scalar.addi c0_i32_5596 v5428
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5597 : BitVec 32 := 1#32
  let v5430 : BitVec 32 := Scalar.muli v6 c1_i32_5597
  let v5431 : BitVec 32 := Scalar.addi v5429 v5430
  v5431.toNat
def k0_dev164 (d0 : Dev nD) : Nat :=
  let c0_i32_5666 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5665 : BitVec 32 := 2#32
  let v5493 : BitVec 32 := Scalar.muli v7 c2_i32_5665
  let v5494 : BitVec 32 := Scalar.addi c0_i32_5666 v5493
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5667 : BitVec 32 := 1#32
  let v5495 : BitVec 32 := Scalar.muli v5 c1_i32_5667
  let v5496 : BitVec 32 := Scalar.addi v5494 v5495
  v5496.toNat
def k0_dev165 (d0 : Dev nD) : Nat :=
  let c0_i32_5688 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5687 : BitVec 32 := 2#32
  let v5516 : BitVec 32 := Scalar.muli v2 c2_i32_5687
  let v5517 : BitVec 32 := Scalar.addi c0_i32_5688 v5516
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5689 : BitVec 32 := 1#32
  let v5518 : BitVec 32 := Scalar.muli v6 c1_i32_5689
  let v5519 : BitVec 32 := Scalar.addi v5517 v5518
  v5519.toNat
def k0_dev166 (d0 : Dev nD) : Nat :=
  let c0_i32_5713 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5712 : BitVec 32 := 2#32
  let v5540 : BitVec 32 := Scalar.muli v7 c2_i32_5712
  let v5541 : BitVec 32 := Scalar.addi c0_i32_5713 v5540
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5714 : BitVec 32 := 1#32
  let v5542 : BitVec 32 := Scalar.muli v5 c1_i32_5714
  let v5543 : BitVec 32 := Scalar.addi v5541 v5542
  v5543.toNat
def k0_dev167 (d0 : Dev nD) : Nat :=
  let c0_i32_5720 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5719 : BitVec 32 := 2#32
  let v5544 : BitVec 32 := Scalar.muli v2 c2_i32_5719
  let v5545 : BitVec 32 := Scalar.addi c0_i32_5720 v5544
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5721 : BitVec 32 := 1#32
  let v5546 : BitVec 32 := Scalar.muli v6 c1_i32_5721
  let v5547 : BitVec 32 := Scalar.addi v5545 v5546
  v5547.toNat
def k0_dev168 (d0 : Dev nD) : Nat :=
  let c0_i32_5790 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5789 : BitVec 32 := 2#32
  let v5609 : BitVec 32 := Scalar.muli v7 c2_i32_5789
  let v5610 : BitVec 32 := Scalar.addi c0_i32_5790 v5609
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5791 : BitVec 32 := 1#32
  let v5611 : BitVec 32 := Scalar.muli v5 c1_i32_5791
  let v5612 : BitVec 32 := Scalar.addi v5610 v5611
  v5612.toNat
def k0_dev169 (d0 : Dev nD) : Nat :=
  let c0_i32_5812 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5811 : BitVec 32 := 2#32
  let v5632 : BitVec 32 := Scalar.muli v2 c2_i32_5811
  let v5633 : BitVec 32 := Scalar.addi c0_i32_5812 v5632
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5813 : BitVec 32 := 1#32
  let v5634 : BitVec 32 := Scalar.muli v6 c1_i32_5813
  let v5635 : BitVec 32 := Scalar.addi v5633 v5634
  v5635.toNat
def k0_dev170 (d0 : Dev nD) : Nat :=
  let c0_i32_5837 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5836 : BitVec 32 := 2#32
  let v5656 : BitVec 32 := Scalar.muli v7 c2_i32_5836
  let v5657 : BitVec 32 := Scalar.addi c0_i32_5837 v5656
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5838 : BitVec 32 := 1#32
  let v5658 : BitVec 32 := Scalar.muli v5 c1_i32_5838
  let v5659 : BitVec 32 := Scalar.addi v5657 v5658
  v5659.toNat
def k0_dev171 (d0 : Dev nD) : Nat :=
  let c0_i32_5844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5843 : BitVec 32 := 2#32
  let v5660 : BitVec 32 := Scalar.muli v2 c2_i32_5843
  let v5661 : BitVec 32 := Scalar.addi c0_i32_5844 v5660
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5845 : BitVec 32 := 1#32
  let v5662 : BitVec 32 := Scalar.muli v6 c1_i32_5845
  let v5663 : BitVec 32 := Scalar.addi v5661 v5662
  v5663.toNat
def k0_dev172 (d0 : Dev nD) : Nat :=
  let c0_i32_5914 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5913 : BitVec 32 := 2#32
  let v5725 : BitVec 32 := Scalar.muli v7 c2_i32_5913
  let v5726 : BitVec 32 := Scalar.addi c0_i32_5914 v5725
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5915 : BitVec 32 := 1#32
  let v5727 : BitVec 32 := Scalar.muli v5 c1_i32_5915
  let v5728 : BitVec 32 := Scalar.addi v5726 v5727
  v5728.toNat
def k0_dev173 (d0 : Dev nD) : Nat :=
  let c0_i32_5936 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5935 : BitVec 32 := 2#32
  let v5748 : BitVec 32 := Scalar.muli v2 c2_i32_5935
  let v5749 : BitVec 32 := Scalar.addi c0_i32_5936 v5748
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5937 : BitVec 32 := 1#32
  let v5750 : BitVec 32 := Scalar.muli v6 c1_i32_5937
  let v5751 : BitVec 32 := Scalar.addi v5749 v5750
  v5751.toNat
def k0_dev174 (d0 : Dev nD) : Nat :=
  let c0_i32_5961 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5960 : BitVec 32 := 2#32
  let v5772 : BitVec 32 := Scalar.muli v7 c2_i32_5960
  let v5773 : BitVec 32 := Scalar.addi c0_i32_5961 v5772
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5962 : BitVec 32 := 1#32
  let v5774 : BitVec 32 := Scalar.muli v5 c1_i32_5962
  let v5775 : BitVec 32 := Scalar.addi v5773 v5774
  v5775.toNat
def k0_dev175 (d0 : Dev nD) : Nat :=
  let c0_i32_5968 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5967 : BitVec 32 := 2#32
  let v5776 : BitVec 32 := Scalar.muli v2 c2_i32_5967
  let v5777 : BitVec 32 := Scalar.addi c0_i32_5968 v5776
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5969 : BitVec 32 := 1#32
  let v5778 : BitVec 32 := Scalar.muli v6 c1_i32_5969
  let v5779 : BitVec 32 := Scalar.addi v5777 v5778
  v5779.toNat
def k0_dev176 (d0 : Dev nD) : Nat :=
  let c0_i32_6038 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6037 : BitVec 32 := 2#32
  let v5841 : BitVec 32 := Scalar.muli v7 c2_i32_6037
  let v5842 : BitVec 32 := Scalar.addi c0_i32_6038 v5841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6039 : BitVec 32 := 1#32
  let v5843 : BitVec 32 := Scalar.muli v5 c1_i32_6039
  let v5844 : BitVec 32 := Scalar.addi v5842 v5843
  v5844.toNat
def k0_dev177 (d0 : Dev nD) : Nat :=
  let c0_i32_6060 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6059 : BitVec 32 := 2#32
  let v5864 : BitVec 32 := Scalar.muli v2 c2_i32_6059
  let v5865 : BitVec 32 := Scalar.addi c0_i32_6060 v5864
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6061 : BitVec 32 := 1#32
  let v5866 : BitVec 32 := Scalar.muli v6 c1_i32_6061
  let v5867 : BitVec 32 := Scalar.addi v5865 v5866
  v5867.toNat
def k0_dev178 (d0 : Dev nD) : Nat :=
  let c0_i32_6085 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6084 : BitVec 32 := 2#32
  let v5888 : BitVec 32 := Scalar.muli v7 c2_i32_6084
  let v5889 : BitVec 32 := Scalar.addi c0_i32_6085 v5888
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6086 : BitVec 32 := 1#32
  let v5890 : BitVec 32 := Scalar.muli v5 c1_i32_6086
  let v5891 : BitVec 32 := Scalar.addi v5889 v5890
  v5891.toNat
def k0_dev179 (d0 : Dev nD) : Nat :=
  let c0_i32_6092 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6091 : BitVec 32 := 2#32
  let v5892 : BitVec 32 := Scalar.muli v2 c2_i32_6091
  let v5893 : BitVec 32 := Scalar.addi c0_i32_6092 v5892
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6093 : BitVec 32 := 1#32
  let v5894 : BitVec 32 := Scalar.muli v6 c1_i32_6093
  let v5895 : BitVec 32 := Scalar.addi v5893 v5894
  v5895.toNat
def k0_dev180 (d0 : Dev nD) : Nat :=
  let c0_i32_6162 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6161 : BitVec 32 := 2#32
  let v5957 : BitVec 32 := Scalar.muli v7 c2_i32_6161
  let v5958 : BitVec 32 := Scalar.addi c0_i32_6162 v5957
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6163 : BitVec 32 := 1#32
  let v5959 : BitVec 32 := Scalar.muli v5 c1_i32_6163
  let v5960 : BitVec 32 := Scalar.addi v5958 v5959
  v5960.toNat
def k0_dev181 (d0 : Dev nD) : Nat :=
  let c0_i32_6184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6183 : BitVec 32 := 2#32
  let v5980 : BitVec 32 := Scalar.muli v2 c2_i32_6183
  let v5981 : BitVec 32 := Scalar.addi c0_i32_6184 v5980
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6185 : BitVec 32 := 1#32
  let v5982 : BitVec 32 := Scalar.muli v6 c1_i32_6185
  let v5983 : BitVec 32 := Scalar.addi v5981 v5982
  v5983.toNat
def k0_dev182 (d0 : Dev nD) : Nat :=
  let c0_i32_6209 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6208 : BitVec 32 := 2#32
  let v6004 : BitVec 32 := Scalar.muli v7 c2_i32_6208
  let v6005 : BitVec 32 := Scalar.addi c0_i32_6209 v6004
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6210 : BitVec 32 := 1#32
  let v6006 : BitVec 32 := Scalar.muli v5 c1_i32_6210
  let v6007 : BitVec 32 := Scalar.addi v6005 v6006
  v6007.toNat
def k0_dev183 (d0 : Dev nD) : Nat :=
  let c0_i32_6216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6215 : BitVec 32 := 2#32
  let v6008 : BitVec 32 := Scalar.muli v2 c2_i32_6215
  let v6009 : BitVec 32 := Scalar.addi c0_i32_6216 v6008
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6217 : BitVec 32 := 1#32
  let v6010 : BitVec 32 := Scalar.muli v6 c1_i32_6217
  let v6011 : BitVec 32 := Scalar.addi v6009 v6010
  v6011.toNat
def k0_dev184 (d0 : Dev nD) : Nat :=
  let c0_i32_6286 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6285 : BitVec 32 := 2#32
  let v6073 : BitVec 32 := Scalar.muli v7 c2_i32_6285
  let v6074 : BitVec 32 := Scalar.addi c0_i32_6286 v6073
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6287 : BitVec 32 := 1#32
  let v6075 : BitVec 32 := Scalar.muli v5 c1_i32_6287
  let v6076 : BitVec 32 := Scalar.addi v6074 v6075
  v6076.toNat
def k0_dev185 (d0 : Dev nD) : Nat :=
  let c0_i32_6308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6307 : BitVec 32 := 2#32
  let v6096 : BitVec 32 := Scalar.muli v2 c2_i32_6307
  let v6097 : BitVec 32 := Scalar.addi c0_i32_6308 v6096
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6309 : BitVec 32 := 1#32
  let v6098 : BitVec 32 := Scalar.muli v6 c1_i32_6309
  let v6099 : BitVec 32 := Scalar.addi v6097 v6098
  v6099.toNat
def k0_dev186 (d0 : Dev nD) : Nat :=
  let c0_i32_6333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6332 : BitVec 32 := 2#32
  let v6120 : BitVec 32 := Scalar.muli v7 c2_i32_6332
  let v6121 : BitVec 32 := Scalar.addi c0_i32_6333 v6120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6334 : BitVec 32 := 1#32
  let v6122 : BitVec 32 := Scalar.muli v5 c1_i32_6334
  let v6123 : BitVec 32 := Scalar.addi v6121 v6122
  v6123.toNat
def k0_dev187 (d0 : Dev nD) : Nat :=
  let c0_i32_6340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6339 : BitVec 32 := 2#32
  let v6124 : BitVec 32 := Scalar.muli v2 c2_i32_6339
  let v6125 : BitVec 32 := Scalar.addi c0_i32_6340 v6124
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6341 : BitVec 32 := 1#32
  let v6126 : BitVec 32 := Scalar.muli v6 c1_i32_6341
  let v6127 : BitVec 32 := Scalar.addi v6125 v6126
  v6127.toNat
def k0_dev188 (d0 : Dev nD) : Nat :=
  let c0_i32_6410 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6409 : BitVec 32 := 2#32
  let v6189 : BitVec 32 := Scalar.muli v7 c2_i32_6409
  let v6190 : BitVec 32 := Scalar.addi c0_i32_6410 v6189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6411 : BitVec 32 := 1#32
  let v6191 : BitVec 32 := Scalar.muli v5 c1_i32_6411
  let v6192 : BitVec 32 := Scalar.addi v6190 v6191
  v6192.toNat
def k0_dev189 (d0 : Dev nD) : Nat :=
  let c0_i32_6432 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6431 : BitVec 32 := 2#32
  let v6212 : BitVec 32 := Scalar.muli v2 c2_i32_6431
  let v6213 : BitVec 32 := Scalar.addi c0_i32_6432 v6212
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6433 : BitVec 32 := 1#32
  let v6214 : BitVec 32 := Scalar.muli v6 c1_i32_6433
  let v6215 : BitVec 32 := Scalar.addi v6213 v6214
  v6215.toNat
def k0_dev190 (d0 : Dev nD) : Nat :=
  let c0_i32_6457 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6456 : BitVec 32 := 2#32
  let v6236 : BitVec 32 := Scalar.muli v7 c2_i32_6456
  let v6237 : BitVec 32 := Scalar.addi c0_i32_6457 v6236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6458 : BitVec 32 := 1#32
  let v6238 : BitVec 32 := Scalar.muli v5 c1_i32_6458
  let v6239 : BitVec 32 := Scalar.addi v6237 v6238
  v6239.toNat
def k0_dev191 (d0 : Dev nD) : Nat :=
  let c0_i32_6464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6463 : BitVec 32 := 2#32
  let v6240 : BitVec 32 := Scalar.muli v2 c2_i32_6463
  let v6241 : BitVec 32 := Scalar.addi c0_i32_6464 v6240
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6465 : BitVec 32 := 1#32
  let v6242 : BitVec 32 := Scalar.muli v6 c1_i32_6465
  let v6243 : BitVec 32 := Scalar.addi v6241 v6242
  v6243.toNat
def k0_dev192 (d0 : Dev nD) : Nat :=
  let c0_i32_6534 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6533 : BitVec 32 := 2#32
  let v6305 : BitVec 32 := Scalar.muli v7 c2_i32_6533
  let v6306 : BitVec 32 := Scalar.addi c0_i32_6534 v6305
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6535 : BitVec 32 := 1#32
  let v6307 : BitVec 32 := Scalar.muli v5 c1_i32_6535
  let v6308 : BitVec 32 := Scalar.addi v6306 v6307
  v6308.toNat
def k0_dev193 (d0 : Dev nD) : Nat :=
  let c0_i32_6556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6555 : BitVec 32 := 2#32
  let v6328 : BitVec 32 := Scalar.muli v2 c2_i32_6555
  let v6329 : BitVec 32 := Scalar.addi c0_i32_6556 v6328
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6557 : BitVec 32 := 1#32
  let v6330 : BitVec 32 := Scalar.muli v6 c1_i32_6557
  let v6331 : BitVec 32 := Scalar.addi v6329 v6330
  v6331.toNat
def k0_dev194 (d0 : Dev nD) : Nat :=
  let c0_i32_6581 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6580 : BitVec 32 := 2#32
  let v6352 : BitVec 32 := Scalar.muli v7 c2_i32_6580
  let v6353 : BitVec 32 := Scalar.addi c0_i32_6581 v6352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6582 : BitVec 32 := 1#32
  let v6354 : BitVec 32 := Scalar.muli v5 c1_i32_6582
  let v6355 : BitVec 32 := Scalar.addi v6353 v6354
  v6355.toNat
def k0_dev195 (d0 : Dev nD) : Nat :=
  let c0_i32_6588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6587 : BitVec 32 := 2#32
  let v6356 : BitVec 32 := Scalar.muli v2 c2_i32_6587
  let v6357 : BitVec 32 := Scalar.addi c0_i32_6588 v6356
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6589 : BitVec 32 := 1#32
  let v6358 : BitVec 32 := Scalar.muli v6 c1_i32_6589
  let v6359 : BitVec 32 := Scalar.addi v6357 v6358
  v6359.toNat
def k0_dev196 (d0 : Dev nD) : Nat :=
  let c0_i32_6658 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6657 : BitVec 32 := 2#32
  let v6421 : BitVec 32 := Scalar.muli v7 c2_i32_6657
  let v6422 : BitVec 32 := Scalar.addi c0_i32_6658 v6421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6659 : BitVec 32 := 1#32
  let v6423 : BitVec 32 := Scalar.muli v5 c1_i32_6659
  let v6424 : BitVec 32 := Scalar.addi v6422 v6423
  v6424.toNat
def k0_dev197 (d0 : Dev nD) : Nat :=
  let c0_i32_6680 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6679 : BitVec 32 := 2#32
  let v6444 : BitVec 32 := Scalar.muli v2 c2_i32_6679
  let v6445 : BitVec 32 := Scalar.addi c0_i32_6680 v6444
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6681 : BitVec 32 := 1#32
  let v6446 : BitVec 32 := Scalar.muli v6 c1_i32_6681
  let v6447 : BitVec 32 := Scalar.addi v6445 v6446
  v6447.toNat
def k0_dev198 (d0 : Dev nD) : Nat :=
  let c0_i32_6705 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6704 : BitVec 32 := 2#32
  let v6468 : BitVec 32 := Scalar.muli v7 c2_i32_6704
  let v6469 : BitVec 32 := Scalar.addi c0_i32_6705 v6468
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6706 : BitVec 32 := 1#32
  let v6470 : BitVec 32 := Scalar.muli v5 c1_i32_6706
  let v6471 : BitVec 32 := Scalar.addi v6469 v6470
  v6471.toNat
def k0_dev199 (d0 : Dev nD) : Nat :=
  let c0_i32_6712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6711 : BitVec 32 := 2#32
  let v6472 : BitVec 32 := Scalar.muli v2 c2_i32_6711
  let v6473 : BitVec 32 := Scalar.addi c0_i32_6712 v6472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6713 : BitVec 32 := 1#32
  let v6474 : BitVec 32 := Scalar.muli v6 c1_i32_6713
  let v6475 : BitVec 32 := Scalar.addi v6473 v6474
  v6475.toNat
def k0_dev200 (d0 : Dev nD) : Nat :=
  let c0_i32_6782 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6781 : BitVec 32 := 2#32
  let v6537 : BitVec 32 := Scalar.muli v7 c2_i32_6781
  let v6538 : BitVec 32 := Scalar.addi c0_i32_6782 v6537
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6783 : BitVec 32 := 1#32
  let v6539 : BitVec 32 := Scalar.muli v5 c1_i32_6783
  let v6540 : BitVec 32 := Scalar.addi v6538 v6539
  v6540.toNat
def k0_dev201 (d0 : Dev nD) : Nat :=
  let c0_i32_6804 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6803 : BitVec 32 := 2#32
  let v6560 : BitVec 32 := Scalar.muli v2 c2_i32_6803
  let v6561 : BitVec 32 := Scalar.addi c0_i32_6804 v6560
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6805 : BitVec 32 := 1#32
  let v6562 : BitVec 32 := Scalar.muli v6 c1_i32_6805
  let v6563 : BitVec 32 := Scalar.addi v6561 v6562
  v6563.toNat
def k0_dev202 (d0 : Dev nD) : Nat :=
  let c0_i32_6829 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6828 : BitVec 32 := 2#32
  let v6584 : BitVec 32 := Scalar.muli v7 c2_i32_6828
  let v6585 : BitVec 32 := Scalar.addi c0_i32_6829 v6584
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6830 : BitVec 32 := 1#32
  let v6586 : BitVec 32 := Scalar.muli v5 c1_i32_6830
  let v6587 : BitVec 32 := Scalar.addi v6585 v6586
  v6587.toNat
def k0_dev203 (d0 : Dev nD) : Nat :=
  let c0_i32_6836 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6835 : BitVec 32 := 2#32
  let v6588 : BitVec 32 := Scalar.muli v2 c2_i32_6835
  let v6589 : BitVec 32 := Scalar.addi c0_i32_6836 v6588
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6837 : BitVec 32 := 1#32
  let v6590 : BitVec 32 := Scalar.muli v6 c1_i32_6837
  let v6591 : BitVec 32 := Scalar.addi v6589 v6590
  v6591.toNat
def k0_dev204 (d0 : Dev nD) : Nat :=
  let c0_i32_6906 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6905 : BitVec 32 := 2#32
  let v6653 : BitVec 32 := Scalar.muli v7 c2_i32_6905
  let v6654 : BitVec 32 := Scalar.addi c0_i32_6906 v6653
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6907 : BitVec 32 := 1#32
  let v6655 : BitVec 32 := Scalar.muli v5 c1_i32_6907
  let v6656 : BitVec 32 := Scalar.addi v6654 v6655
  v6656.toNat
def k0_dev205 (d0 : Dev nD) : Nat :=
  let c0_i32_6928 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6927 : BitVec 32 := 2#32
  let v6676 : BitVec 32 := Scalar.muli v2 c2_i32_6927
  let v6677 : BitVec 32 := Scalar.addi c0_i32_6928 v6676
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6929 : BitVec 32 := 1#32
  let v6678 : BitVec 32 := Scalar.muli v6 c1_i32_6929
  let v6679 : BitVec 32 := Scalar.addi v6677 v6678
  v6679.toNat
def k0_dev206 (d0 : Dev nD) : Nat :=
  let c0_i32_6953 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6952 : BitVec 32 := 2#32
  let v6700 : BitVec 32 := Scalar.muli v7 c2_i32_6952
  let v6701 : BitVec 32 := Scalar.addi c0_i32_6953 v6700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6954 : BitVec 32 := 1#32
  let v6702 : BitVec 32 := Scalar.muli v5 c1_i32_6954
  let v6703 : BitVec 32 := Scalar.addi v6701 v6702
  v6703.toNat
def k0_dev207 (d0 : Dev nD) : Nat :=
  let c0_i32_6960 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6959 : BitVec 32 := 2#32
  let v6704 : BitVec 32 := Scalar.muli v2 c2_i32_6959
  let v6705 : BitVec 32 := Scalar.addi c0_i32_6960 v6704
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6961 : BitVec 32 := 1#32
  let v6706 : BitVec 32 := Scalar.muli v6 c1_i32_6961
  let v6707 : BitVec 32 := Scalar.addi v6705 v6706
  v6707.toNat
def k0_dev208 (d0 : Dev nD) : Nat :=
  let c0_i32_7030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7029 : BitVec 32 := 2#32
  let v6769 : BitVec 32 := Scalar.muli v7 c2_i32_7029
  let v6770 : BitVec 32 := Scalar.addi c0_i32_7030 v6769
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7031 : BitVec 32 := 1#32
  let v6771 : BitVec 32 := Scalar.muli v5 c1_i32_7031
  let v6772 : BitVec 32 := Scalar.addi v6770 v6771
  v6772.toNat
def k0_dev209 (d0 : Dev nD) : Nat :=
  let c0_i32_7052 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7051 : BitVec 32 := 2#32
  let v6792 : BitVec 32 := Scalar.muli v2 c2_i32_7051
  let v6793 : BitVec 32 := Scalar.addi c0_i32_7052 v6792
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7053 : BitVec 32 := 1#32
  let v6794 : BitVec 32 := Scalar.muli v6 c1_i32_7053
  let v6795 : BitVec 32 := Scalar.addi v6793 v6794
  v6795.toNat
def k0_dev210 (d0 : Dev nD) : Nat :=
  let c0_i32_7077 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7076 : BitVec 32 := 2#32
  let v6816 : BitVec 32 := Scalar.muli v7 c2_i32_7076
  let v6817 : BitVec 32 := Scalar.addi c0_i32_7077 v6816
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7078 : BitVec 32 := 1#32
  let v6818 : BitVec 32 := Scalar.muli v5 c1_i32_7078
  let v6819 : BitVec 32 := Scalar.addi v6817 v6818
  v6819.toNat
def k0_dev211 (d0 : Dev nD) : Nat :=
  let c0_i32_7084 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7083 : BitVec 32 := 2#32
  let v6820 : BitVec 32 := Scalar.muli v2 c2_i32_7083
  let v6821 : BitVec 32 := Scalar.addi c0_i32_7084 v6820
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7085 : BitVec 32 := 1#32
  let v6822 : BitVec 32 := Scalar.muli v6 c1_i32_7085
  let v6823 : BitVec 32 := Scalar.addi v6821 v6822
  v6823.toNat
def k0_dev212 (d0 : Dev nD) : Nat :=
  let c0_i32_7154 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7153 : BitVec 32 := 2#32
  let v6885 : BitVec 32 := Scalar.muli v7 c2_i32_7153
  let v6886 : BitVec 32 := Scalar.addi c0_i32_7154 v6885
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7155 : BitVec 32 := 1#32
  let v6887 : BitVec 32 := Scalar.muli v5 c1_i32_7155
  let v6888 : BitVec 32 := Scalar.addi v6886 v6887
  v6888.toNat
def k0_dev213 (d0 : Dev nD) : Nat :=
  let c0_i32_7176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7175 : BitVec 32 := 2#32
  let v6908 : BitVec 32 := Scalar.muli v2 c2_i32_7175
  let v6909 : BitVec 32 := Scalar.addi c0_i32_7176 v6908
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7177 : BitVec 32 := 1#32
  let v6910 : BitVec 32 := Scalar.muli v6 c1_i32_7177
  let v6911 : BitVec 32 := Scalar.addi v6909 v6910
  v6911.toNat
def k0_dev214 (d0 : Dev nD) : Nat :=
  let c0_i32_7201 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7200 : BitVec 32 := 2#32
  let v6932 : BitVec 32 := Scalar.muli v7 c2_i32_7200
  let v6933 : BitVec 32 := Scalar.addi c0_i32_7201 v6932
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7202 : BitVec 32 := 1#32
  let v6934 : BitVec 32 := Scalar.muli v5 c1_i32_7202
  let v6935 : BitVec 32 := Scalar.addi v6933 v6934
  v6935.toNat
def k0_dev215 (d0 : Dev nD) : Nat :=
  let c0_i32_7208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7207 : BitVec 32 := 2#32
  let v6936 : BitVec 32 := Scalar.muli v2 c2_i32_7207
  let v6937 : BitVec 32 := Scalar.addi c0_i32_7208 v6936
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7209 : BitVec 32 := 1#32
  let v6938 : BitVec 32 := Scalar.muli v6 c1_i32_7209
  let v6939 : BitVec 32 := Scalar.addi v6937 v6938
  v6939.toNat
def k0_dev216 (d0 : Dev nD) : Nat :=
  let c0_i32_7278 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7277 : BitVec 32 := 2#32
  let v7001 : BitVec 32 := Scalar.muli v7 c2_i32_7277
  let v7002 : BitVec 32 := Scalar.addi c0_i32_7278 v7001
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7279 : BitVec 32 := 1#32
  let v7003 : BitVec 32 := Scalar.muli v5 c1_i32_7279
  let v7004 : BitVec 32 := Scalar.addi v7002 v7003
  v7004.toNat
def k0_dev217 (d0 : Dev nD) : Nat :=
  let c0_i32_7300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7299 : BitVec 32 := 2#32
  let v7024 : BitVec 32 := Scalar.muli v2 c2_i32_7299
  let v7025 : BitVec 32 := Scalar.addi c0_i32_7300 v7024
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7301 : BitVec 32 := 1#32
  let v7026 : BitVec 32 := Scalar.muli v6 c1_i32_7301
  let v7027 : BitVec 32 := Scalar.addi v7025 v7026
  v7027.toNat
def k0_dev218 (d0 : Dev nD) : Nat :=
  let c0_i32_7325 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7324 : BitVec 32 := 2#32
  let v7048 : BitVec 32 := Scalar.muli v7 c2_i32_7324
  let v7049 : BitVec 32 := Scalar.addi c0_i32_7325 v7048
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7326 : BitVec 32 := 1#32
  let v7050 : BitVec 32 := Scalar.muli v5 c1_i32_7326
  let v7051 : BitVec 32 := Scalar.addi v7049 v7050
  v7051.toNat
def k0_dev219 (d0 : Dev nD) : Nat :=
  let c0_i32_7332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7331 : BitVec 32 := 2#32
  let v7052 : BitVec 32 := Scalar.muli v2 c2_i32_7331
  let v7053 : BitVec 32 := Scalar.addi c0_i32_7332 v7052
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7333 : BitVec 32 := 1#32
  let v7054 : BitVec 32 := Scalar.muli v6 c1_i32_7333
  let v7055 : BitVec 32 := Scalar.addi v7053 v7054
  v7055.toNat
def k0_dev220 (d0 : Dev nD) : Nat :=
  let c0_i32_7402 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7401 : BitVec 32 := 2#32
  let v7117 : BitVec 32 := Scalar.muli v7 c2_i32_7401
  let v7118 : BitVec 32 := Scalar.addi c0_i32_7402 v7117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7403 : BitVec 32 := 1#32
  let v7119 : BitVec 32 := Scalar.muli v5 c1_i32_7403
  let v7120 : BitVec 32 := Scalar.addi v7118 v7119
  v7120.toNat
def k0_dev221 (d0 : Dev nD) : Nat :=
  let c0_i32_7424 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7423 : BitVec 32 := 2#32
  let v7140 : BitVec 32 := Scalar.muli v2 c2_i32_7423
  let v7141 : BitVec 32 := Scalar.addi c0_i32_7424 v7140
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7425 : BitVec 32 := 1#32
  let v7142 : BitVec 32 := Scalar.muli v6 c1_i32_7425
  let v7143 : BitVec 32 := Scalar.addi v7141 v7142
  v7143.toNat
def k0_dev222 (d0 : Dev nD) : Nat :=
  let c0_i32_7449 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7448 : BitVec 32 := 2#32
  let v7164 : BitVec 32 := Scalar.muli v7 c2_i32_7448
  let v7165 : BitVec 32 := Scalar.addi c0_i32_7449 v7164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7450 : BitVec 32 := 1#32
  let v7166 : BitVec 32 := Scalar.muli v5 c1_i32_7450
  let v7167 : BitVec 32 := Scalar.addi v7165 v7166
  v7167.toNat
def k0_dev223 (d0 : Dev nD) : Nat :=
  let c0_i32_7456 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7455 : BitVec 32 := 2#32
  let v7168 : BitVec 32 := Scalar.muli v2 c2_i32_7455
  let v7169 : BitVec 32 := Scalar.addi c0_i32_7456 v7168
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7457 : BitVec 32 := 1#32
  let v7170 : BitVec 32 := Scalar.muli v6 c1_i32_7457
  let v7171 : BitVec 32 := Scalar.addi v7169 v7170
  v7171.toNat
def k0_dev224 (d0 : Dev nD) : Nat :=
  let c0_i32_7526 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7525 : BitVec 32 := 2#32
  let v7233 : BitVec 32 := Scalar.muli v7 c2_i32_7525
  let v7234 : BitVec 32 := Scalar.addi c0_i32_7526 v7233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7527 : BitVec 32 := 1#32
  let v7235 : BitVec 32 := Scalar.muli v5 c1_i32_7527
  let v7236 : BitVec 32 := Scalar.addi v7234 v7235
  v7236.toNat
def k0_dev225 (d0 : Dev nD) : Nat :=
  let c0_i32_7548 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7547 : BitVec 32 := 2#32
  let v7256 : BitVec 32 := Scalar.muli v2 c2_i32_7547
  let v7257 : BitVec 32 := Scalar.addi c0_i32_7548 v7256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7549 : BitVec 32 := 1#32
  let v7258 : BitVec 32 := Scalar.muli v6 c1_i32_7549
  let v7259 : BitVec 32 := Scalar.addi v7257 v7258
  v7259.toNat
def k0_dev226 (d0 : Dev nD) : Nat :=
  let c0_i32_7573 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7572 : BitVec 32 := 2#32
  let v7280 : BitVec 32 := Scalar.muli v7 c2_i32_7572
  let v7281 : BitVec 32 := Scalar.addi c0_i32_7573 v7280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7574 : BitVec 32 := 1#32
  let v7282 : BitVec 32 := Scalar.muli v5 c1_i32_7574
  let v7283 : BitVec 32 := Scalar.addi v7281 v7282
  v7283.toNat
def k0_dev227 (d0 : Dev nD) : Nat :=
  let c0_i32_7580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7579 : BitVec 32 := 2#32
  let v7284 : BitVec 32 := Scalar.muli v2 c2_i32_7579
  let v7285 : BitVec 32 := Scalar.addi c0_i32_7580 v7284
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7581 : BitVec 32 := 1#32
  let v7286 : BitVec 32 := Scalar.muli v6 c1_i32_7581
  let v7287 : BitVec 32 := Scalar.addi v7285 v7286
  v7287.toNat
def k0_dev228 (d0 : Dev nD) : Nat :=
  let c0_i32_7650 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7649 : BitVec 32 := 2#32
  let v7349 : BitVec 32 := Scalar.muli v7 c2_i32_7649
  let v7350 : BitVec 32 := Scalar.addi c0_i32_7650 v7349
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7651 : BitVec 32 := 1#32
  let v7351 : BitVec 32 := Scalar.muli v5 c1_i32_7651
  let v7352 : BitVec 32 := Scalar.addi v7350 v7351
  v7352.toNat
def k0_dev229 (d0 : Dev nD) : Nat :=
  let c0_i32_7672 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7671 : BitVec 32 := 2#32
  let v7372 : BitVec 32 := Scalar.muli v2 c2_i32_7671
  let v7373 : BitVec 32 := Scalar.addi c0_i32_7672 v7372
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7673 : BitVec 32 := 1#32
  let v7374 : BitVec 32 := Scalar.muli v6 c1_i32_7673
  let v7375 : BitVec 32 := Scalar.addi v7373 v7374
  v7375.toNat
def k0_dev230 (d0 : Dev nD) : Nat :=
  let c0_i32_7697 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7696 : BitVec 32 := 2#32
  let v7396 : BitVec 32 := Scalar.muli v7 c2_i32_7696
  let v7397 : BitVec 32 := Scalar.addi c0_i32_7697 v7396
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7698 : BitVec 32 := 1#32
  let v7398 : BitVec 32 := Scalar.muli v5 c1_i32_7698
  let v7399 : BitVec 32 := Scalar.addi v7397 v7398
  v7399.toNat
def k0_dev231 (d0 : Dev nD) : Nat :=
  let c0_i32_7704 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7703 : BitVec 32 := 2#32
  let v7400 : BitVec 32 := Scalar.muli v2 c2_i32_7703
  let v7401 : BitVec 32 := Scalar.addi c0_i32_7704 v7400
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7705 : BitVec 32 := 1#32
  let v7402 : BitVec 32 := Scalar.muli v6 c1_i32_7705
  let v7403 : BitVec 32 := Scalar.addi v7401 v7402
  v7403.toNat
def k0_dev232 (d0 : Dev nD) : Nat :=
  let c0_i32_7774 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7773 : BitVec 32 := 2#32
  let v7465 : BitVec 32 := Scalar.muli v7 c2_i32_7773
  let v7466 : BitVec 32 := Scalar.addi c0_i32_7774 v7465
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7775 : BitVec 32 := 1#32
  let v7467 : BitVec 32 := Scalar.muli v5 c1_i32_7775
  let v7468 : BitVec 32 := Scalar.addi v7466 v7467
  v7468.toNat
def k0_dev233 (d0 : Dev nD) : Nat :=
  let c0_i32_7817 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7816 : BitVec 32 := 2#32
  let v7508 : BitVec 32 := Scalar.muli v7 c2_i32_7816
  let v7509 : BitVec 32 := Scalar.addi c0_i32_7817 v7508
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7818 : BitVec 32 := 1#32
  let v7510 : BitVec 32 := Scalar.muli v5 c1_i32_7818
  let v7511 : BitVec 32 := Scalar.addi v7509 v7510
  v7511.toNat
def k0_dev234 (d0 : Dev nD) : Nat :=
  let c0_i32_7824 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7823 : BitVec 32 := 2#32
  let v7512 : BitVec 32 := Scalar.muli v2 c2_i32_7823
  let v7513 : BitVec 32 := Scalar.addi c0_i32_7824 v7512
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7825 : BitVec 32 := 1#32
  let v7514 : BitVec 32 := Scalar.muli v6 c1_i32_7825
  let v7515 : BitVec 32 := Scalar.addi v7513 v7514
  v7515.toNat
def k0_dev235 (d0 : Dev nD) : Nat :=
  let c0_i32_7894 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7893 : BitVec 32 := 2#32
  let v7577 : BitVec 32 := Scalar.muli v7 c2_i32_7893
  let v7578 : BitVec 32 := Scalar.addi c0_i32_7894 v7577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7895 : BitVec 32 := 1#32
  let v7579 : BitVec 32 := Scalar.muli v5 c1_i32_7895
  let v7580 : BitVec 32 := Scalar.addi v7578 v7579
  v7580.toNat
def k0_dev236 (d0 : Dev nD) : Nat :=
  let c0_i32_7937 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7936 : BitVec 32 := 2#32
  let v7620 : BitVec 32 := Scalar.muli v7 c2_i32_7936
  let v7621 : BitVec 32 := Scalar.addi c0_i32_7937 v7620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7938 : BitVec 32 := 1#32
  let v7622 : BitVec 32 := Scalar.muli v5 c1_i32_7938
  let v7623 : BitVec 32 := Scalar.addi v7621 v7622
  v7623.toNat
def k0_dev237 (d0 : Dev nD) : Nat :=
  let c0_i32_7944 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7943 : BitVec 32 := 2#32
  let v7624 : BitVec 32 := Scalar.muli v2 c2_i32_7943
  let v7625 : BitVec 32 := Scalar.addi c0_i32_7944 v7624
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7945 : BitVec 32 := 1#32
  let v7626 : BitVec 32 := Scalar.muli v6 c1_i32_7945
  let v7627 : BitVec 32 := Scalar.addi v7625 v7626
  v7627.toNat
def k0_dev238 (d0 : Dev nD) : Nat :=
  let c0_i32_8014 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8013 : BitVec 32 := 2#32
  let v7689 : BitVec 32 := Scalar.muli v7 c2_i32_8013
  let v7690 : BitVec 32 := Scalar.addi c0_i32_8014 v7689
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8015 : BitVec 32 := 1#32
  let v7691 : BitVec 32 := Scalar.muli v5 c1_i32_8015
  let v7692 : BitVec 32 := Scalar.addi v7690 v7691
  v7692.toNat
def k0_dev239 (d0 : Dev nD) : Nat :=
  let c0_i32_8060 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8059 : BitVec 32 := 2#32
  let v7732 : BitVec 32 := Scalar.muli v2 c2_i32_8059
  let v7733 : BitVec 32 := Scalar.addi c0_i32_8060 v7732
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8061 : BitVec 32 := 1#32
  let v7734 : BitVec 32 := Scalar.muli v6 c1_i32_8061
  let v7735 : BitVec 32 := Scalar.addi v7733 v7734
  v7735.toNat
def k0_dev240 (d0 : Dev nD) : Nat :=
  let c0_i32_8119 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8118 : BitVec 32 := 2#32
  let v7787 : BitVec 32 := Scalar.muli v7 c2_i32_8118
  let v7788 : BitVec 32 := Scalar.addi c0_i32_8119 v7787
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8120 : BitVec 32 := 1#32
  let v7789 : BitVec 32 := Scalar.muli v5 c1_i32_8120
  let v7790 : BitVec 32 := Scalar.addi v7788 v7789
  v7790.toNat
def k0_dev241 (d0 : Dev nD) : Nat :=
  let c0_i32_8181 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8180 : BitVec 32 := 2#32
  let v7844 : BitVec 32 := Scalar.muli v7 c2_i32_8180
  let v7845 : BitVec 32 := Scalar.addi c0_i32_8181 v7844
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8182 : BitVec 32 := 1#32
  let v7846 : BitVec 32 := Scalar.muli v5 c1_i32_8182
  let v7847 : BitVec 32 := Scalar.addi v7845 v7846
  v7847.toNat
def k0_dev242 (d0 : Dev nD) : Nat :=
  let c0_i32_8243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8242 : BitVec 32 := 2#32
  let v7901 : BitVec 32 := Scalar.muli v7 c2_i32_8242
  let v7902 : BitVec 32 := Scalar.addi c0_i32_8243 v7901
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8244 : BitVec 32 := 1#32
  let v7903 : BitVec 32 := Scalar.muli v5 c1_i32_8244
  let v7904 : BitVec 32 := Scalar.addi v7902 v7903
  v7904.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Prog.lean ====
/- The kernel's body as a list of steps. The printed body is 1380 operations in a row; here each kind of
   operation is written once, at a symbolic chunk number, and the body is proved to be the list of them
   (`body_eq`). Everything later reasons about the list. -/
module

public import proofs.«01_k».proof.Proof.Gen.KernelIdeal
public import proofs.«01_k».proof.Proof.Gen.KernelIdeal.Points
public import proofs.«01_k».proof.Proof.Gen.KernelIdeal.Launch

@[expose] public section

noncomputable section

namespace Cert.K01

open Idealize.ShloMosaic Idealize.SL.Sem Cert.KernelIdeal Cert.KernelIdeal.Gen

variable {F : FTy → Type} [FloatOps F]

/-- The neighbour along the mesh's `y` axis. -/
def yn (d : Dev nD) : Dev nD := ⟨k0_dev1 d, k0_dev1_lt d⟩
/-- The neighbour along the mesh's `x` axis. -/
def xn (d : Dev nD) : Dev nD := ⟨k0_dev2 d, k0_dev2_lt d⟩

/-! ## The views -/

/-- 128 rows of the argument, starting at the offsets `o`. -/
abbrev xAt (o : Fin 2 → Nat) (h : ∀ a, o a + S128x1024.size a ≤ S16384x1024.size a) :
    Memref sig .tc .hbm S128x1024 .f32 :=
  (Memref.whole main_arg0).slice (Rect.unit (s := S16384x1024) o S128x1024.size h) (fun _ => rfl)

/-- 128 rows of the result, starting at the offsets `o`. -/
abbrev outAt (o : Fin 2 → Nat) (h : ∀ a, o a + S128x1024.size a ≤ S32768x1024.size a) :
    Memref sig .tc .hbm S128x1024 .f32 :=
  (Memref.whole main_v1).slice (Rect.unit (s := S32768x1024) o S128x1024.size h) (fun _ => rfl)

/-- The rows of stage `s` lie in the argument. -/
theorem stage_inb (s : Fin 128) : ∀ a, (![128 * s.val, 0] : Fin 2 → Nat) a + S128x1024.size a ≤ S16384x1024.size a := by
  intro a; have := s.isLt; fin_cases a
  · change 128 * s.val + 128 ≤ 16384; omega
  · change 0 + 1024 ≤ 1024; omega

/-- The slot of chunk `c` lies in a receive buffer. -/
theorem slot8_inb (c : Fin 64) : ∀ a, (![c.val % 8, 0, 0] : Fin 3 → Nat) a + S1x128x1024.size a ≤ S8x128x1024.size a := by
  intro a; have := Nat.mod_lt c.val (show 0 < 8 by decide); fin_cases a
  · change c.val % 8 + 1 ≤ 8; omega
  · change 0 + 128 ≤ 128; omega
  · change 0 + 1024 ≤ 1024; omega

/-- The slot of stage `s` lies in the staging buffer. -/
theorem slot2_inb (s : Fin 128) : ∀ a, (![s.val % 2, 0, 0] : Fin 3 → Nat) a + S1x128x1024.size a ≤ S2x128x1024.size a := by
  intro a; have := Nat.mod_lt s.val (show 0 < 2 by decide); fin_cases a
  · change s.val % 2 + 1 ≤ 2; omega
  · change 0 + 128 ≤ 128; omega
  · change 0 + 1024 ≤ 1024; omega

/-- Stage `s` of the argument, in order. -/
def xStage (s : Fin 128) : Memref sig .tc .hbm S128x1024 .f32 := xAt ![128 * s.val, 0] (stage_inb s)
/-- Chunk `c` of the half of the argument this device sends. -/
def xSend (d : Dev nD) (c : Fin 64) : Memref sig .tc .hbm S128x1024 .f32 :=
  xAt (k0_off1 d (BitVec.ofNat 32 (128 * c.val))) (k0_off1_inb d c)
/-- Where stage `s` of the device's own rows goes in the result. -/
def outOwn (d : Dev nD) (s : Fin 128) : Memref sig .tc .hbm S128x1024 .f32 :=
  outAt (k0_off2 d (BitVec.ofNat 32 (128 * s.val))) (k0_off2_inb d s)
/-- Where chunk `c` from the `y` neighbour goes in the result. -/
def outDir (d : Dev nD) (c : Fin 64) : Memref sig .tc .hbm S128x1024 .f32 :=
  outAt (k0_off3 d (BitVec.ofNat 32 (128 * c.val))) (k0_off3_inb d c)
/-- Where chunk `c` forwarded by the `x` neighbour goes in the result. -/
def outFwd (d : Dev nD) (c : Fin 64) : Memref sig .tc .hbm S128x1024 .f32 :=
  outAt (k0_off4 d (BitVec.ofNat 32 (128 * c.val))) (k0_off4_inb d c)
/-- The slot chunk `c` from the `y` neighbour lands in. -/
def dSlot (c : Fin 64) : Memref sig .tc .vmem S128x1024 .f32 :=
  ((Memref.whole cc0_scratch0).slice (Rect.unit (s := S8x128x1024) ![c.val % 8, 0, 0] S1x128x1024.size (slot8_inb c))
    (fun _ => rfl)).squeeze S128x1024 squeezes_S1x128x1024_S128x1024
/-- The slot chunk `c` forwarded by the `x` neighbour lands in. -/
def fSlot (c : Fin 64) : Memref sig .tc .vmem S128x1024 .f32 :=
  ((Memref.whole cc0_scratch1).slice (Rect.unit (s := S8x128x1024) ![c.val % 8, 0, 0] S1x128x1024.size (slot8_inb c))
    (fun _ => rfl)).squeeze S128x1024 squeezes_S1x128x1024_S128x1024
/-- The staging buffer of stage `s`. -/
def stg (s : Fin 128) : Memref sig .tc .vmem S128x1024 .f32 :=
  ((Memref.whole cc0_scratch2).slice (Rect.unit (s := S2x128x1024) ![s.val % 2, 0, 0] S1x128x1024.size (slot2_inb s))
    (fun _ => rfl)).squeeze S128x1024 squeezes_S1x128x1024_S128x1024

/-! ## The semaphores -/

/-- The index of stage `s` lies in a pair of semaphores. -/
theorem sem2_inb (s : Fin 128) : ∀ a, (![s.val % 2] : Fin 1 → Nat) a + S1.size a ≤ S2.size a := by
  intro a; have := Nat.mod_lt s.val (show 0 < 2 by decide); fin_cases a; change s.val % 2 + 1 ≤ 2; omega
/-- The index of chunk `c` lies in an array of eight semaphores. -/
theorem sem8_inb (c : Fin 64) : ∀ a, (![c.val % 8] : Fin 1 → Nat) a + S1.size a ≤ S8.size a := by
  intro a; have := Nat.mod_lt c.val (show 0 < 8 by decide); fin_cases a; change c.val % 8 + 1 ≤ 8; omega
/-- The index of chunk `c` lies in an array of sixty-four semaphores. -/
theorem sem64_inb (c : Fin 64) : ∀ a, (![c.val] : Fin 1 → Nat) a + S1.size a ≤ S64.size a := by
  intro a; have := c.isLt; fin_cases a; change c.val + 1 ≤ 64; omega

/-- One of a pair of semaphores. -/
abbrev at2 (x : DmaSems sig S2) (s : Fin 128) : DmaSem sig :=
  ((x.slice (Rect.unit (s := S2) ![s.val % 2] S1.size (sem2_inb s))).squeeze S_ squeezes_S1_S_).sem
/-- One of eight semaphores. -/
abbrev at8 (x : DmaSems sig S8) (c : Fin 64) : DmaSem sig :=
  ((x.slice (Rect.unit (s := S8) ![c.val % 8] S1.size (sem8_inb c))).squeeze S_ squeezes_S1_S_).sem
/-- One of sixty-four semaphores. -/
abbrev at64 (x : DmaSems sig S64) (c : Fin 64) : DmaSem sig :=
  ((x.slice (Rect.unit (s := S64) ![c.val] S1.size (sem64_inb c))).squeeze S_ squeezes_S1_S_).sem

/-- The semaphore of the copy of stage `s` into its staging slot. -/
def inSem (s : Fin 128) : DmaSem sig := at2 cc0_scratch3 s
/-- The semaphore of the copy of stage `s` from its staging slot to the result. -/
def outSem (s : Fin 128) : DmaSem sig := at2 cc0_scratch4 s
/-- The semaphore of the copy of a direct chunk to the result. -/
def drSem (c : Fin 64) : DmaSem sig := at8 cc0_scratch5 c
/-- The semaphore of the copy of a forwarded chunk to the result. -/
def frSem (c : Fin 64) : DmaSem sig := at8 cc0_scratch6 c
/-- The sender's semaphore of a direct chunk. -/
def dsSem (c : Fin 64) : DmaSem sig := at64 cc0_scratch7 c
/-- The receiver's semaphore of a direct chunk. -/
def dvSem (c : Fin 64) : DmaSem sig := at64 cc0_scratch8 c
/-- The sender's semaphore of a forwarded chunk. -/
def fsSem (c : Fin 64) : DmaSem sig := at64 cc0_scratch9 c
/-- The receiver's semaphore of a forwarded chunk. -/
def fvSem (c : Fin 64) : DmaSem sig := at64 cc0_scratch10 c
/-- The barrier semaphore. -/
def bSem : Sem sig := (SemArray.scalar (sig.barrier 0 rfl) : Sems sig S_).sem
/-- The credits for slots of the `y` neighbour's direct buffer. -/
def cdSem : Sem sig := cc0_scratch11.sem
/-- The credits for slots of the `x` neighbour's forward buffer. -/
def cfSem : Sem sig := cc0_scratch12.sem

/-! ## The steps -/

/-- The kinds of operation in the body. -/
inductive Op
  | sigY | sigX | waitB
  | insS (s : Fin 128) | insW (s : Fin 128) | outS (s : Fin 128) | outW (s : Fin 128)
  | dS (c : Fin 64) | dSW (c : Fin 64) | dRW (c : Fin 64) | drS (c : Fin 64) | drW (c : Fin 64)
  | fS (c : Fin 64) | fSW (c : Fin 64) | fRW (c : Fin 64) | frS (c : Fin 64) | frW (c : Fin 64)
  | cDS | cDW | cFS | cFW

/-- The program type of the kernel's body. -/
abbrev PR (F : FTy → Type) [FloatOps F] := Prog (TpuEff nD τ sig (Elt F) Λ₀ .tc) PUnit

/-- What each kind of operation does on device `d`. -/
def act (d : Dev nD) : Op → PR F
  | .sigY => semSignalWord (yn d) bSem 1#32
  | .sigX => semSignalWord (xn d) bSem 1#32
  | .waitB => semWaitWord bSem 2#32
  | .insS s => Prog.lift (.enqueueDma (xStage s) (.here (stg s)) (.dma (inSem s)) (View.wordExact_bits rfl) ((View.wordExact_bits rfl).reshape _ _) ⟨Or.inl rfl, trivial⟩)
  | .insW s => Prog.lift (.waitDma2 (inSem s) (xStage s) (stg s) (View.wordExact_bits rfl) ((View.wordExact_bits rfl).reshape _ _))
  | .outS s => Prog.lift (.enqueueDma (stg s) (.here (outOwn d s)) (.dma (outSem s)) ((View.wordExact_bits rfl).reshape _ _) (View.wordExact_bits rfl) ⟨Or.inl rfl, trivial⟩)
  | .outW s => Prog.lift (.waitDma2 (outSem s) (stg s) (outOwn d s) ((View.wordExact_bits rfl).reshape _ _) (View.wordExact_bits rfl))
  | .dS c => Prog.lift (.enqueueDma (xSend d c) (.remote (Dev.tc (yn d)) (dSlot c) (.dma (dsSem c))) (.dma (dvSem c)) (View.wordExact_bits rfl) ((View.wordExact_bits rfl).reshape _ _) ⟨⟨rfl, Or.inl rfl⟩, trivial⟩)
  | .dSW c => Prog.lift (.waitDma2 (dsSem c) (dSlot c) (xSend d c) ((View.wordExact_bits rfl).reshape _ _) (View.wordExact_bits rfl))
  | .dRW c => Prog.lift (.waitDma2 (dvSem c) (xSend d c) (dSlot c) (View.wordExact_bits rfl) ((View.wordExact_bits rfl).reshape _ _))
  | .drS c => Prog.lift (.enqueueDma (dSlot c) (.here (outDir d c)) (.dma (drSem c)) ((View.wordExact_bits rfl).reshape _ _) (View.wordExact_bits rfl) ⟨Or.inl rfl, trivial⟩)
  | .drW c => Prog.lift (.waitDma2 (drSem c) (dSlot c) (outDir d c) ((View.wordExact_bits rfl).reshape _ _) (View.wordExact_bits rfl))
  | .fS c => Prog.lift (.enqueueDma (dSlot c) (.remote (Dev.tc (xn d)) (fSlot c) (.dma (fsSem c))) (.dma (fvSem c)) ((View.wordExact_bits rfl).reshape _ _) ((View.wordExact_bits rfl).reshape _ _) ⟨⟨rfl, Or.inl rfl⟩, trivial⟩)
  | .fSW c => Prog.lift (.waitDma2 (fsSem c) (fSlot c) (dSlot c) ((View.wordExact_bits rfl).reshape _ _) ((View.wordExact_bits rfl).reshape _ _))
  | .fRW c => Prog.lift (.waitDma2 (fvSem c) (dSlot c) (fSlot c) ((View.wordExact_bits rfl).reshape _ _) ((View.wordExact_bits rfl).reshape _ _))
  | .frS c => Prog.lift (.enqueueDma (fSlot c) (.here (outFwd d c)) (.dma (frSem c)) ((View.wordExact_bits rfl).reshape _ _) (View.wordExact_bits rfl) ⟨Or.inl rfl, trivial⟩)
  | .frW c => Prog.lift (.waitDma2 (frSem c) (fSlot c) (outFwd d c) ((View.wordExact_bits rfl).reshape _ _) (View.wordExact_bits rfl))
  | .cDS => semSignalWord (yn d) cdSem 1#32
  | .cDW => semWaitWord cdSem 1#32
  | .cFS => semSignalWord (xn d) cfSem 1#32
  | .cFW => semWaitWord cfSem 1#32

/-- A list of steps, one after another. -/
def seq (d : Dev nD) : List Op → PR F
  | [] => .ret ⟨⟩
  | o :: os => act d o >>= fun _ => seq d os

/-- A list put after another runs after it. -/
theorem seq_append (d : Dev nD) (a b : List Op) : (seq d (a ++ b) : PR F) = seq d a >>= fun _ => seq d b := by
  induction a with
  | nil => rfl
  | cons o os ih => simp only [List.cons_append, seq, ih, bind_assoc]

/-! ## The body -/

/-- Chunk number `n` (the body only uses numbers below 64). -/
abbrev ch (n : Nat) : Fin 64 := ⟨n % 64, Nat.mod_lt _ (by decide)⟩
/-- Stage number `n` (the body only uses numbers below 128). -/
abbrev sg (n : Nat) : Fin 128 := ⟨n % 128, Nat.mod_lt _ (by decide)⟩

/-- `l` when `b`, nothing otherwise. -/
def opt (b : Bool) (l : List Op) : List Op := match b with | true => l | false => []

/-- One stage of the copy of the device's own rows, with the next one's fetch started ahead. -/
def stageOps (s : Nat) : List Op :=
  opt (Nat.blt (s + 1) 128) (opt (Nat.ble 1 s) [.outW (sg (s - 1))] ++ [.insS (sg (s + 1))]) ++ [.insW (sg s), .outS (sg s)]
/-- Chunk `c` sent to the `y` neighbour, then two stages of the local copy. -/
def sendOps (c : Nat) : List Op :=
  opt (Nat.ble 8 c) [.cDW] ++ ([.dS (ch c)] ++ (stageOps (2 * c) ++ stageOps (2 * c + 1)))
/-- Chunk `r` received from the `y` neighbour, written out and forwarded. -/
def recvOps (r : Nat) : List Op := [.dRW (ch r), .drS (ch r)] ++ (opt (Nat.ble 8 r) [.cFW] ++ [.fS (ch r)])
/-- Chunk `r`'s slot emptied and handed back. -/
def drainOps (r : Nat) : List Op := [.drW (ch r), .fSW (ch r)] ++ opt (Nat.ble r 55) [.cDS]
/-- Forwarded chunk `r` received and written out. -/
def fwdOps (r : Nat) : List Op := [.fRW (ch r), .frS (ch r)]
/-- Forwarded chunk `r`'s slot emptied and handed back. -/
def fdrainOps (r : Nat) : List Op := [.frW (ch r)] ++ opt (Nat.ble r 55) [.cFS]
/-- Iteration `i` of the main loop. -/
def iterOps (i : Nat) : List Op :=
  opt (Nat.blt i 64) (sendOps i) ++
  opt (Nat.ble 2 i) (recvOps (i - 2)) ++
  opt (Nat.ble 4 i) (drainOps (i - 4) ++ fwdOps (i - 4)) ++
  opt (Nat.ble 6 i) (fdrainOps (i - 6))
/-- `n` consecutive pieces from number `i` on. -/
def rangeOps (f : Nat → List Op) : Nat → Nat → List Op
  | _, 0 => []
  | i, n + 1 => f i ++ rangeOps f (i + 1) n

/-- The steps before the loop. -/
def startOps : List Op := [.sigY, .sigX, .waitB, .insS (sg 0)]
/-- The steps after the loop. -/
def endOps : List Op :=
  rangeOps drainOps 62 2 ++ (rangeOps fwdOps 62 2 ++ (rangeOps fdrainOps 60 4 ++
    ([.outW (sg 126), .outW (sg 127)] ++ rangeOps (fun c => [.dSW (ch c)]) 0 64)))
/-- All the steps. -/
def allOps : List Op := startOps ++ (rangeOps iterOps 0 66 ++ endOps)

set_option maxRecDepth 65536 in
/-- The printed body is: read the device's number, then run the list of steps. -/
theorem body_eq : bodyAt0 (F := F) t0_0 = .op .deviceId fun d => seq d allOps := by chain_rfl

end Cert.K01

end
-- ==== Proof.Protocol.lean ====
/- The protocol between the devices, as data: the semaphores every device shares with its neighbours, what each
   unit on them hands over, in which order they are waited for, and who owns a receive slot when. -/
module

public import proofs.«01_k».proof.Proof.Prog
public import Idealize.ShloMosaic.Lib.Pipeline.Launch
public import Idealize.ShloMosaic.Lib.Pipeline.Kit
public import Idealize.ShloMosaic.Lib.Pipeline.CollectiveSegs
public import Idealize.ShloMosaic.Lib.Release
public import Idealize.ShloMosaic.Lib.Transfers
public import Idealize.ShloMosaic.Lib.Tactic

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- A receive slot's name: the device holding it, the buffer (`true` for chunks straight from their owner,
    `false` for forwarded ones) and the chunk. -/
abbrev Key : Type := Dev nD × Bool × Fin 64

/-- The kernel's own ghost state: rounds of the shared semaphores, the receive slots, and counters. -/
abbrev UB : Type := URounds (GSem nD τ sig) ℕ × (Release.USlots Key × Counters)
/-- The whole ghost state: the pipeline's and the kernel's own. -/
abbrev UU : Type := UR sig nD τ × UB

local notation "𝕄" => MT nD τ sig ℕ (Elt F) ℕ UU ℕ

/-- Where the pipeline's ghost state lies. -/
abbrev EP : Emb (UR sig nD τ) (MT nD τ sig ℕ (Elt F) ℕ UU ℕ) := embL
/-- Where the kernel's own ghost state lies in the whole. -/
def EB : Emb UB (MT nD τ sig ℕ (Elt F) ℕ UU ℕ) := embR
/-- Where the rounds of the shared semaphores lie in the whole. -/
def ER : Emb (URounds (GSem nD τ sig) ℕ) (MT nD τ sig ℕ (Elt F) ℕ UU ℕ) := Emb.inl.trans EB
/-- Where the receive slots lie in the whole. -/
def EK : Emb (Release.USlots Key) (MT nD τ sig ℕ (Elt F) ℕ UU ℕ) := (Emb.inl.trans Emb.inr).trans EB
/-- Where the counters lie in the whole. -/
abbrev EC : UEmb Counters (MT nD τ sig ℕ (Elt F) ℕ UU ℕ) := countersEmb

/-- The kernel's own ghost state is part of the whole. -/
instance EB_landsIn : (EB : Emb UB 𝕄).LandsIn (upEmb : UEmb _ 𝕄) := by unfold EB; infer_instance
/-- The rounds are part of the whole. -/
instance ER_landsIn : (ER : Emb _ 𝕄).LandsIn (upEmb : UEmb _ 𝕄) := by unfold ER; infer_instance
/-- The receive slots are part of the whole. -/
instance EK_landsIn : (EK : Emb _ 𝕄).LandsIn (upEmb : UEmb _ 𝕄) := by unfold EK; infer_instance
/-- The counters are part of the whole. -/
instance EC_landsIn : (EC (F := F)).LandsIn (upEmb : UEmb _ 𝕄) := by infer_instance

variable (m : (ℓ : Loc nD τ sig) → Buf (Elt F) ℓ)

/-! ## The neighbours -/

/-- The `y` neighbour's `y` neighbour is the device itself. -/
theorem yn_yn (d : Dev nD) : yn (yn d) = d := by revert d; decide
/-- The `x` neighbour's `x` neighbour is the device itself. -/
theorem xn_xn (d : Dev nD) : xn (xn d) = d := by revert d; decide
/-- The number of the `y` neighbour. -/
theorem yn_val (d : Dev nD) : (yn d).val = 2 * (d.val / 2) + (1 - d.val % 2) := by revert d; decide
/-- The number of the `x` neighbour. -/
theorem xn_val (d : Dev nD) : (xn d).val = 2 * (1 - d.val / 2) + d.val % 2 := by revert d; decide
/-- Different devices have different `y` neighbours. -/
theorem yn_inj {a b : Dev nD} (h : yn a = yn b) : a = b := by rw [← yn_yn a, h, yn_yn]
/-- Different devices have different `x` neighbours. -/
theorem xn_inj {a b : Dev nD} (h : xn a = xn b) : a = b := by rw [← xn_xn a, h, xn_xn]

/-- The chunk numbered as `c` is `c`. -/
theorem ch_val (c : Fin 64) : ch c.val = c := Fin.ext (Nat.mod_eq_of_lt c.isLt)
/-- The stage numbered as `s` is `s`. -/
theorem sg_val (s : Fin 128) : sg s.val = s := Fin.ext (Nat.mod_eq_of_lt s.isLt)

/-! ## The shared semaphores -/

/-- The senders' semaphores of direct chunks start at 20. -/
theorem dsSem_val (c : Fin 64) : (dsSem c).val = 20 + c.val := by revert c; decide
/-- The receivers' semaphores of direct chunks start at 84. -/
theorem dvSem_val (c : Fin 64) : (dvSem c).val = 84 + c.val := by revert c; decide
/-- The senders' semaphores of forwarded chunks start at 148. -/
theorem fsSem_val (c : Fin 64) : (fsSem c).val = 148 + c.val := by revert c; decide
/-- The receivers' semaphores of forwarded chunks start at 212. -/
theorem fvSem_val (c : Fin 64) : (fvSem c).val = 212 + c.val := by revert c; decide
/-- The semaphores of the stages on their way in are the first two. -/
theorem inSem_val (s : Fin 128) : (inSem s).val = s.val % 2 := by revert s; decide
/-- The semaphores of the stages on their way out start at 2. -/
theorem outSem_val (s : Fin 128) : (outSem s).val = 2 + s.val % 2 := by revert s; decide
/-- The semaphores of direct chunks on their way to the result start at 4. -/
theorem drSem_val (c : Fin 64) : (drSem c).val = 4 + c.val % 8 := by revert c; decide
/-- The semaphores of forwarded chunks on their way to the result start at 12. -/
theorem frSem_val (c : Fin 64) : (frSem c).val = 12 + c.val % 8 := by revert c; decide
/-- The barrier is not the credits for direct slots. -/
theorem bSem_ne_cd : bSem ≠ cdSem := by decide
/-- The barrier is not the credits for forward slots. -/
theorem bSem_ne_cf : bSem ≠ cfSem := by decide
/-- The two credit semaphores are different. -/
theorem cdSem_ne_cf : cdSem ≠ cfSem := by decide

/-- Device `d`'s semaphore for having sent direct chunk `c`. -/
abbrev dsCell (d : Dev nD) (c : Fin 64) : GSem nD τ sig := ((d : Thread nD τ), .dma (dsSem c))
/-- Device `d`'s semaphore for having received direct chunk `c`. -/
abbrev dvCell (d : Dev nD) (c : Fin 64) : GSem nD τ sig := ((d : Thread nD τ), .dma (dvSem c))
/-- Device `d`'s semaphore for having forwarded chunk `c`. -/
abbrev fsCell (d : Dev nD) (c : Fin 64) : GSem nD τ sig := ((d : Thread nD τ), .dma (fsSem c))
/-- Device `d`'s semaphore for having received forwarded chunk `c`. -/
abbrev fvCell (d : Dev nD) (c : Fin 64) : GSem nD τ sig := ((d : Thread nD τ), .dma (fvSem c))
/-- Device `d`'s semaphore for credits of its `y` neighbour. -/
abbrev cdCell (d : Dev nD) : GSem nD τ sig := ((d : Thread nD τ), .reg cdSem)
/-- Device `d`'s semaphore for credits of its `x` neighbour. -/
abbrev cfCell (d : Dev nD) : GSem nD τ sig := ((d : Thread nD τ), .reg cfSem)
/-- Device `d`'s barrier. -/
abbrev bCell (d : Dev nD) : GSem nD τ sig := ((d : Thread nD τ), .reg bSem)

/-! ## What the units hand over -/

/-- The argument of device `d`. -/
def xc (d : Dev nD) : Buf (Elt F) ((d : Thread nD τ).loc main_arg0) := m ((d : Thread nD τ).loc main_arg0)

/-- Chunk `c` as device `d` gets it from its `y` neighbour. -/
def dval (d : Dev nD) (c : Fin 64) : S128x1024.Idx → Elt F .f32 := (xSend (yn d) c).view.read (Elt F) (xc m (yn d))

/-- Device `d`'s direct buffer with chunk `c` landed. -/
def Dbuf (d : Dev nD) (c : Fin 64) : Buf (Elt F) ((dSlot c).view.loc (d : Thread nD τ)) :=
  (dSlot c).view.write (Elt F) (m ((dSlot c).view.loc (d : Thread nD τ))) (dval m d c) Finset.univ
/-- Device `d`'s forward buffer with chunk `c` landed. -/
def Fbuf (d : Dev nD) (c : Fin 64) : Buf (Elt F) ((fSlot c).view.loc (d : Thread nD τ)) :=
  (fSlot c).view.write (Elt F) (m ((fSlot c).view.loc (d : Thread nD τ))) (dval m (xn d) c) Finset.univ

/-- Share `q` of chunk `c` of the half of the argument device `d` sends. -/
def xSendPts (q : PosShare TreeShare) (d : Dev nD) (c : Fin 64) : sProp 𝕄 :=
  (xSend d c).view.loc (d : Thread nD τ) ↦[(xSend d c).view.set]{q} xc m d
/-- Share `q` of the slot of device `d`'s direct buffer holding chunk `c`. -/
def dPts (q : PosShare TreeShare) (d : Dev nD) (c : Fin 64) : sProp 𝕄 :=
  (dSlot c).view.loc (d : Thread nD τ) ↦[(dSlot c).view.set]{q} Dbuf m d c
/-- Share `q` of the slot of device `d`'s forward buffer holding chunk `c`. -/
def fPts (q : PosShare TreeShare) (d : Dev nD) (c : Fin 64) : sProp 𝕄 :=
  (fSlot c).view.loc (d : Thread nD τ) ↦[(fSlot c).view.set]{q} Fbuf m d c

/-- The receive slot named by `k`, whole, at any contents. -/
def Sl : Key → sProp 𝕄
  | (d, true, c) => Release.slot ((dSlot c).view.loc (d : Thread nD τ)) (dSlot c).view.set
  | (d, false, c) => Release.slot ((fSlot c).view.loc (d : Thread nD τ)) (fSlot c).view.set

/-- The slots of the first `n` chunks of buffer `b` of device `e` have been given to their writer. -/
def relTo (b : Bool) (e : Dev nD) (n : ℕ) : sProp 𝕄 :=
  bigSep (Finset.range n) fun i => Release.released EK ((e, b, ch i) : Key) 1

/-- Once slots are given, that stays known. -/
instance relTo_persistent (b : Bool) (e : Dev nD) (n : ℕ) : BI.Persistent (relTo (F := F) b e n) := by unfold relTo; infer_instance
/-- Knowledge of given slots can be handed over at a semaphore. -/
instance relTo_storable (b : Bool) (e : Dev nD) (n : ℕ) : Storable (upEmb : UEmb _ 𝕄) (relTo (F := F) b e n) := by unfold relTo; infer_instance
/-- A receive slot can be handed over. -/
instance Sl_storable (k : Key) : Storable (upEmb : UEmb _ 𝕄) (Sl (F := F) k) := by
  rcases k with ⟨d, b, c⟩; cases b <;> (unfold Sl; infer_instance)
/-- A chunk of the argument can be handed over at a semaphore. -/
instance xSendPts_storable (q : PosShare TreeShare) (d : Dev nD) (c : Fin 64) : Storable (upEmb : UEmb _ 𝕄) (xSendPts m q d c) :=
  inferInstanceAs (Storable (upEmb : UEmb _ 𝕄) ((xSend d c).view.loc (d : Thread nD τ) ↦[(xSend d c).view.set]{q} m ((xSend d c).view.loc (d : Thread nD τ))))
/-- A slot of the direct buffer can be handed over at a semaphore. -/
instance dPts_storable (q : PosShare TreeShare) (d : Dev nD) (c : Fin 64) : Storable (upEmb : UEmb _ 𝕄) (dPts m q d c) := by unfold dPts; infer_instance
/-- A slot of the forward buffer can be handed over at a semaphore. -/
instance fPts_storable (q : PosShare TreeShare) (d : Dev nD) (c : Fin 64) : Storable (upEmb : UEmb _ 𝕄) (fPts m q d c) := by unfold fPts; infer_instance

/-- The bytes' worth of units one chunk's transfer puts on its semaphores. -/
def N : ℕ := (xSend (0 : Dev nD) 0).view.dmaCredit

/-- What one chunk's transfer hands over at its semaphore `i`. -/
def dmaPay (d : Dev nD) (i : ℕ) : sProp 𝕄 :=
  if i < 84 then xSendPts m fullShare.right d (ch (i - 20))
  else if i < 148 then dPts m fullShare d (ch (i - 84))
  else if i < 212 then dPts m fullShare.right d (ch (i - 148))
  else fPts m fullShare d (ch (i - 212))

/-- What contribution `n` to semaphore `s` of device `d` tells it: which receive slots have been given to it. -/
def regPay (d : Dev nD) (s : Sem sig) (n : ℕ) : sProp 𝕄 :=
  if s = bSem then (if n = 0 then relTo true (yn d) 8 else relTo false (xn d) 8)
  else if s = cdSem then relTo true (yn d) (n + 9) else relTo false (xn d) (n + 9)

/-- What a transfer hands over can be handed over at a semaphore. -/
instance dmaPay_storable (d : Dev nD) (i : ℕ) : Storable (upEmb : UEmb _ 𝕄) (dmaPay m d i) := by
  unfold dmaPay; split
  · infer_instance
  · split
    · infer_instance
    · split <;> infer_instance
/-- What a signal tells can be handed over at a semaphore. -/
instance regPay_storable (d : Dev nD) (s : Sem sig) (n : ℕ) : Storable (upEmb : UEmb _ 𝕄) (regPay (F := F) d s n) := by
  unfold regPay; split
  · split <;> infer_instance
  · split <;> infer_instance

/-- The schedule: every shared semaphore has one round. A transfer's semaphore has one contribution, the
    transfer's; the barrier has one from each neighbour; a credit semaphore has 56, of one unit each. -/
def Rd : Schedule (GSem nD τ sig) ℕ 𝕄 where
  duties g r := if r = 0 then (match g.2 with
    | .dma i => if 20 ≤ i.val then {0} else ∅
    | .reg s => if s = bSem then {0, 1} else Finset.range 56) else ∅
  amount g _ _ := match g.2 with
    | .dma _ => N
    | .reg _ => 1
  payload g _ n := match g.2 with
    | .dma i => dmaPay m g.1.1 i.val
    | .reg s => regPay g.1.1 s n
  amount_pos g r d h := by
    rcases g with ⟨t, s | s⟩
    · exact Nat.one_pos
    · show 0 < N
      unfold N; decide

/-- Whatever the schedule hands over can be handed over at a semaphore. -/
instance payload_storable (g : GSem nD τ sig) (r n : ℕ) : Storable (upEmb : UEmb _ 𝕄) ((Rd m).payload g r n) := by
  rcases g with ⟨t, s | s⟩
  · exact regPay_storable t.1 s n
  · exact dmaPay_storable m t.1 s.val

/-- No semaphore has contributions after its first round. -/
theorem duties_later (g : GSem nD τ sig) (r : ℕ) (h : 0 + 1 ≤ r) : (Rd m).duties g r = ∅ := if_neg (by omega)
/-- A transfer's semaphore has one contribution. -/
theorem duties_dma (d : Dev nD) (i : DmaSem sig) (h : 20 ≤ i.val) : (Rd m).duties ((d : Thread nD τ), .dma i) 0 = {0} := by
  show (if (0 : ℕ) = 0 then (if 20 ≤ i.val then ({0} : Finset ℕ) else ∅) else ∅) = {0}
  rw [if_pos rfl, if_pos h]
/-- The barrier has two contributions. -/
theorem duties_b (d : Dev nD) : (Rd m).duties (bCell d) 0 = {0, 1} := by
  show (if (0 : ℕ) = 0 then (if bSem = bSem then ({0, 1} : Finset ℕ) else Finset.range 56) else ∅) = {0, 1}
  rw [if_pos rfl, if_pos rfl]
/-- The credits for direct slots are 56. -/
theorem duties_cd (d : Dev nD) : (Rd m).duties (cdCell d) 0 = Finset.range 56 := by
  show (if (0 : ℕ) = 0 then (if cdSem = bSem then ({0, 1} : Finset ℕ) else Finset.range 56) else ∅) = _
  rw [if_pos rfl, if_neg bSem_ne_cd.symm]
/-- The credits for forward slots are 56. -/
theorem duties_cf (d : Dev nD) : (Rd m).duties (cfCell d) 0 = Finset.range 56 := by
  show (if (0 : ℕ) = 0 then (if cfSem = bSem then ({0, 1} : Finset ℕ) else Finset.range 56) else ∅) = _
  rw [if_pos rfl, if_neg bSem_ne_cf.symm]

/-- The senders' semaphores of direct chunks come after those of the local copies. -/
theorem ds_ge (c : Fin 64) : 20 ≤ (dsSem c).val := by rw [dsSem_val]; omega
/-- The receivers' semaphores of direct chunks come after those of the local copies. -/
theorem dv_ge (c : Fin 64) : 20 ≤ (dvSem c).val := by rw [dvSem_val]; omega
/-- The senders' semaphores of forwarded chunks come after those of the local copies. -/
theorem fs_ge (c : Fin 64) : 20 ≤ (fsSem c).val := by rw [fsSem_val]; omega
/-- The receivers' semaphores of forwarded chunks come after those of the local copies. -/
theorem fv_ge (c : Fin 64) : 20 ≤ (fvSem c).val := by rw [fvSem_val]; omega

/-- A transfer's semaphore gets one chunk's units in all. -/
theorem expect_dma (d : Dev nD) (i : DmaSem sig) (h : 20 ≤ i.val) : (Rd m).expect ((d : Thread nD τ), .dma i) 0 = N := by
  unfold Schedule.expect Schedule.amountOf; rw [duties_dma m d i h, Finset.sum_singleton]; rfl
/-- The barrier gets two units in all. -/
theorem expect_b (d : Dev nD) : (Rd m).expect (bCell d) 0 = 2 := by
  unfold Schedule.expect Schedule.amountOf; rw [duties_b]; rfl
/-- The credits for direct slots are 56 units in all. -/
theorem expect_cd (d : Dev nD) : (Rd m).expect (cdCell d) 0 = 56 := by
  unfold Schedule.expect Schedule.amountOf; rw [duties_cd]; exact (Finset.sum_const _).trans (by simp)
/-- The credits for forward slots are 56 units in all. -/
theorem expect_cf (d : Dev nD) : (Rd m).expect (cfCell d) 0 = 56 := by
  unfold Schedule.expect Schedule.amountOf; rw [duties_cf]; exact (Finset.sum_const _).trans (by simp)

/-- A direct chunk that has been sent: the share of the argument that was read comes back. -/
theorem payload_ds (d : Dev nD) (c : Fin 64) (n : ℕ) : (Rd m).payload (dsCell d c) 0 n = xSendPts m fullShare.right d c := by
  show dmaPay m d (dsSem c).val = _
  have := c.isLt
  unfold dmaPay
  rw [dsSem_val, if_pos (by omega), Nat.add_sub_cancel_left, ch_val]
/-- A direct chunk that has arrived: its slot, holding the chunk. -/
theorem payload_dv (d : Dev nD) (c : Fin 64) (n : ℕ) : (Rd m).payload (dvCell d c) 0 n = dPts m fullShare d c := by
  show dmaPay m d (dvSem c).val = _
  have := c.isLt
  unfold dmaPay
  rw [dvSem_val, if_neg (by omega), if_pos (by omega), Nat.add_sub_cancel_left, ch_val]
/-- A chunk that has been forwarded: the half share of the slot that was read comes back. -/
theorem payload_fs (d : Dev nD) (c : Fin 64) (n : ℕ) : (Rd m).payload (fsCell d c) 0 n = dPts m fullShare.right d c := by
  show dmaPay m d (fsSem c).val = _
  have := c.isLt
  unfold dmaPay
  rw [fsSem_val, if_neg (by omega), if_neg (by omega), if_pos (by omega), Nat.add_sub_cancel_left, ch_val]
/-- A forwarded chunk that has arrived: its slot, holding the chunk. -/
theorem payload_fv (d : Dev nD) (c : Fin 64) (n : ℕ) : (Rd m).payload (fvCell d c) 0 n = fPts m fullShare d c := by
  show dmaPay m d (fvSem c).val = _
  have := c.isLt
  unfold dmaPay
  rw [fvSem_val, if_neg (by omega), if_neg (by omega), if_neg (by omega), Nat.add_sub_cancel_left, ch_val]
/-- The `y` neighbour's barrier signal: the first eight slots of its direct buffer are given. -/
theorem payload_b0 (d : Dev nD) : (Rd m).payload (bCell d) 0 0 = relTo true (yn d) 8 := by
  show regPay d bSem 0 = _
  unfold regPay; rw [if_pos rfl, if_pos rfl]
/-- The `x` neighbour's barrier signal: the first eight slots of its forward buffer are given. -/
theorem payload_b1 (d : Dev nD) : (Rd m).payload (bCell d) 0 1 = relTo false (xn d) 8 := by
  show regPay d bSem 1 = _
  unfold regPay; rw [if_pos rfl, if_neg Nat.one_ne_zero]
/-- Credit `n` of the `y` neighbour: the slots of `n + 9` chunks of its direct buffer have been given. -/
theorem payload_cd (d : Dev nD) (n : ℕ) : (Rd m).payload (cdCell d) 0 n = relTo true (yn d) (n + 9) := by
  show regPay d cdSem n = _
  unfold regPay; rw [if_neg bSem_ne_cd.symm, if_pos rfl]
/-- Credit `n` of the `x` neighbour: the slots of `n + 9` chunks of its forward buffer have been given. -/
theorem payload_cf (d : Dev nD) (n : ℕ) : (Rd m).payload (cfCell d) 0 n = relTo false (xn d) (n + 9) := by
  show regPay d cfSem n = _
  unfold regPay; rw [if_neg bSem_ne_cf.symm, if_neg cdSem_ne_cf.symm]

/-! ## The order of the waits -/

/-- The level of a unit: its place in the order of waits. What a device still owes is always above what it
    waits for. -/
def dmaLv (i : ℕ) : ℕ := if i < 84 then 0 else if i < 148 then i - 84 + 1 else if i < 212 then 0 else i - 212 + 3
/-- The level of a signal's unit. -/
def regLv (s : Sem sig) (n : ℕ) : ℕ := if s = cdSem then n + 5 else if s = cfSem then n + 7 else 0
/-- The level of any unit. -/
def lv (g : GSem nD τ sig) (n : ℕ) : ℕ := match g.2 with
  | .dma i => dmaLv i.val
  | .reg s => regLv s n
/-- The units that have a level. -/
def L (g : GSem nD τ sig) : Finset ℕ := if g.1.2 = .tc then Finset.range 56 else ∅
/-- Only TensorCore semaphores have levels. -/
theorem L_of_ne (g : GSem nD τ sig) (h : g.1.2 ≠ .tc) : L g = ∅ := if_neg h
/-- The units of a TensorCore semaphore that have a level. -/
theorem L_tc (d : Dev nD) (sm : SemLoc sig) : L ((d : Thread nD τ), sm) = Finset.range 56 := if_pos rfl

/-- The level of a direct chunk's arrival. -/
theorem lv_dv (d : Dev nD) (c : Fin 64) : lv (dvCell d c) 0 = c.val + 1 := by
  show dmaLv (dvSem c).val = _
  have := c.isLt
  unfold dmaLv; rw [dvSem_val, if_neg (by omega), if_pos (by omega)]; omega
/-- The level of a forwarded chunk's arrival. -/
theorem lv_fv (d : Dev nD) (c : Fin 64) : lv (fvCell d c) 0 = c.val + 3 := by
  show dmaLv (fvSem c).val = _
  have := c.isLt
  unfold dmaLv; rw [fvSem_val, if_neg (by omega), if_neg (by omega), if_neg (by omega)]; omega
/-- The level of a credit for a direct slot. -/
theorem lv_cd (d : Dev nD) (n : ℕ) : lv (cdCell d) n = n + 5 := by
  show regLv cdSem n = _
  unfold regLv; rw [if_pos rfl]
/-- The level of a credit for a forward slot. -/
theorem lv_cf (d : Dev nD) (n : ℕ) : lv (cfCell d) n = n + 7 := by
  show regLv cfSem n = _
  unfold regLv; rw [if_neg cdSem_ne_cf.symm, if_pos rfl]
/-- The barrier is at the lowest level. -/
theorem lv_b (d : Dev nD) (n : ℕ) : lv (bCell d) n = 0 := by
  show regLv bSem n = _
  unfold regLv; rw [if_neg bSem_ne_cd, if_neg bSem_ne_cf]
/-- The local copies and the sending of direct chunks are at the lowest level. -/
theorem lv_low (d : Dev nD) (i : DmaSem sig) (h : i.val < 84) (n : ℕ) : lv ((d : Thread nD τ), .dma i) n = 0 := by
  show dmaLv i.val = 0
  exact if_pos h
/-- The sending of forwarded chunks is at the lowest level. -/
theorem lv_fs (d : Dev nD) (c : Fin 64) (n : ℕ) : lv (fsCell d c) n = 0 := by
  show dmaLv (fsSem c).val = 0
  have := c.isLt
  unfold dmaLv; rw [fsSem_val, if_neg (by omega), if_neg (by omega), if_pos (by omega)]

/-! ## What a device owes -/

/-- What device `d` owes once it has sent `a` chunks, forwarded `b`, and returned `p` and `q` slots of its two
    buffers: the deliveries and the credits it will still make. -/
def ow (d : Dev nD) (a b p q : ℕ) : CellTallies nD τ sig ℕ :=
  (∑ k ∈ Finset.Ico a 64, tallyAt (dvCell (yn d) (ch k)) 0 N) + (∑ k ∈ Finset.Ico b 64, tallyAt (fvCell (xn d) (ch k)) 0 N)
    + (∑ k ∈ Finset.Ico p 56, tallyAt (cdCell (yn d)) k 1) + (∑ k ∈ Finset.Ico q 56, tallyAt (cfCell (xn d)) k 1)

/-- What it owes at the start: all of it, and the two signals of the barrier. -/
def O₀ (d : Dev nD) : CellTallies nD τ sig ℕ := ow d 0 0 0 0 + tallyAt (bCell (xn d)) 0 1 + tallyAt (bCell (yn d)) 0 1

/-- A sum over an interval, its first term apart. -/
theorem sum_Ico_bot {A : Type} [AddCommMonoid A] {a b : ℕ} (h : a < b) (f : ℕ → A) :
    ∑ k ∈ Finset.Ico a b, f k = ∑ k ∈ Finset.Ico (a + 1) b, f k + f a := by
  rw [show Finset.Ico a b = insert a (Finset.Ico (a + 1) b) by ext x; simp only [Finset.mem_Ico, Finset.mem_insert]; omega,
    Finset.sum_insert (by rw [Finset.mem_Ico]; omega), add_comm]

/-- The next direct chunk is among what is owed. -/
theorem ow_send (d : Dev nD) (a b p q : ℕ) (h : a < 64) : ow d a b p q = ow d (a + 1) b p q + tallyAt (dvCell (yn d) (ch a)) 0 N := by
  unfold ow; rw [sum_Ico_bot h]; ac_rfl
/-- The next forwarded chunk is among what is owed. -/
theorem ow_fwd (d : Dev nD) (a b p q : ℕ) (h : b < 64) : ow d a b p q = ow d a (b + 1) p q + tallyAt (fvCell (xn d) (ch b)) 0 N := by
  unfold ow; rw [sum_Ico_bot h]; ac_rfl
/-- The next credit to the `y` neighbour is among what is owed. -/
theorem ow_cd (d : Dev nD) (a b p q : ℕ) (h : p < 56) : ow d a b p q = ow d a b (p + 1) q + tallyAt (cdCell (yn d)) p 1 := by
  unfold ow; rw [sum_Ico_bot h]; ac_rfl
/-- The next credit to the `x` neighbour is among what is owed. -/
theorem ow_cf (d : Dev nD) (a b p q : ℕ) (h : q < 56) : ow d a b p q = ow d a b p (q + 1) + tallyAt (cfCell (xn d)) q 1 := by
  unfold ow; rw [sum_Ico_bot h]; ac_rfl
/-- After the last of each, nothing is owed. -/
theorem ow_end (d : Dev nD) (a b p q : ℕ) (ha : 64 ≤ a) (hb : 64 ≤ b) (hp : 56 ≤ p) (hq : 56 ≤ q) : ow d a b p q = 0 := by
  unfold ow
  rw [Finset.Ico_eq_empty (by omega), Finset.Ico_eq_empty (by omega), Finset.Ico_eq_empty (by omega), Finset.Ico_eq_empty (by omega)]
  simp

/-- A unit in a sum of tallies is in one of them. -/
theorem sum_tally_pos {S : Finset ℕ} {f : ℕ → CellTallies nD τ sig ℕ} {g : GSem nD τ sig} {u : ℕ}
    (h : 0 < (∑ k ∈ S, f k) g u) : ∃ k ∈ S, 0 < f k g u := by
  by_contra hn
  push Not at hn
  rw [Finset.sum_apply, Finsupp.finset_sum_apply, Finset.sum_eq_zero (fun k hk => Nat.le_zero.mp (hn k hk))] at h
  exact absurd h (Nat.lt_irrefl 0)

/-- A single tally has units only at its own place. -/
theorem tally_pos {g g' : GSem nD τ sig} {i u n : ℕ} (h : 0 < (tallyAt g i n : CellTallies nD τ sig ℕ) g' u) : g' = g ∧ u = i := by
  rw [tallyAt_apply] at h
  by_contra hn
  rw [if_neg hn] at h; exact absurd h (Nat.lt_irrefl 0)

/-- A unit owed is a delivery or a credit still to come. -/
theorem ow_pos {d : Dev nD} {a b p q : ℕ} {g : GSem nD τ sig} {u : ℕ} (h : 0 < ow d a b p q g u) :
    (∃ k, a ≤ k ∧ k < 64 ∧ g = dvCell (yn d) (ch k) ∧ u = 0) ∨ (∃ k, b ≤ k ∧ k < 64 ∧ g = fvCell (xn d) (ch k) ∧ u = 0)
      ∨ (∃ k, p ≤ k ∧ k < 56 ∧ g = cdCell (yn d) ∧ u = k) ∨ (∃ k, q ≤ k ∧ k < 56 ∧ g = cfCell (xn d) ∧ u = k) := by
  unfold ow at h
  simp only [Pi.add_apply, Finsupp.add_apply] at h
  rcases Nat.lt_or_ge 0 ((∑ k ∈ Finset.Ico a 64, tallyAt (dvCell (yn d) (ch k)) 0 N : CellTallies nD τ sig ℕ) g u) with h1 | h1
  · obtain ⟨k, hk, hp⟩ := sum_tally_pos h1
    have := Finset.mem_Ico.mp hk
    exact .inl ⟨k, this.1, this.2, tally_pos hp⟩
  rcases Nat.lt_or_ge 0 ((∑ k ∈ Finset.Ico b 64, tallyAt (fvCell (xn d) (ch k)) 0 N : CellTallies nD τ sig ℕ) g u) with h2 | h2
  · obtain ⟨k, hk, hp⟩ := sum_tally_pos h2
    have := Finset.mem_Ico.mp hk
    exact .inr (.inl ⟨k, this.1, this.2, tally_pos hp⟩)
  rcases Nat.lt_or_ge 0 ((∑ k ∈ Finset.Ico p 56, tallyAt (cdCell (yn d)) k 1 : CellTallies nD τ sig ℕ) g u) with h3 | h3
  · obtain ⟨k, hk, hp⟩ := sum_tally_pos h3
    have := Finset.mem_Ico.mp hk
    exact .inr (.inr (.inl ⟨k, this.1, this.2, tally_pos hp⟩))
  obtain ⟨k, hk, hp⟩ := sum_tally_pos (show 0 < (∑ k ∈ Finset.Ico q 56, tallyAt (cfCell (xn d)) k 1 : CellTallies nD τ sig ℕ) g u by omega)
  have := Finset.mem_Ico.mp hk
  exact .inr (.inr (.inr ⟨k, this.1, this.2, tally_pos hp⟩))

/-- A device may wait for a unit of level `n` when everything it owes is above `n`. -/
theorem mayWait (d : Dev nD) (sm : SemLoc sig) (i n a b p q : ℕ) (hi : i < 56) (hl : lv ((d : Thread nD τ), sm) i ≤ n)
    (ha : a < 64 → n < a + 1) (hb : b < 64 → n < b + 3) (hp : p < 56 → n < p + 5) (hq : q < 56 → n < q + 7) :
    (levAts L lv : sProp 𝕄) ⊢ MayWait (d : Thread nD τ) sm i (ow d a b p q) := by
  refine MayOwe.of_cut (L := L) (lev := lv) n (fun x hx => ?_) (fun g u hg => ?_) (fun x hx => ?_) (fun g u hg => ?_)
  · rw [Finset.mem_singleton.mp hx, L_tc]; exact Finset.mem_range.mpr hi
  · rcases ow_pos hg with ⟨k, h1, h2, rfl, rfl⟩ | ⟨k, h1, h2, rfl, rfl⟩ | ⟨k, h1, h2, rfl, rfl⟩ | ⟨k, h1, h2, rfl, rfl⟩ <;>
      (rw [L_tc]; exact Finset.mem_range.mpr (by omega))
  · rw [Finset.mem_singleton.mp hx]; exact hl
  · rcases ow_pos hg with ⟨k, h1, h2, rfl, rfl⟩ | ⟨k, h1, h2, rfl, rfl⟩ | ⟨k, h1, h2, rfl, rfl⟩ | ⟨k, h1, h2, rfl, rfl⟩
    · rw [lv_dv]; have : (ch k).val = k := Nat.mod_eq_of_lt h2
      have := ha (by omega); omega
    · rw [lv_fv]; have : (ch k).val = k := Nat.mod_eq_of_lt h2
      have := hb (by omega); omega
    · rw [lv_cd]; have := hp (by omega); omega
    · rw [lv_cf]; have := hq (by omega); omega

end Cert.K01

end
-- ==== Proof.Geometry.lean ====
/- Which rows and slots the views cover, and what the result holds at the end. -/
module

public import proofs.«01_k».proof.Proof.Protocol
public import Idealize.ShloMosaic.Lib.Pipeline.ValueKit.Geometry

@[expose] public section

noncomputable section

namespace Cert.K01

open Cert.KernelIdeal Cert.KernelIdeal.Gen
open Idealize.ShloMosaic
open Idealize.ShloMosaic.TcCoe
open Idealize.SL Idealize.SL.RA Idealize.SL.BI

variable {F : FTy → Type} [FloatOps F]
variable (m : (ℓ : Loc nD τ sig) → Buf (Elt F) ℓ)

/-! ## Rows of the argument and of the result -/

/-- A view of 128 rows of the argument covers the rows from its offset on. -/
theorem mem_xAt {o : Fin 2 → Nat} {h} (h1 : o 1 = 0) (i : S16384x1024.Idx) :
    i ∈ (xAt o h).view.set ↔ o 0 ≤ (i 0).val ∧ (i 0).val < o 0 + 128 := by
  refine ValueKit.mem_set_slice_whole_iff main_arg0 _ i ?_
  rw [Rect.mem_set_unit]
  constructor
  · intro H; exact H 0
  · intro H a; fin_cases a
    · exact H
    · have : (i 1).val < 1024 := (i 1).isLt
      show o 1 ≤ (i 1).val ∧ (i 1).val < o 1 + 1024
      omega

/-- A view of 128 rows of the result covers the rows from its offset on. -/
theorem mem_outAt {o : Fin 2 → Nat} {h} (h1 : o 1 = 0) (i : S32768x1024.Idx) :
    i ∈ (outAt o h).view.set ↔ o 0 ≤ (i 0).val ∧ (i 0).val < o 0 + 128 := by
  refine ValueKit.mem_set_slice_whole_iff main_v1 _ i ?_
  rw [Rect.mem_set_unit]
  constructor
  · intro H; exact H 0
  · intro H a; fin_cases a
    · exact H
    · have : (i 1).val < 1024 := (i 1).isLt
      show o 1 ≤ (i 1).val ∧ (i 1).val < o 1 + 1024
      omega

/-- The rows of stage `s` of the argument. -/
theorem mem_xStage (s : Fin 128) (i : S16384x1024.Idx) :
    i ∈ (xStage s).view.set ↔ 128 * s.val ≤ (i 0).val ∧ (i 0).val < 128 * s.val + 128 := mem_xAt rfl i
/-- The rows of the argument in direct chunk `c`. -/
theorem mem_xSend (d : Dev nD) (c : Fin 64) (i : S16384x1024.Idx) :
    i ∈ (xSend d c).view.set ↔ 8192 * (d.val / 2) + 128 * c.val ≤ (i 0).val ∧ (i 0).val < 8192 * (d.val / 2) + 128 * c.val + 128 := by
  have := mem_xAt (o := k0_off1 d (BitVec.ofNat 32 (128 * c.val))) (h := k0_off1_inb d c) (congrFun (k0_off1_eq d c) 1) i
  exact this.trans (by rw [congrFun (k0_off1_eq d c) 0]; exact Iff.rfl)
/-- The rows of the result that stage `s` goes to. -/
theorem mem_outOwn (d : Dev nD) (s : Fin 128) (i : S32768x1024.Idx) :
    i ∈ (outOwn d s).view.set ↔ 16384 * (d.val % 2) + 128 * s.val ≤ (i 0).val ∧ (i 0).val < 16384 * (d.val % 2) + 128 * s.val + 128 := by
  have := mem_outAt (o := k0_off2 d (BitVec.ofNat 32 (128 * s.val))) (h := k0_off2_inb d s) (congrFun (k0_off2_eq d s) 1) i
  exact this.trans (by rw [congrFun (k0_off2_eq d s) 0]; exact Iff.rfl)
/-- The rows of the result that direct chunk `c` goes to. -/
theorem mem_outDir (d : Dev nD) (c : Fin 64) (i : S32768x1024.Idx) :
    i ∈ (outDir d c).view.set ↔ 8192 * (d.val / 2) + 128 * c.val + 16384 - 16384 * (d.val % 2) ≤ (i 0).val
      ∧ (i 0).val < 8192 * (d.val / 2) + 128 * c.val + 16384 - 16384 * (d.val % 2) + 128 := by
  have := mem_outAt (o := k0_off3 d (BitVec.ofNat 32 (128 * c.val))) (h := k0_off3_inb d c) (congrFun (k0_off3_eq d c) 1) i
  exact this.trans (by rw [congrFun (k0_off3_eq d c) 0]; exact Iff.rfl)
/-- The rows of the result that forwarded chunk `c` goes to. -/
theorem mem_outFwd (d : Dev nD) (c : Fin 64) (i : S32768x1024.Idx) :
    i ∈ (outFwd d c).view.set ↔ 128 * c.val + 24576 - (16384 * (d.val % 2) + 8192 * (d.val / 2)) ≤ (i 0).val
      ∧ (i 0).val < 128 * c.val + 24576 - (16384 * (d.val % 2) + 8192 * (d.val / 2)) + 128 := by
  have := mem_outAt (o := k0_off4 d (BitVec.ofNat 32 (128 * c.val))) (h := k0_off4_inb d c) (congrFun (k0_off4_eq d c) 1) i
  exact this.trans (by rw [congrFun (k0_off4_eq d c) 0]; exact Iff.rfl)

/-! ## What the result holds at the end -/

/-- The device whose argument row `r` of device `d`'s result comes from. -/
def srcDev (d : Dev nD) (r : ℕ) : Dev nD :=
  if r / 16384 = d.val % 2 then d else if r % 16384 / 8192 = d.val / 2 then yn d else yn (xn d)

/-- An entry of the argument. -/
def xEntry (r : ℕ) (c : Fin 1024) : S16384x1024.Idx := fun a => match a with
  | ⟨0, _⟩ => (⟨r % 16384, Nat.mod_lt _ (by decide)⟩ : Fin 16384)
  | ⟨1, _⟩ => c
  | ⟨n + 2, h⟩ => absurd (show n + 2 < 2 from h) (by omega)

/-- The `y` neighbour has the same `x` coordinate. -/
theorem yn_div (d : Dev nD) : (yn d).val / 2 = d.val / 2 := by revert d; decide
/-- The far corner has the other `x` coordinate. -/
theorem yn_xn_div (d : Dev nD) : (yn (xn d)).val / 2 = 1 - d.val / 2 := by revert d; decide

/-- The result of device `d`: every row from the device it comes from. -/
def outVal (d : Dev nD) : Buf (Elt F) ((d : Thread nD τ).loc main_v1) :=
  fun i => xc m (srcDev d (i 0).val) (xEntry (i 0).val (i 1))

/-- Copying 128 rows of the argument of device `e` into the result of device `d` leaves there what the result
    is to hold. -/
theorem copied {d e : Dev nD} {o o' : Fin 2 → Nat} {h h'} (h1 : o 1 = 0) (h1' : o' 1 = 0)
    (hsrc : ∀ x : ℕ, x < 128 → srcDev d (o 0 + x) = e ∧ (o 0 + x) % 16384 = o' 0 + x)
    (f : Buf (Elt F) ((d : Thread nD τ).loc main_v1)) :
    ∀ i ∈ (outAt o h).view.set, (outAt o h).view.write (Elt F) f ((xAt o' h').view.read (Elt F) (xc m e)) Finset.univ i = outVal m d i := by
  intro i hi
  obtain ⟨y, -, rfl⟩ := Finset.mem_map.mp hi
  rw [View.write_emb_of_mem _ _ (Finset.mem_univ _)]
  have hy : (y 0).val < 128 := (y 0).isLt
  have e0 : (((outAt o h).view.emb y 0 : Fin _) : ℕ) = o 0 + (y 0).val := ValueKit.view_emb_slice_whole_unit_val main_v1 o _ h y 0
  have e1 : (((outAt o h).view.emb y 1 : Fin _) : ℕ) = o 1 + (y 1).val := ValueKit.view_emb_slice_whole_unit_val main_v1 o _ h y 1
  have f0 : (((xAt o' h').view.emb y 0 : Fin _) : ℕ) = o' 0 + (y 0).val := ValueKit.view_emb_slice_whole_unit_val main_arg0 o' _ h' y 0
  have f1 : (((xAt o' h').view.emb y 1 : Fin _) : ℕ) = o' 1 + (y 1).val := ValueKit.view_emb_slice_whole_unit_val main_arg0 o' _ h' y 1
  obtain ⟨hs, hr⟩ := hsrc _ hy
  show xc m e ((xAt o' h').view.emb y) = xc m (srcDev d ((outAt o h).view.emb y 0).val) (xEntry ((outAt o h).view.emb y 0).val ((outAt o h).view.emb y 1))
  rw [e0, hs]
  congr 1
  funext a
  fin_cases a
  · apply Fin.ext; show ((xAt o' h').view.emb y 0).val = (o 0 + (y 0).val) % 16384
    rw [f0, hr]
  · apply Fin.ext; show ((xAt o' h').view.emb y 1).val = ((outAt o h).view.emb y 1).val
    rw [f1, e1, h1, h1']

/-- A stage copied out puts into its rows what the result is to hold there. -/
theorem own_copied (d : Dev nD) (s : Fin 128) (f : Buf (Elt F) ((d : Thread nD τ).loc main_v1)) :
    ∀ i ∈ (outOwn d s).view.set, (outOwn d s).view.write (Elt F) f ((xStage s).view.read (Elt F) (xc m d)) Finset.univ i = outVal m d i := by
  refine copied m (by rw [k0_off2_eq]; rfl) rfl (fun x hx => ?_) f
  have := s.isLt
  rw [k0_off2_eq]
  show srcDev d (16384 * (d.val % 2) + 128 * s.val + x) = d ∧ (16384 * (d.val % 2) + 128 * s.val + x) % 16384 = 128 * s.val + x
  refine ⟨if_pos (by omega), by omega⟩

/-- A direct chunk copied out puts into its rows what the result is to hold there. -/
theorem dir_copied (d : Dev nD) (c : Fin 64) (f : Buf (Elt F) ((d : Thread nD τ).loc main_v1)) :
    ∀ i ∈ (outDir d c).view.set, (outDir d c).view.write (Elt F) f (dval m d c) Finset.univ i = outVal m d i := by
  refine copied m (by rw [k0_off3_eq]; rfl) (by rw [k0_off1_eq]; rfl) (fun x hx => ?_) f
  have := c.isLt
  have hd := d.isLt
  have hn : nD = 4 := rfl
  have hx2 : d.val / 2 = 0 ∨ d.val / 2 = 1 := by omega
  have hy2 : d.val % 2 = 0 ∨ d.val % 2 = 1 := by omega
  rw [k0_off3_eq, k0_off1_eq]
  show srcDev d (8192 * (d.val / 2) + 128 * c.val + 16384 - 16384 * (d.val % 2) + x) = yn d ∧ (8192 * (d.val / 2) + 128 * c.val + 16384 - 16384 * (d.val % 2) + x) % 16384 = 8192 * ((yn d).val / 2) + 128 * c.val + x
  unfold srcDev
  rw [yn_div]
  rcases hx2 with e | e <;> rcases hy2 with e' | e' <;> rw [e, e'] <;>
    exact ⟨by rw [if_neg (by omega), if_pos (by omega)], by omega⟩

/-- A forwarded chunk copied out puts into its rows what the result is to hold there. -/
theorem fwd_copied (d : Dev nD) (c : Fin 64) (f : Buf (Elt F) ((d : Thread nD τ).loc main_v1)) :
    ∀ i ∈ (outFwd d c).view.set, (outFwd d c).view.write (Elt F) f (dval m (xn d) c) Finset.univ i = outVal m d i := by
  refine copied m (by rw [k0_off4_eq]; rfl) (by rw [k0_off1_eq]; rfl) (fun x hx => ?_) f
  have := c.isLt
  have hd := d.isLt
  have hn : nD = 4 := rfl
  have hx2 : d.val / 2 = 0 ∨ d.val / 2 = 1 := by omega
  have hy2 : d.val % 2 = 0 ∨ d.val % 2 = 1 := by omega
  rw [k0_off4_eq, k0_off1_eq]
  show srcDev d (128 * c.val + 24576 - (16384 * (d.val % 2) + 8192 * (d.val / 2)) + x) = yn (xn d) ∧ (128 * c.val + 24576 - (16384 * (d.val % 2) + 8192 * (d.val / 2)) + x) % 16384 = 8192 * ((yn (xn d)).val / 2) + 128 * c.val + x
  unfold srcDev
  rw [yn_xn_div]
  rcases hx2 with e | e <;> rcases hy2 with e' | e' <;> rw [e, e'] <;>
    exact ⟨by rw [if_neg (by omega), if_neg (by omega)], by omega⟩

/-! ## The pieces of the argument and of the result -/

/-- Different stages have no row in common. -/
theorem xStage_disj (s s' : Fin 128) (h : s ≠ s') : Disjoint (xStage s).view.set (xStage s').view.set := by
  refine Finset.disjoint_left.mpr fun i h1 h2 => h (Fin.ext ?_)
  have := (mem_xStage s i).mp h1; have := (mem_xStage s' i).mp h2; omega
/-- Different chunks have no row in common. -/
theorem xSend_disj (d : Dev nD) (c c' : Fin 64) (h : c ≠ c') : Disjoint (xSend d c).view.set (xSend d c').view.set := by
  refine Finset.disjoint_left.mpr fun i h1 h2 => h (Fin.ext ?_)
  have := (mem_xSend d c i).mp h1; have := (mem_xSend d c' i).mp h2; omega
/-- The stages cover the argument. -/
theorem xStage_cover : (Finset.univ : Finset (Fin 128)).biUnion (fun s => (xStage s).view.set) = (Finset.univ : Finset S16384x1024.Idx) := by
  refine Finset.eq_univ_of_forall fun i => Finset.mem_biUnion.mpr ?_
  have : (i 0).val < 16384 := (i 0).isLt
  refine ⟨⟨(i 0).val / 128, by omega⟩, Finset.mem_univ _, (mem_xStage _ i).mpr ?_⟩
  dsimp only; omega

/-- The parts of the result: its own rows, those from the `y` neighbour, those from the far corner. -/
abbrev Part : Type := Fin 128 ⊕ (Fin 64 ⊕ Fin 64)
/-- The entries of a part of the result. -/
def part (d : Dev nD) : Part → Finset S32768x1024.Idx
  | .inl s => (outOwn d s).view.set
  | .inr (.inl c) => (outDir d c).view.set
  | .inr (.inr c) => (outFwd d c).view.set

/-- The first row of a part. -/
def partRow (d : Dev nD) : Part → ℕ
  | .inl s => 16384 * (d.val % 2) + 128 * s.val
  | .inr (.inl c) => 8192 * (d.val / 2) + 128 * c.val + 16384 - 16384 * (d.val % 2)
  | .inr (.inr c) => 128 * c.val + 24576 - (16384 * (d.val % 2) + 8192 * (d.val / 2))

/-- A part is 128 rows from its first on. -/
theorem mem_part (d : Dev nD) (p : Part) (i : S32768x1024.Idx) :
    i ∈ part d p ↔ partRow d p ≤ (i 0).val ∧ (i 0).val < partRow d p + 128 := by
  rcases p with s | c | c
  · exact mem_outOwn d s i
  · exact mem_outDir d c i
  · exact mem_outFwd d c i

/-- Different parts have no entry in common. -/
theorem part_disj (d : Dev nD) (p q : Part) (h : p ≠ q) : Disjoint (part d p) (part d q) := by
  refine Finset.disjoint_left.mpr fun i h1 h2 => h ?_
  have hd := d.isLt
  have hn : nD = 4 := rfl
  rw [mem_part] at h1 h2
  have hx2 : d.val / 2 = 0 ∨ d.val / 2 = 1 := by omega
  have hy2 : d.val % 2 = 0 ∨ d.val % 2 = 1 := by omega
  rcases p with s | c | c <;> rcases q with s' | c' | c' <;> simp only [partRow] at h1 h2
  · congr 1; apply Fin.ext; omega
  · have := s.isLt; have := c'.isLt; rcases hx2 with e | e <;> rcases hy2 with e' | e' <;> simp only [e, e'] at h1 h2 <;> omega
  · have := s.isLt; have := c'.isLt; rcases hx2 with e | e <;> rcases hy2 with e' | e' <;> simp only [e, e'] at h1 h2 <;> omega
  · have := c.isLt; have := s'.isLt; rcases hx2 with e | e <;> rcases hy2 with e' | e' <;> simp only [e, e'] at h1 h2 <;> omega
  · congr 2; apply Fin.ext; rcases hx2 with e | e <;> rcases hy2 with e' | e' <;> simp only [e, e'] at h1 h2 <;> omega
  · have := c.isLt; have := c'.isLt; rcases hx2 with e | e <;> rcases hy2 with e' | e' <;> simp only [e, e'] at h1 h2 <;> omega
  · have := c.isLt; have := s'.isLt; rcases hx2 with e | e <;> rcases hy2 with e' | e' <;> simp only [e, e'] at h1 h2 <;> omega
  · have := c.isLt; have := c'.isLt; rcases hx2 with e | e <;> rcases hy2 with e' | e' <;> simp only [e, e'] at h1 h2 <;> omega
  · congr 2; apply Fin.ext; rcases hx2 with e | e <;> rcases hy2 with e' | e' <;> simp only [e, e'] at h1 h2 <;> omega

/-- The parts cover the result. -/
theorem part_cover (d : Dev nD) : (Finset.univ : Finset Part).biUnion (part d) = Finset.univ := by
  refine Finset.eq_univ_of_forall fun i => Finset.mem_biUnion.mpr ?_
  have hi : (i 0).val < 32768 := (i 0).isLt
  have hd := d.isLt
  have hn : nD = 4 := rfl
  by_cases h1 : (i 0).val / 16384 = d.val % 2
  · refine ⟨.inl ⟨(i 0).val % 16384 / 128, by omega⟩, Finset.mem_univ _, (mem_part d _ i).mpr ?_⟩
    simp only [partRow]; omega
  by_cases h2 : (i 0).val % 16384 / 8192 = d.val / 2
  · refine ⟨.inr (.inl ⟨(i 0).val % 8192 / 128, by omega⟩), Finset.mem_univ _, (mem_part d _ i).mpr ?_⟩
    simp only [partRow]; omega
  · refine ⟨.inr (.inr ⟨(i 0).val % 8192 / 128, by omega⟩), Finset.mem_univ _, (mem_part d _ i).mpr ?_⟩
    simp only [partRow]; omega

/-! ## The slots -/

/-- The entries of the slot of chunk `c` in the direct buffer. -/
theorem mem_dSlot (c : Fin 64) (i : S8x128x1024.Idx) : i ∈ (dSlot c).view.set ↔ (i 0).val = c.val % 8 := by
  have e : ((dSlot c).view.set : Finset S8x128x1024.Idx) = ((View.whole cc0_scratch0).slice (Rect.unit (s := S8x128x1024) ![c.val % 8, 0, 0] S1x128x1024.size (slot8_inb c))).set :=
    View.set_reshape _ _
  rw [e]
  refine ValueKit.mem_set_slice_whole_iff cc0_scratch0 _ i ?_
  rw [Rect.mem_set_unit]
  constructor
  · intro H; have := H 0
    change c.val % 8 ≤ (i 0).val ∧ (i 0).val < c.val % 8 + 1 at this; omega
  · intro H a; fin_cases a
    · show c.val % 8 ≤ (i 0).val ∧ (i 0).val < c.val % 8 + 1; omega
    · have : (i 1).val < 128 := (i 1).isLt
      show 0 ≤ (i 1).val ∧ (i 1).val < 0 + 128; omega
    · have : (i 2).val < 1024 := (i 2).isLt
      show 0 ≤ (i 2).val ∧ (i 2).val < 0 + 1024; omega
/-- The entries of the slot of chunk `c` in the forward buffer. -/
theorem mem_fSlot (c : Fin 64) (i : S8x128x1024.Idx) : i ∈ (fSlot c).view.set ↔ (i 0).val = c.val % 8 := by
  have e : ((fSlot c).view.set : Finset S8x128x1024.Idx) = ((View.whole cc0_scratch1).slice (Rect.unit (s := S8x128x1024) ![c.val % 8, 0, 0] S1x128x1024.size (slot8_inb c))).set :=
    View.set_reshape _ _
  rw [e]
  refine ValueKit.mem_set_slice_whole_iff cc0_scratch1 _ i ?_
  rw [Rect.mem_set_unit]
  constructor
  · intro H; have := H 0
    change c.val % 8 ≤ (i 0).val ∧ (i 0).val < c.val % 8 + 1 at this; omega
  · intro H a; fin_cases a
    · show c.val % 8 ≤ (i 0).val ∧ (i 0).val < c.val % 8 + 1; omega
    · have : (i 1).val < 128 := (i 1).isLt
      show 0 ≤ (i 1).val ∧ (i 1).val < 0 + 128; omega
    · have : (i 2).val < 1024 := (i 2).isLt
      show 0 ≤ (i 2).val ∧ (i 2).val < 0 + 1024; omega
/-- The entries of the slot of stage `s` in the staging buffer. -/
theorem mem_stg (s : Fin 128) (i : S2x128x1024.Idx) : i ∈ (stg s).view.set ↔ (i 0).val = s.val % 2 := by
  have e : ((stg s).view.set : Finset S2x128x1024.Idx) = ((View.whole cc0_scratch2).slice (Rect.unit (s := S2x128x1024) ![s.val % 2, 0, 0] S1x128x1024.size (slot2_inb s))).set :=
    View.set_reshape _ _
  rw [e]
  refine ValueKit.mem_set_slice_whole_iff cc0_scratch2 _ i ?_
  rw [Rect.mem_set_unit]
  constructor
  · intro H; have := H 0
    change s.val % 2 ≤ (i 0).val ∧ (i 0).val < s.val % 2 + 1 at this; omega
  · intro H a; fin_cases a
    · show s.val % 2 ≤ (i 0).val ∧ (i 0).val < s.val % 2 + 1; omega
    · have : (i 1).val < 128 := (i 1).isLt
      show 0 ≤ (i 1).val ∧ (i 1).val < 0 + 128; omega
    · have : (i 2).val < 1024 := (i 2).isLt
      show 0 ≤ (i 2).val ∧ (i 2).val < 0 + 1024; omega

/-- Chunks eight apart share a slot of the direct buffer. -/
theorem dSlot_eq {c c' : Fin 64} (h : c.val % 8 = c'.val % 8) : dSlot c = dSlot c' := by
  have H : ∀ (a b : ℕ) (ha : ∀ i, (![a, 0, 0] : Fin 3 → Nat) i + S1x128x1024.size i ≤ S8x128x1024.size i) (hb : ∀ i, (![b, 0, 0] : Fin 3 → Nat) i + S1x128x1024.size i ≤ S8x128x1024.size i),
      a = b → ((Memref.whole cc0_scratch0).slice (Rect.unit (s := S8x128x1024) ![a, 0, 0] S1x128x1024.size ha) (fun _ => rfl))
        = (Memref.whole cc0_scratch0).slice (Rect.unit (s := S8x128x1024) ![b, 0, 0] S1x128x1024.size hb) (fun _ => rfl) := by
    rintro a _ _ _ rfl; rfl
  exact congrArg (fun x => Memref.squeeze x S128x1024 squeezes_S1x128x1024_S128x1024) (H _ _ _ _ h)
/-- Chunks eight apart share a slot of the forward buffer. -/
theorem fSlot_eq {c c' : Fin 64} (h : c.val % 8 = c'.val % 8) : fSlot c = fSlot c' := by
  have H : ∀ (a b : ℕ) (ha : ∀ i, (![a, 0, 0] : Fin 3 → Nat) i + S1x128x1024.size i ≤ S8x128x1024.size i) (hb : ∀ i, (![b, 0, 0] : Fin 3 → Nat) i + S1x128x1024.size i ≤ S8x128x1024.size i),
      a = b → ((Memref.whole cc0_scratch1).slice (Rect.unit (s := S8x128x1024) ![a, 0, 0] S1x128x1024.size ha) (fun _ => rfl))
        = (Memref.whole cc0_scratch1).slice (Rect.unit (s := S8x128x1024) ![b, 0, 0] S1x128x1024.size hb) (fun _ => rfl) := by
    rintro a _ _ _ rfl; rfl
  exact congrArg (fun x => Memref.squeeze x S128x1024 squeezes_S1x128x1024_S128x1024) (H _ _ _ _ h)
/-- Stages two apart share a staging slot. -/
theorem stg_eq {s s' : Fin 128} (h : s.val % 2 = s'.val % 2) : stg s = stg s' := by
  have H : ∀ (a b : ℕ) (ha : ∀ i, (![a, 0, 0] : Fin 3 → Nat) i + S1x128x1024.size i ≤ S2x128x1024.size i) (hb : ∀ i, (![b, 0, 0] : Fin 3 → Nat) i + S1x128x1024.size i ≤ S2x128x1024.size i),
      a = b → ((Memref.whole cc0_scratch2).slice (Rect.unit (s := S2x128x1024) ![a, 0, 0] S1x128x1024.size ha) (fun _ => rfl))
        = (Memref.whole cc0_scratch2).slice (Rect.unit (s := S2x128x1024) ![b, 0, 0] S1x128x1024.size hb) (fun _ => rfl) := by
    rintro a _ _ _ rfl; rfl
  exact congrArg (fun x => Memref.squeeze x S128x1024 squeezes_S1x128x1024_S128x1024) (H _ _ _ _ h)
/-- Direct chunks eight apart share the semaphore of the copy to the result. -/
theorem drSem_eq {c c' : Fin 64} (h : c.val % 8 = c'.val % 8) : drSem c = drSem c' := Fin.ext (by rw [drSem_val, drSem_val, h])
/-- Forwarded chunks eight apart share the semaphore of the copy to the result. -/
theorem frSem_eq {c c' : Fin 64} (h : c.val % 8 = c'.val % 8) : frSem c = frSem c' := Fin.ext (by rw [frSem_val, frSem_val, h])
/-- Stages two apart share the semaphore of the copy in. -/
theorem inSem_eq {s s' : Fin 128} (h : s.val % 2 = s'.val % 2) : inSem s = inSem s' := Fin.ext (by rw [inSem_val, inSem_val, h])
/-- Stages two apart share the semaphore of the copy out. -/
theorem outSem_eq {s s' : Fin 128} (h : s.val % 2 = s'.val % 2) : outSem s = outSem s' := Fin.ext (by rw [outSem_val, outSem_val, h])

end Cert.K01

end
-- ==== Proof.Steps.lean ====
/- What each kind of operation of the body does to the resources, at a symbolic device and chunk. -/
module

public import proofs.«01_k».proof.Proof.Geometry
public import Idealize.SL.BI.BigOpNat

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)

/-- A family with one more member. -/
theorem bigInsert {T : Type} [DecidableEq T] {i : T} {s : Finset T} (h : i ∉ s) {Φ : T → sProp 𝕄} : bigSep (insert i s) Φ = iprop(Φ i ∗ bigSep s Φ) :=
  bigSep_insert h

/-- A family cut in two. -/
theorem bigSplit {T : Type} [DecidableEq T] {s t : Finset T} (h : t ⊆ s) {Φ : T → sProp 𝕄} : bigSep s Φ = iprop(bigSep t Φ ∗ bigSep (s \ t) Φ) :=
  bigSep_sdiff_split h

/-- One member of a family. -/
theorem bigElim {T : Type} [DecidableEq T] {s : Finset T} {i : T} {Φ : T → sProp 𝕄} (h : i ∈ s) : (bigSep s Φ : sProp 𝕄) ⊢ Φ i := bigSep_elim h

/-- No loop of the body needs a bound of its own. -/
abbrev 𝒱₀ : Variants := Variants.none

/-! ## What every device knows throughout -/

/-- A semaphore shared with a neighbour: one of the four transfer families, a credit semaphore, the barrier. -/
abbrev Cl : Type := (Fin 4 × Fin 64 ⊕ Fin 2) ⊕ Unit
/-- The semaphore that a name stands for. -/
def clSem : Cl → SemLoc sig
  | .inl (.inl (k, c)) => .dma ((![dsSem, dvSem, fsSem, fvSem] : Fin 4 → Fin 64 → DmaSem sig) k c)
  | .inl (.inr k) => .reg ((![cdSem, cfSem] : Fin 2 → Sem sig) k)
  | .inr _ => .reg bSem
/-- The semaphore that a name stands for on a given device. -/
def kcell (x : Dev nD × Cl) : GSem nD τ sig := ((x.1 : Thread nD τ), clSem x.2)

/-- The shared semaphores' invariants, their rounds begun, the receive slots' invariants, the levels. -/
def ctx (K : Dev nD × Cl → ℕ) (I : Key → ℕ) : sProp 𝕄 :=
  iprop(bigSep (Finset.univ : Finset (Dev nD × Cl)) (fun x => cellInv ER (Rd m) (K x) (kcell x))
    ∗ bigSep (Finset.univ : Finset (Dev nD × Cl)) (fun x => reached ER (kcell x) 0)
    ∗ bigSep (Finset.univ : Finset Key) (fun k => Release.slotInv EK (I k) k (Sl k))
    ∗ levAts L lv)

/-- What every device knows stays known. -/
instance ctx_persistent (K : Dev nD × Cl → ℕ) (I : Key → ℕ) : BI.Persistent (ctx m K I) := by unfold ctx; infer_instance

variable (K : Dev nD × Cl → ℕ) (I : Key → ℕ)

/-- A shared semaphore's invariant is among what every device knows. -/
theorem ctx_cell (x : Dev nD × Cl) : ctx m K I ⊢ cellInv ER (Rd m) (K x) (kcell x) := by
  unfold ctx; iintro ⟨H, -, -, -⟩; iapply (bigElim (Φ := fun x => cellInv ER (Rd m) (K x) (kcell x)) (Finset.mem_univ x)); iexact H
/-- That a shared semaphore's round has begun is among what every device knows. -/
theorem ctx_reached (x : Dev nD × Cl) : ctx m K I ⊢ reached ER (kcell x) 0 := by
  unfold ctx; iintro ⟨-, H, -, -⟩; iapply (bigElim (Φ := fun x => reached ER (kcell x) 0) (Finset.mem_univ x)); iexact H
/-- A receive slot's invariant is among what every device knows. -/
theorem ctx_slot (k : Key) : ctx m K I ⊢ Release.slotInv EK (I k) k (Sl k) := by
  unfold ctx; iintro ⟨-, -, H, -⟩; iapply (bigElim (Φ := fun k => Release.slotInv EK (I k) k (Sl k)) (Finset.mem_univ k)); iexact H
/-- The levels are among what every device knows. -/
theorem ctx_lev : ctx m K I ⊢ (levAts L lv : sProp 𝕄) := by
  unfold ctx; iintro ⟨-, -, -, H⟩; iexact H

/-- What a device owes, whatever it has waited for. -/
def OwO (d : Dev nD) (O : CellTallies nD τ sig ℕ) : sProp 𝕄 := iprop(∃ W, owes (d : Thread nD τ) O W)
/-- What a device owes, by how far it has come. -/
abbrev Ow (d : Dev nD) (a b p q : ℕ) : sProp 𝕄 := OwO d (ow d a b p q)

/-- The weakest precondition of a list of operations. -/
abbrev WPs (d : Dev nD) (l : List Op) (Q : PUnit → sProp 𝕄) : sProp 𝕄 :=
  wp frame (wpE (defs₀ (F := F)) 𝒱₀ (d : Thread nD τ) none) Set.univ (seq d l) Q

/-- From `P` the operations `l` lead to `P'`, whatever comes after them. -/
def Tr (d : Dev nD) (P : sProp 𝕄) (l : List Op) (P' : sProp 𝕄) : Prop :=
  ∀ (rest : List Op) (Q : PUnit → sProp 𝕄), iprop(ctx m K I ∗ P) ⊢ iprop((P' -∗ WPs d rest Q) -∗ WPs d (l ++ rest) Q)

variable {m K I}

/-- No operation: the resources may be rearranged. -/
theorem Tr.nil {d : Dev nD} {P P' : sProp 𝕄} (h : iprop(ctx m K I ∗ P) ⊢ iprop(|={Set.univ}=> P')) : Tr m K I d P [] P' := by
  intro rest Q
  iintro H Hk
  imod h $$ H with H
  iapply Hk; iexact H

/-- One list of operations after another. -/
theorem Tr.app {d : Dev nD} {P P' P'' : sProp 𝕄} {l l' : List Op} (h : Tr m K I d P l P') (h' : Tr m K I d P' l' P'') :
    Tr m K I d P (l ++ l') P'' := by
  intro rest Q
  rw [List.append_assoc]
  iintro ⟨#Hc, HP⟩ Hk
  iapply (h (l' ++ rest) Q) $$ [HP]
  · isplitr; · iexact Hc
    iexact HP
  iintro HP
  iapply (h' rest Q) $$ [HP]
  · isplitr; · iexact Hc
    iexact HP
  iexact Hk

/-- The resources before and after may be rearranged, and some set aside. -/
theorem Tr.conseq {d : Dev nD} {P P' P₁ P₁' R : sProp 𝕄} {l : List Op} (h : Tr m K I d P₁ l P₁')
    (h1 : iprop(ctx m K I ∗ P) ⊢ iprop(|={Set.univ}=> (P₁ ∗ R))) (h2 : iprop(ctx m K I ∗ P₁' ∗ R) ⊢ iprop(|={Set.univ}=> P')) : Tr m K I d P l P' := by
  intro rest Q
  iintro ⟨#Hc, HP⟩ Hk
  imod h1 $$ [HP] with ⟨HP, HR⟩
  · isplitr; · iexact Hc
    iexact HP
  iapply (h rest Q) $$ [HP]
  · isplitr; · iexact Hc
    iexact HP
  iintro HP
  imod h2 $$ [HP HR] with HP
  · isplitr; · iexact Hc
    isplitl [HP] <;> iassumption
  iapply Hk; iexact HP

/-- Resources that are not touched stay. -/
theorem Tr.frame {d : Dev nD} {P P' : sProp 𝕄} {l : List Op} (h : Tr m K I d P l P') (R : sProp 𝕄) :
    Tr m K I d iprop(P ∗ R) l iprop(P' ∗ R) :=
  h.conseq (R := R) (by iintro ⟨-, H⟩; imodintro; iexact H) (by iintro ⟨-, H⟩; imodintro; iexact H)

/-- One operation, from its rule. -/
theorem Tr.step {d : Dev nD} {P P' A B R : sProp 𝕄} {o : Op}
    (hop : ∀ (rest : List Op) (Q : PUnit → sProp 𝕄), A ⊢ iprop((B -∗ WPs d rest Q) -∗ WPs d ([o] ++ rest) Q))
    (h1 : iprop(ctx m K I ∗ P) ⊢ iprop(|={Set.univ}=> (A ∗ R))) (h2 : iprop(ctx m K I ∗ B ∗ R) ⊢ iprop(|={Set.univ}=> P')) : Tr m K I d P [o] P' :=
  Tr.conseq (P₁ := A) (P₁' := B) (fun rest Q => by iintro ⟨-, H⟩; iapply (hop rest Q); iexact H) h1 h2

variable (m K I)

/-! ## The operations, at any views -/

section Ops

/-- A local copy under way: what was read has a place to land, and both come back with its wait. -/
def Fl (d : Dev nD) (i : DmaSem sig) {sp sp' : Space} (src : Memref sig .tc sp S128x1024 .f32) (dst : Memref sig .tc sp' S128x1024 .f32)
    (q : PosShare TreeShare) (fs : Buf (Elt F) (src.view.loc (d : Thread nD τ))) : sProp 𝕄 :=
  iprop(∃ fd : Buf (Elt F) (dst.view.loc (d : Thread nD τ)), Transfers.Flight EC (d : Thread nD τ) (.dma i) 0 N
    iprop((dst.view.loc (d : Thread nD τ) ↦[dst.view.set]{fullShare} dst.view.write (Elt F) fd (src.view.read (Elt F) fs) Finset.univ)
      ∗ (src.view.loc (d : Thread nD τ) ↦[src.view.set]{q} fs)))

/-- A chunk has some units. -/
theorem N_pos : 0 < N := by unfold N; decide

/-- Starting a local copy. -/
theorem copyStart (d : Dev nD) {i : DmaSem sig} {sp sp' : Space} {src : Memref sig .tc sp S128x1024 .f32} {dst : Memref sig .tc sp' S128x1024 .f32}
    {hs : src.view.WordExact} {hd : dst.view.WordExact} {ht : DmaTarget.Typed (nD := nD) sp (.dma i) (DmaTarget.here (p := (d : Thread nD τ).2) dst)}
    {k : PUnit → PR F} {Q : PUnit → sProp 𝕄} {q : PosShare TreeShare} {fs : Buf (Elt F) (src.view.loc (d : Thread nD τ))} (hN : dst.view.amount (.dma i) = N) :
    iprop((src.view.loc (d : Thread nD τ) ↦[src.view.set]{q} fs) ∗ (∃ fd : Buf (Elt F) (dst.view.loc (d : Thread nD τ)), dst.view.loc (d : Thread nD τ) ↦[dst.view.set]{fullShare} fd)
        ∗ semVal ((d : Thread nD τ), .dma i) 0)
      ⊢ iprop((Fl d i src dst q fs -∗ wp frame (wpE (defs₀ (F := F)) 𝒱₀ (d : Thread nD τ) none) Set.univ (k ⟨⟩) Q)
        -∗ wp frame (wpE (defs₀ (F := F)) 𝒱₀ (d : Thread nD τ) none) Set.univ (.op (.enqueueDma src (.here dst) (.dma i) hs hd ht) k) Q) := by
  iintro ⟨Hs, ⟨%fd, Hd⟩, Hv⟩ Hk
  iapply (Transfers.wp_dmaLocal EC 𝒱₀ (d : Thread nD τ) none (Sd := dst.view.set) 0 N hN N_pos (Finset.Subset.refl _)) $$ [Hs Hd Hv]
  · isplitl [Hs]; · iexact Hs
    isplitl [Hd] <;> iassumption
  iintro H
  iapply Hk
  unfold Fl; iexists fd; iexact H

/-- Waiting for a local copy. -/
theorem copyWait (d : Dev nD) {i : DmaSem sig} {sp sp' sw sw' : Space} {src : Memref sig .tc sp S128x1024 .f32} {dst : Memref sig .tc sp' S128x1024 .f32}
    {srcw : Memref sig .tc sw S128x1024 .f32} {dstw : Memref sig .tc sw' S128x1024 .f32}
    {hs : srcw.view.WordExact} {hd : dstw.view.WordExact}
    {k : PUnit → PR F} {Q : PUnit → sProp 𝕄} {q : PosShare TreeShare} {fs : Buf (Elt F) (src.view.loc (d : Thread nD τ))} (hN : dstw.view.dmaCredit = N) {O : CellTallies nD τ sig ℕ} :
    iprop(Fl d i src dst q fs ∗ OwO d O ∗ MayWait (d : Thread nD τ) (.dma i) 0 O)
      ⊢ iprop((iprop((∃ fd : Buf (Elt F) (dst.view.loc (d : Thread nD τ)), dst.view.loc (d : Thread nD τ) ↦[dst.view.set]{fullShare} dst.view.write (Elt F) fd (src.view.read (Elt F) fs) Finset.univ)
            ∗ (src.view.loc (d : Thread nD τ) ↦[src.view.set]{q} fs) ∗ semVal ((d : Thread nD τ), .dma i) 0 ∗ OwO d O)
          -∗ wp frame (wpE (defs₀ (F := F)) 𝒱₀ (d : Thread nD τ) none) Set.univ (k ⟨⟩) Q)
        -∗ wp frame (wpE (defs₀ (F := F)) 𝒱₀ (d : Thread nD τ) none) Set.univ (.op (.waitDma2 i srcw dstw hs hd) k) Q) := by
  unfold Fl OwO
  iintro ⟨⟨%fd, Hf⟩, ⟨%W, HO⟩, Hmw⟩ Hk
  iapply (Transfers.wp_waitLocalO EC 𝒱₀ (d : Thread nD τ) none 0 hN) $$ [Hf HO Hmw]
  · isplitl [Hf]; · iexact Hf
    isplitl [HO] <;> iassumption
  iintro ⟨⟨Hd, Hs⟩, Hv, HO⟩
  iapply Hk
  isplitl [Hd]; · iexists fd; iexact Hd
  isplitl [Hs]; · iexact Hs
  isplitl [Hv]; · iexact Hv
  iexists _; iexact HO

/-- Waiting for a copy between devices: its payload, and the semaphore's round is over. -/
theorem sharedWait (d : Dev nD) {i : DmaSem sig} (hi : 20 ≤ i.val) {κ : ℕ} {sw sw' : Space}
    {srcw : Memref sig .tc sw S128x1024 .f32} {dstw : Memref sig .tc sw' S128x1024 .f32}
    {hs : srcw.view.WordExact} {hd : dstw.view.WordExact}
    {k : PUnit → PR F} {Q : PUnit → sProp 𝕄} (hN : dstw.view.dmaCredit = N) {O : CellTallies nD τ sig ℕ} {Y : sProp 𝕄}
    (hpay : (Rd m).payload ((d : Thread nD τ), .dma i) 0 0 = Y) :
    iprop(cellInv ER (Rd m) κ ((d : Thread nD τ), .dma i) ∗ cred (tallyAt ((d : Thread nD τ), .dma i) 0 N) ∗ OwO d O
        ∗ MayWait (d : Thread nD τ) (.dma i) 0 O ∗ atPos ER ((d : Thread nD τ), .dma i) 0 ∅ 0)
      ⊢ iprop((iprop(Y ∗ atPos ER ((d : Thread nD τ), .dma i) 1 ∅ 0 ∗ OwO d O)
          -∗ wp frame (wpE (defs₀ (F := F)) 𝒱₀ (d : Thread nD τ) none) Set.univ (k ⟨⟩) Q)
        -∗ wp frame (wpE (defs₀ (F := F)) 𝒱₀ (d : Thread nD τ) none) Set.univ (.op (.waitDma2 i srcw dstw hs hd) k) Q) := by
  subst hpay
  unfold OwO
  iintro ⟨Hi, Hc, ⟨%W, HO⟩, Hmw, Hat⟩ Hk
  iapply (Rounds.wp_wait_rest_token 𝒱₀ ER (Rd m) (d : Thread nD τ) none (κ := κ) (sm := .dma i) (k' := N)
    (fun K => (wpE_waitDma2_eq 𝒱₀ (d : Thread nD τ) none Set.univ K).trans (by rw [hN])) (Set.mem_univ _) 0 (O := O) (W := W) (R := 0) (m := 0) (T := ∅)
    (by rw [Nat.zero_add, expect_dma m d i hi])) $$ [Hi Hc HO Hmw Hat]
  · isplitl [Hi]; · iexact Hi
    isplitl [Hc]; · iexact Hc
    isplitl [HO]; · iexact HO
    isplitl [Hmw] <;> iassumption
  rw [duties_dma m d i hi, Finset.sdiff_empty, bigSep_singleton]
  iintro ⟨HO, Hat, -, Hpay⟩
  iapply Hk
  isplitl [Hpay]; · iexact Hpay
  isplitl [Hat]; · iexact Hat
  iexists _; iexact HO

/-- A copy to another device, into a slot handed over for it. -/
theorem sendStart (d e : Dev nD) {i j : DmaSem sig} (hi : 20 ≤ i.val) (hj : 20 ≤ j.val) {κ₁ κ₂ : ℕ} {sp sp' : Space}
    {src : Memref sig .tc sp S128x1024 .f32} {dst : Memref sig .tc sp' S128x1024 .f32} {hsc : dst.view.ref.isScScratch = false}
    {hs : src.view.WordExact} {hd : dst.view.WordExact} {ht : DmaTarget.Typed (nD := nD) sp (.dma j) (DmaTarget.remote (p := (d : Thread nD τ).2) (Dev.tc e) dst (.dma i) hsc)}
    {k : PUnit → PR F} {Q : PUnit → sProp 𝕄} {q : PosShare TreeShare} {fs : Buf (Elt F) (src.view.loc (d : Thread nD τ))} (hN : dst.view.amount (.dma j) = N)
    {O₀ : CellTallies nD τ sig ℕ} (O : CellTallies nD τ sig ℕ) (hO : O₀ = O + tallyAt ((e : Thread nD τ), .dma j) 0 N)
    (hpay₁ : (src.view.loc (d : Thread nD τ) ↦[src.view.set]{q} fs) ⊢ (Rd m).payload ((d : Thread nD τ), .dma i) 0 0)
    (hpay₂ : ∀ fd : Buf (Elt F) (dst.view.loc (e : Thread nD τ)), (dst.view.loc (e : Thread nD τ) ↦[dst.view.set]{fullShare} (dst.view.write (Elt F) fd (src.view.read (Elt F) fs) Finset.univ))
      ⊢ (Rd m).payload ((e : Thread nD τ), .dma j) 0 0) :
    iprop(cellInv ER (Rd m) κ₁ ((d : Thread nD τ), .dma i) ∗ cellInv ER (Rd m) κ₂ ((e : Thread nD τ), .dma j)
        ∗ (src.view.loc (d : Thread nD τ) ↦[src.view.set]{q} fs) ∗ Release.slot (dst.view.loc (e : Thread nD τ)) dst.view.set
        ∗ OwO d O₀
        ∗ dutyTok ER ((d : Thread nD τ), .dma i) 0 0 ∗ reached ER ((d : Thread nD τ), .dma i) 0
        ∗ dutyTok ER ((e : Thread nD τ), .dma j) 0 0 ∗ reached ER ((e : Thread nD τ), .dma j) 0)
      ⊢ iprop((iprop(cred (tallyAt ((d : Thread nD τ), .dma i) 0 N) ∗ OwO d O)
          -∗ wp frame (wpE (defs₀ (F := F)) 𝒱₀ (d : Thread nD τ) none) Set.univ (k ⟨⟩) Q)
        -∗ wp frame (wpE (defs₀ (F := F)) 𝒱₀ (d : Thread nD τ) none) Set.univ (.op (.enqueueDma src (.remote (Dev.tc e) dst (.dma i) hsc) (.dma j) hs hd ht) k) Q) := by
  unfold OwO Release.slot
  iintro ⟨H1, H2, Hs, ⟨%fd, Hd⟩, ⟨%W, HO⟩, Ht1, Hr1, Ht2, Hr2⟩ Hk
  iapply (Rounds.wp_send_pointsTo 𝒱₀ ER (Rd m) (d : Thread nD τ) none (c' := (e : Thread nD τ)) (κ₁ := κ₁) (κ₂ := κ₂) (r₁ := 0) (r₂ := 0) (d₁ := 0) (d₂ := 0) (fd := fd)
    (by rw [duties_dma m d i hi]; exact Finset.mem_singleton_self _) (by rw [duties_dma m e j hj]; exact Finset.mem_singleton_self _)
    0 0 N hN rfl rfl O hO (W := W) hpay₁ (hpay₂ fd)) $$ [H1 H2 Hs Hd HO Ht1 Hr1 Ht2 Hr2]
  · isplitl [H1]; · iexact H1
    isplitl [H2]; · iexact H2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- A unit to another device's semaphore, with its payload. -/
theorem unitSignal (d e : Dev nD) {s : Sem sig} {κ n ι : ℕ} (hn : n ∈ (Rd m).duties ((e : Thread nD τ), .reg s) 0) {k : PUnit → PR F} {Q : PUnit → sProp 𝕄}
    {O₀ : CellTallies nD τ sig ℕ} (O : CellTallies nD τ sig ℕ) (hO : O₀ = O + tallyAt ((e : Thread nD τ), .reg s) ι 1) {Y : sProp 𝕄}
    (hpay : (Rd m).payload ((e : Thread nD τ), .reg s) 0 n = Y) :
    iprop(cellInv ER (Rd m) κ ((e : Thread nD τ), .reg s) ∗ OwO d O₀ ∗ dutyTok ER ((e : Thread nD τ), .reg s) 0 n ∗ Y ∗ reached ER ((e : Thread nD τ), .reg s) 0)
      ⊢ iprop((OwO d O -∗ wp frame (wpE (defs₀ (F := F)) 𝒱₀ (d : Thread nD τ) none) Set.univ (k ⟨⟩) Q)
        -∗ wp frame (wpE (defs₀ (F := F)) 𝒱₀ (d : Thread nD τ) none) Set.univ (.op (.semSignal (e : Thread nD τ) s 1) k) Q) := by
  subst hpay
  unfold OwO
  iintro ⟨H1, ⟨%W, HO⟩, Ht, Hp, Hr⟩ Hk
  iapply (Rounds.wp_signal 𝒱₀ ER (Rd m) (d : Thread nD τ) none (dst := (e : Thread nD τ)) (κ := κ) (k' := 1) hn rfl ι O hO (W := W)) $$ [H1 HO Ht Hp Hr]
  · isplitl [H1]; · iexact H1
    isplitl [HO]; · iexact HO
    isplitl [Ht]; · iexact Ht
    isplitl [Hp] <;> iassumption
  iintro HO
  iapply Hk; iexists W; iexact HO

end Ops

end Cert.K01

end
-- ==== Proof.Ops.lean ====
/- The operations of the body one by one: what each needs and what it leaves. -/
module

public import proofs.«01_k».proof.Proof.Steps

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-! ## The resources, piece by piece -/

/-- A DMA semaphore of the device's own at zero. -/
abbrev sv (i : DmaSem sig) : sProp 𝕄 := semVal ((d : Thread nD τ), .dma i) 0
/-- Half a share of stage `s` of the argument. -/
def xSt (s : Fin 128) : sProp 𝕄 := (xStage s).view.loc (d : Thread nD τ) ↦[(xStage s).view.set]{fullShare.left} xc m d
/-- A staging buffer, at any contents. -/
def stgAny (s : Fin 128) : sProp 𝕄 := Release.slot ((stg s).view.loc (d : Thread nD τ)) (stg s).view.set
/-- A staging buffer holding stage `s`. -/
def stgHas (s : Fin 128) : sProp 𝕄 :=
  iprop(∃ f : Buf (Elt F) ((stg s).view.loc (d : Thread nD τ)), ⌜(stg s).view.read (Elt F) f = (xStage s).view.read (Elt F) (xc m d)⌝
    ∗ ((stg s).view.loc (d : Thread nD τ) ↦[(stg s).view.set]{fullShare} f))
/-- A piece of the result, at any contents. -/
def outAny (v : Memref sig .tc .hbm S128x1024 .f32) : sProp 𝕄 := Release.slot (v.view.loc (d : Thread nD τ)) v.view.set
/-- A piece of the result, holding what it is to hold. -/
def ownDone (s : Fin 128) : sProp 𝕄 := (outOwn d s).view.loc (d : Thread nD τ) ↦[(outOwn d s).view.set]{fullShare} outVal m d
/-- The rows of a direct chunk in the result, done. -/
def dirDone (c : Fin 64) : sProp 𝕄 := (outDir d c).view.loc (d : Thread nD τ) ↦[(outDir d c).view.set]{fullShare} outVal m d
/-- The rows of a forwarded chunk in the result, done. -/
def fwdDone (c : Fin 64) : sProp 𝕄 := (outFwd d c).view.loc (d : Thread nD τ) ↦[(outFwd d c).view.set]{fullShare} outVal m d
/-- Stage `s` on its way into its staging buffer. -/
def FlIn (s : Fin 128) : sProp 𝕄 := Fl d (inSem s) (xStage s) (stg s) fullShare.left (xc m d)
/-- Stage `s` on its way into the result. -/
def FlOut (s : Fin 128) : sProp 𝕄 :=
  iprop(∃ f : Buf (Elt F) ((stg s).view.loc (d : Thread nD τ)), ⌜(stg s).view.read (Elt F) f = (xStage s).view.read (Elt F) (xc m d)⌝
    ∗ Fl d (outSem s) (stg s) (outOwn d s) fullShare f)
/-- A received chunk on its way into the result. -/
def FlDr (c : Fin 64) : sProp 𝕄 := Fl d (drSem c) (dSlot c) (outDir d c) fullShare.left (Dbuf m d c)
/-- A forwarded chunk on its way into the result. -/
def FlFr (c : Fin 64) : sProp 𝕄 := Fl d (frSem c) (fSlot c) (outFwd d c) fullShare (Fbuf m d c)

/-- The slot a direct chunk landed in reads as the chunk. -/
theorem Dbuf_read (c : Fin 64) : (dSlot c).view.read (Elt F) (Dbuf m d c) = dval m d c := View.read_write_univ _ _
/-- The slot a forwarded chunk landed in reads as the chunk. -/
theorem Fbuf_read (c : Fin 64) : (fSlot c).view.read (Elt F) (Fbuf m d c) = dval m (xn d) c := View.read_write_univ _ _

/-- The invariant of a slot of a direct buffer is known. -/
theorem ctx_dSlot (e : Dev nD) (c : Fin 64) :
    ctx m K I ⊢ Release.slotInv EK (I (e, true, c)) (e, true, c) (Release.slot ((dSlot c).view.loc (e : Thread nD τ)) (dSlot c).view.set) :=
  ctx_slot m K I (e, true, c)
/-- The invariant of a slot of a forward buffer is known. -/
theorem ctx_fSlot (e : Dev nD) (c : Fin 64) :
    ctx m K I ⊢ Release.slotInv EK (I (e, false, c)) (e, false, c) (Release.slot ((fSlot c).view.loc (e : Thread nD τ)) (fSlot c).view.set) :=
  ctx_slot m K I (e, false, c)

variable {m K I}

/-- A wait at the lowest level is always allowed. -/
theorem mw0 {sm : SemLoc sig} (hl : lv ((d : Thread nD τ), sm) 0 = 0) (a b p q : ℕ) :
    ctx m K I ⊢ (MayWait (d : Thread nD τ) sm 0 (ow d a b p q) : sProp 𝕄) :=
  (ctx_lev m K I).trans (mayWait d sm 0 0 a b p q (by omega) (by omega) (by omega) (by omega) (by omega) (by omega))

/-- A stage's way in is at the lowest level. -/
theorem in_low (s : Fin 128) : lv ((d : Thread nD τ), .dma (inSem s)) 0 = 0 := lv_low d _ (by rw [inSem_val]; omega) 0
/-- A stage's way out is at the lowest level. -/
theorem out_low (s : Fin 128) : lv ((d : Thread nD τ), .dma (outSem s)) 0 = 0 := lv_low d _ (by rw [outSem_val]; omega) 0
/-- A direct chunk's way to the result is at the lowest level. -/
theorem dr_low (c : Fin 64) : lv ((d : Thread nD τ), .dma (drSem c)) 0 = 0 := lv_low d _ (by rw [drSem_val]; omega) 0
/-- A forwarded chunk's way to the result is at the lowest level. -/
theorem fr_low (c : Fin 64) : lv ((d : Thread nD τ), .dma (frSem c)) 0 = 0 := lv_low d _ (by rw [frSem_val]; omega) 0
/-- Having sent a direct chunk is at the lowest level. -/
theorem ds_low (c : Fin 64) : lv (dsCell d c) 0 = 0 := lv_low d _ (by rw [dsSem_val]; omega) 0

/-! ## Staging the device's own rows -/

/-- A stage starts on its way in. -/
theorem t_insS (s : Fin 128) : Tr m K I d iprop(xSt m d s ∗ stgAny d s ∗ sv d (inSem s)) [.insS s] (FlIn m d s) := by
  unfold xSt stgAny FlIn Release.slot
  refine Tr.step (R := iprop(emp)) (fun rest Q => copyStart d (src := xStage s) (dst := stg s) (i := inSem s) (q := fullShare.left) (fs := xc m d) (k := fun _ => seq d rest) (Q := Q) rfl) ?_ ?_
  · iintro ⟨-, Hx, Hs, Hv⟩
    imodintro
    isplitl
    · isplitl [Hx]; · iexact Hx
      isplitl [Hs]; · iexact Hs
      iexact Hv
    · iempintro
  · iintro ⟨-, H, -⟩; imodintro; iexact H

/-- A stage is in: its staging slot holds it. -/
theorem t_insW (s : Fin 128) (a b p q : ℕ) :
    Tr m K I d iprop(FlIn m d s ∗ Ow d a b p q) [.insW s] iprop(xSt m d s ∗ stgHas m d s ∗ sv d (inSem s) ∗ Ow d a b p q) := by
  unfold xSt FlIn
  refine Tr.step (R := iprop(emp)) (fun rest Q => copyWait d (src := xStage s) (dst := stg s) (srcw := xStage s) (dstw := stg s) (i := inSem s) (q := fullShare.left) (fs := xc m d) (k := fun _ => seq d rest) (Q := Q) (O := ow d a b p q) rfl) ?_ ?_
  · iintro ⟨#Hc, Hf, HO⟩
    imodintro
    isplitl
    · isplitl [Hf]; · iexact Hf
      isplitl [HO]; · iexact HO
      iapply (mw0 d (in_low d s) a b p q); iexact Hc
    · iempintro
  · iintro ⟨-, ⟨⟨%fd, Hd⟩, Hs, Hv, HO⟩, -⟩
    imodintro
    isplitl [Hs]; · iexact Hs
    isplitl [Hd]
    · unfold stgHas; iexists ((stg s).view.write (Elt F) fd ((xStage s).view.read (Elt F) (xc m d)) Finset.univ)
      isplitr
      · ipureintro; exact View.read_write_univ _ _
      iexact Hd
    isplitl [Hv] <;> iassumption

/-- A stage starts on its way out. -/
theorem t_outS (s : Fin 128) : Tr m K I d iprop(stgHas m d s ∗ outAny d (outOwn d s) ∗ sv d (outSem s)) [.outS s] (FlOut m d s) := by
  unfold outAny Release.slot
  intro rest Q
  unfold stgHas
  iintro ⟨#Hc, ⟨%f, %hf, Hs⟩, Ho, Hv⟩ Hk
  iapply (copyStart d (src := stg s) (dst := outOwn d s) (i := outSem s) (q := fullShare) (fs := f) (k := fun _ => seq d rest) (Q := Q) rfl) $$ [Hs Ho Hv]
  · isplitl [Hs]; · iexact Hs
    isplitl [Ho]; · iexact Ho
    iexact Hv
  iintro H
  iapply Hk
  unfold FlOut; iexists f
  isplitr; · ipureintro; exact hf
  iexact H

/-- A stage is out: its rows of the result are done, its staging slot is free. -/
theorem t_outW (s : Fin 128) (a b p q : ℕ) :
    Tr m K I d iprop(FlOut m d s ∗ Ow d a b p q) [.outW s] iprop(stgAny d s ∗ ownDone m d s ∗ sv d (outSem s) ∗ Ow d a b p q) := by
  intro rest Q
  unfold FlOut
  iintro ⟨#Hc, ⟨%f, %hf, Hf⟩, HO⟩ Hk
  iapply (copyWait d (src := stg s) (dst := outOwn d s) (srcw := stg s) (dstw := outOwn d s) (i := outSem s) (q := fullShare) (fs := f) (k := fun _ => seq d rest) (Q := Q) (O := ow d a b p q) rfl) $$ [Hf HO]
  · isplitl [Hf]; · iexact Hf
    isplitl [HO]; · iexact HO
    iapply (mw0 d (out_low d s) a b p q); iexact Hc
  rw [hf]
  iintro ⟨⟨%fd, Hd⟩, Hs, Hv, HO⟩
  iapply Hk
  isplitl [Hs]; · unfold stgAny Release.slot; iexists f; iexact Hs
  isplitl [Hd]
  · unfold ownDone
    iapply (Entails.of_eq (pointsTo_congr (own_copied m d s fd))); iexact Hd
  isplitl [Hv] <;> iassumption

/-! ## Received chunks into the result -/

/-- A direct chunk starts on its way to the result, from one half share of its slot. -/
theorem t_drS (c : Fin 64) : Tr m K I d iprop(dPts m fullShare.left d c ∗ outAny d (outDir d c) ∗ sv d (drSem c)) [.drS c] (FlDr m d c) := by
  unfold dPts outAny Release.slot FlDr
  refine Tr.step (R := iprop(emp)) (fun rest Q => copyStart d (src := dSlot c) (dst := outDir d c) (i := drSem c) (q := fullShare.left) (fs := Dbuf m d c) (k := fun _ => seq d rest) (Q := Q) rfl) ?_ ?_
  · iintro ⟨-, Hx, Hs, Hv⟩
    imodintro
    isplitl
    · isplitl [Hx]; · iexact Hx
      isplitl [Hs]; · iexact Hs
      iexact Hv
    · iempintro
  · iintro ⟨-, H, -⟩; imodintro; iexact H

/-- A direct chunk is in the result: its rows are done, the half share is back. -/
theorem t_drW (c : Fin 64) (a b p q : ℕ) :
    Tr m K I d iprop(FlDr m d c ∗ Ow d a b p q) [.drW c] iprop(dPts m fullShare.left d c ∗ dirDone m d c ∗ sv d (drSem c) ∗ Ow d a b p q) := by
  unfold dPts FlDr
  intro rest Q
  iintro ⟨#Hc, Hf, HO⟩ Hk
  iapply (copyWait d (src := dSlot c) (dst := outDir d c) (srcw := dSlot c) (dstw := outDir d c) (i := drSem c) (q := fullShare.left) (fs := Dbuf m d c) (k := fun _ => seq d rest) (Q := Q) (O := ow d a b p q) rfl) $$ [Hf HO]
  · isplitl [Hf]; · iexact Hf
    isplitl [HO]; · iexact HO
    iapply (mw0 d (dr_low d c) a b p q); iexact Hc
  rw [Dbuf_read]
  iintro ⟨⟨%fd, Hd⟩, Hs, Hv, HO⟩
  iapply Hk
  isplitl [Hs]; · iexact Hs
  isplitl [Hd]
  · unfold dirDone
    iapply (Entails.of_eq (pointsTo_congr (dir_copied m d c fd))); iexact Hd
  isplitl [Hv] <;> iassumption

/-- A forwarded chunk starts on its way to the result. -/
theorem t_frS (c : Fin 64) : Tr m K I d iprop(fPts m fullShare d c ∗ outAny d (outFwd d c) ∗ sv d (frSem c)) [.frS c] (FlFr m d c) := by
  unfold fPts outAny Release.slot FlFr
  refine Tr.step (R := iprop(emp)) (fun rest Q => copyStart d (src := fSlot c) (dst := outFwd d c) (i := frSem c) (q := fullShare) (fs := Fbuf m d c) (k := fun _ => seq d rest) (Q := Q) rfl) ?_ ?_
  · iintro ⟨-, Hx, Hs, Hv⟩
    imodintro
    isplitl
    · isplitl [Hx]; · iexact Hx
      isplitl [Hs]; · iexact Hs
      iexact Hv
    · iempintro
  · iintro ⟨-, H, -⟩; imodintro; iexact H

/-- A forwarded chunk is in the result: its rows are done, its slot is back. -/
theorem t_frW (c : Fin 64) (a b p q : ℕ) :
    Tr m K I d iprop(FlFr m d c ∗ Ow d a b p q) [.frW c] iprop(fPts m fullShare d c ∗ fwdDone m d c ∗ sv d (frSem c) ∗ Ow d a b p q) := by
  unfold fPts FlFr
  intro rest Q
  iintro ⟨#Hc, Hf, HO⟩ Hk
  iapply (copyWait d (src := fSlot c) (dst := outFwd d c) (srcw := fSlot c) (dstw := outFwd d c) (i := frSem c) (q := fullShare) (fs := Fbuf m d c) (k := fun _ => seq d rest) (Q := Q) (O := ow d a b p q) rfl) $$ [Hf HO]
  · isplitl [Hf]; · iexact Hf
    isplitl [HO]; · iexact HO
    iapply (mw0 d (fr_low d c) a b p q); iexact Hc
  rw [Fbuf_read]
  iintro ⟨⟨%fd, Hd⟩, Hs, Hv, HO⟩
  iapply Hk
  isplitl [Hs]; · iexact Hs
  isplitl [Hd]
  · unfold fwdDone
    iapply (Entails.of_eq (pointsTo_congr (fwd_copied m d c fd))); iexact Hd
  isplitl [Hv] <;> iassumption

/-! ## Waits for the copies between devices -/

/-- A direct chunk has been read by its copy: the share of the argument is back. -/
theorem t_dSW (c : Fin 64) (a b p q : ℕ) :
    Tr m K I d iprop(cred (tallyAt (dsCell d c) 0 N) ∗ atPos ER (dsCell d c) 0 ∅ 0 ∗ Ow d a b p q) [.dSW c]
      iprop(xSendPts m fullShare.right d c ∗ atPos ER (dsCell d c) 1 ∅ 0 ∗ Ow d a b p q) := by
  refine Tr.step (R := iprop(emp)) (fun rest Q => sharedWait m d (i := dsSem c) (ds_ge c) (κ := K (d, .inl (.inl (0, c)))) (srcw := dSlot c) (dstw := xSend d c) (k := fun _ => seq d rest) (Q := Q) rfl (O := ow d a b p q) (payload_ds m d c 0)) ?_ ?_
  · iintro ⟨#Hc, Hcr, Hat, HO⟩
    imodintro
    isplitl
    · isplitr; · iapply (ctx_cell m K I (d, .inl (.inl (0, c)))); iexact Hc
      isplitl [Hcr]; · iexact Hcr
      isplitl [HO]; · iexact HO
      isplitr; · iapply (mw0 d (ds_low d c) a b p q); iexact Hc
      iexact Hat
    · iempintro
  · iintro ⟨-, H, -⟩; imodintro; iexact H

/-- A direct chunk has arrived: its slot holds it. The wait is allowed while the chunks and credits still owed come later. -/
theorem t_dRW (c : Fin 64) (a b p q : ℕ) (ha : a < 64 → c.val < a) (hb : b < 64 → c.val < b + 2) (hp : p < 56 → c.val < p + 4) (hq : q < 56 → c.val < q + 6) :
    Tr m K I d iprop(cred (tallyAt (dvCell d c) 0 N) ∗ atPos ER (dvCell d c) 0 ∅ 0 ∗ Ow d a b p q) [.dRW c]
      iprop(dPts m fullShare d c ∗ atPos ER (dvCell d c) 1 ∅ 0 ∗ Ow d a b p q) := by
  refine Tr.step (R := iprop(emp)) (fun rest Q => sharedWait m d (i := dvSem c) (dv_ge c) (κ := K (d, .inl (.inl (1, c)))) (srcw := xSend d c) (dstw := dSlot c) (k := fun _ => seq d rest) (Q := Q) rfl (O := ow d a b p q) (payload_dv m d c 0)) ?_ ?_
  · iintro ⟨#Hc, Hcr, Hat, HO⟩
    imodintro
    isplitl
    · isplitr; · iapply (ctx_cell m K I (d, .inl (.inl (1, c)))); iexact Hc
      isplitl [Hcr]; · iexact Hcr
      isplitl [HO]; · iexact HO
      isplitr
      · iapply ((ctx_lev m K I).trans (mayWait d (.dma (dvSem c)) 0 (c.val + 1) a b p q (by omega) (le_of_eq (lv_dv d c)) (by omega) (by omega) (by omega) (by omega))); iexact Hc
      iexact Hat
    · iempintro
  · iintro ⟨-, H, -⟩; imodintro; iexact H

/-- A chunk has been forwarded: the half share of its slot is back. -/
theorem t_fSW (c : Fin 64) (a b p q : ℕ) :
    Tr m K I d iprop(cred (tallyAt (fsCell d c) 0 N) ∗ atPos ER (fsCell d c) 0 ∅ 0 ∗ Ow d a b p q) [.fSW c]
      iprop(dPts m fullShare.right d c ∗ atPos ER (fsCell d c) 1 ∅ 0 ∗ Ow d a b p q) := by
  refine Tr.step (R := iprop(emp)) (fun rest Q => sharedWait m d (i := fsSem c) (fs_ge c) (κ := K (d, .inl (.inl (2, c)))) (srcw := fSlot c) (dstw := dSlot c) (k := fun _ => seq d rest) (Q := Q) rfl (O := ow d a b p q) (payload_fs m d c 0)) ?_ ?_
  · iintro ⟨#Hc, Hcr, Hat, HO⟩
    imodintro
    isplitl
    · isplitr; · iapply (ctx_cell m K I (d, .inl (.inl (2, c)))); iexact Hc
      isplitl [Hcr]; · iexact Hcr
      isplitl [HO]; · iexact HO
      isplitr; · iapply (mw0 d (lv_fs d c 0) a b p q); iexact Hc
      iexact Hat
    · iempintro
  · iintro ⟨-, H, -⟩; imodintro; iexact H

/-- A forwarded chunk has arrived: its slot holds it. The wait is allowed while the chunks and credits still owed come later. -/
theorem t_fRW (c : Fin 64) (a b p q : ℕ) (ha : a < 64 → c.val + 2 < a) (hb : b < 64 → c.val < b) (hp : p < 56 → c.val < p + 2) (hq : q < 56 → c.val < q + 4) :
    Tr m K I d iprop(cred (tallyAt (fvCell d c) 0 N) ∗ atPos ER (fvCell d c) 0 ∅ 0 ∗ Ow d a b p q) [.fRW c]
      iprop(fPts m fullShare d c ∗ atPos ER (fvCell d c) 1 ∅ 0 ∗ Ow d a b p q) := by
  refine Tr.step (R := iprop(emp)) (fun rest Q => sharedWait m d (i := fvSem c) (fv_ge c) (κ := K (d, .inl (.inl (3, c)))) (srcw := dSlot c) (dstw := fSlot c) (k := fun _ => seq d rest) (Q := Q) rfl (O := ow d a b p q) (payload_fv m d c 0)) ?_ ?_
  · iintro ⟨#Hc, Hcr, Hat, HO⟩
    imodintro
    isplitl
    · isplitr; · iapply (ctx_cell m K I (d, .inl (.inl (3, c)))); iexact Hc
      isplitl [Hcr]; · iexact Hcr
      isplitl [HO]; · iexact HO
      isplitr
      · iapply ((ctx_lev m K I).trans (mayWait d (.dma (fvSem c)) 0 (c.val + 3) a b p q (by omega) (le_of_eq (lv_fv d c)) (by omega) (by omega) (by omega) (by omega))); iexact Hc
      iexact Hat
    · iempintro
  · iintro ⟨-, H, -⟩; imodintro; iexact H

/-! ## The copies between devices -/

/-- What a direct chunk leaves where it lands is what the schedule promises. -/
theorem d_lands (c : Fin 64) (fd : Buf (Elt F) ((dSlot c).view.loc (yn d : Thread nD τ))) :
    ((dSlot c).view.loc (yn d : Thread nD τ) ↦[(dSlot c).view.set]{fullShare} ((dSlot c).view.write (Elt F) fd ((xSend d c).view.read (Elt F) (xc m d)) Finset.univ) : sProp 𝕄)
      ⊢ (Rd m).payload (dvCell (yn d) c) 0 0 := by
  rw [payload_dv]
  unfold dPts
  refine Entails.of_eq (pointsTo_congr fun i hi => ?_)
  obtain ⟨y, -, rfl⟩ := Finset.mem_map.mp hi
  unfold Dbuf dval
  rw [View.write_emb_of_mem _ _ (Finset.mem_univ _), View.write_emb_of_mem _ _ (Finset.mem_univ _), yn_yn]

/-- What a forwarded chunk leaves where it lands is what the schedule promises. -/
theorem f_lands (c : Fin 64) (fd : Buf (Elt F) ((fSlot c).view.loc (xn d : Thread nD τ))) :
    ((fSlot c).view.loc (xn d : Thread nD τ) ↦[(fSlot c).view.set]{fullShare} ((fSlot c).view.write (Elt F) fd ((dSlot c).view.read (Elt F) (Dbuf m d c)) Finset.univ) : sProp 𝕄)
      ⊢ (Rd m).payload (fvCell (xn d) c) 0 0 := by
  rw [payload_fv, Dbuf_read]
  unfold fPts
  refine Entails.of_eq (pointsTo_congr fun i hi => ?_)
  obtain ⟨y, -, rfl⟩ := Finset.mem_map.mp hi
  unfold Fbuf
  rw [View.write_emb_of_mem _ _ (Finset.mem_univ _), View.write_emb_of_mem _ _ (Finset.mem_univ _), xn_xn]

/-- A direct chunk is sent to the `y` neighbour, into a slot that it has given. -/
theorem t_dS (a b p q : ℕ) (ha : a < 64) :
    Tr m K I d iprop(xSendPts m fullShare.right d (ch a) ∗ Release.released EK ((yn d, true, ch a) : Key) 1 ∗ Release.writeTok EK ((yn d, true, ch a) : Key) 1
        ∗ dutyTok ER (dsCell d (ch a)) 0 0 ∗ dutyTok ER (dvCell (yn d) (ch a)) 0 0 ∗ Ow d a b p q) [.dS (ch a)]
      iprop(cred (tallyAt (dsCell d (ch a)) 0 N) ∗ Ow d (a + 1) b p q) := by
  unfold xSendPts
  refine Tr.step (R := iprop(emp)) (fun rest Q => sendStart m d (yn d) (i := dsSem (ch a)) (j := dvSem (ch a)) (ds_ge _) (dv_ge _) (κ₁ := K (d, .inl (.inl (0, ch a)))) (κ₂ := K (yn d, .inl (.inl (1, ch a))))
    (src := xSend d (ch a)) (dst := dSlot (ch a)) (q := fullShare.right) (fs := xc m d) (k := fun _ => seq d rest) (Q := Q) rfl (ow d (a + 1) b p q) (ow_send d a b p q ha)
    (by rw [payload_ds]; exact BI.Entails.refl _) (d_lands d (ch a))) ?_ ?_
  · iintro ⟨#Hc, Hx, Hrel, Hw, Ht1, Ht2, HO⟩
    imod (Release.slot_take EK (S := Release.slot ((dSlot (ch a)).view.loc (yn d : Thread nD τ)) (dSlot (ch a)).view.set) (Set.mem_univ (I (yn d, true, ch a))) 1) $$ [Hrel Hw] with Hsl
    · isplitr; · iapply (ctx_dSlot m K I (yn d) (ch a)); iexact Hc
      isplitl [Hrel] <;> iassumption
    imodintro
    isplitl
    · isplitr; · iapply (ctx_cell m K I (d, .inl (.inl (0, ch a)))); iexact Hc
      isplitr; · iapply (ctx_cell m K I (yn d, .inl (.inl (1, ch a)))); iexact Hc
      isplitl [Hx]; · iexact Hx
      isplitl [Hsl]; · iexact Hsl
      isplitl [HO]; · iexact HO
      isplitl [Ht1]; · iexact Ht1
      isplitr; · iapply (ctx_reached m K I (d, .inl (.inl (0, ch a)))); iexact Hc
      isplitl [Ht2]; · iexact Ht2
      iapply (ctx_reached m K I (yn d, .inl (.inl (1, ch a)))); iexact Hc
    · iempintro
  · iintro ⟨-, H, -⟩; imodintro; iexact H

/-- A chunk is forwarded to the `x` neighbour, into a slot that it has given. -/
theorem t_fS (a b p q : ℕ) (hb : b < 64) :
    Tr m K I d iprop(dPts m fullShare.right d (ch b) ∗ Release.released EK ((xn d, false, ch b) : Key) 1 ∗ Release.writeTok EK ((xn d, false, ch b) : Key) 1
        ∗ dutyTok ER (fsCell d (ch b)) 0 0 ∗ dutyTok ER (fvCell (xn d) (ch b)) 0 0 ∗ Ow d a b p q) [.fS (ch b)]
      iprop(cred (tallyAt (fsCell d (ch b)) 0 N) ∗ Ow d a (b + 1) p q) := by
  unfold dPts
  refine Tr.step (R := iprop(emp)) (fun rest Q => sendStart m d (xn d) (i := fsSem (ch b)) (j := fvSem (ch b)) (fs_ge _) (fv_ge _) (κ₁ := K (d, .inl (.inl (2, ch b)))) (κ₂ := K (xn d, .inl (.inl (3, ch b))))
    (src := dSlot (ch b)) (dst := fSlot (ch b)) (q := fullShare.right) (fs := Dbuf m d (ch b)) (k := fun _ => seq d rest) (Q := Q) rfl (ow d a (b + 1) p q) (ow_fwd d a b p q hb)
    (by rw [payload_fs]; exact BI.Entails.refl _) (f_lands d (ch b))) ?_ ?_
  · iintro ⟨#Hc, Hx, Hrel, Hw, Ht1, Ht2, HO⟩
    imod (Release.slot_take EK (S := Release.slot ((fSlot (ch b)).view.loc (xn d : Thread nD τ)) (fSlot (ch b)).view.set) (Set.mem_univ (I (xn d, false, ch b))) 1) $$ [Hrel Hw] with Hsl
    · isplitr; · iapply (ctx_fSlot m K I (xn d) (ch b)); iexact Hc
      isplitl [Hrel] <;> iassumption
    imodintro
    isplitl
    · isplitr; · iapply (ctx_cell m K I (d, .inl (.inl (2, ch b)))); iexact Hc
      isplitr; · iapply (ctx_cell m K I (xn d, .inl (.inl (3, ch b)))); iexact Hc
      isplitl [Hx]; · iexact Hx
      isplitl [Hsl]; · iexact Hsl
      isplitl [HO]; · iexact HO
      isplitl [Ht1]; · iexact Ht1
      isplitr; · iapply (ctx_reached m K I (d, .inl (.inl (2, ch b)))); iexact Hc
      isplitl [Ht2]; · iexact Ht2
      iapply (ctx_reached m K I (xn d, .inl (.inl (3, ch b)))); iexact Hc
    · iempintro
  · iintro ⟨-, H, -⟩; imodintro; iexact H

end Cert.K01

end
-- ==== Proof.Credits.lean ====
/- The credits: how a device learns that a receive slot of its neighbour's is its to fill, and gives its own away. -/
module

public import proofs.«01_k».proof.Proof.Ops

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-- One more slot given. -/
theorem relTo_succ (b : Bool) (e : Dev nD) (n : ℕ) : (relTo b e (n + 1) : sProp 𝕄) = iprop(relTo b e n ∗ Release.released EK ((e, b, ch n) : Key) 1) := by
  unfold relTo
  rw [bigSep_range_succ]
  exact equiv_iff.mp ⟨BI.sep_comm, BI.sep_comm⟩

/-- Who knows of many given slots knows of fewer. -/
theorem relTo_mono (b : Bool) (e : Dev nD) {n n' : ℕ} (h : n ≤ n') : (relTo b e n' : sProp 𝕄) ⊢ relTo b e n := by
  unfold relTo
  exact bigSep_subset (Finset.range_subset_range.mpr h)

/-- Each of the given slots is given. -/
theorem relTo_at (b : Bool) (e : Dev nD) {i n : ℕ} (h : i < n) : (relTo b e n : sProp 𝕄) ⊢ Release.released EK ((e, b, ch i) : Key) 1 := by
  unfold relTo
  exact bigElim (Φ := fun i => Release.released EK ((e, b, ch i) : Key) 1) (Finset.mem_range.mpr h)

/-- Where a device stands with a credit semaphore after `j` waits on it: which units it has got at most, and
    that each said what it says; after the last wait, all of them. -/
def crPos (s : Sem sig) (b : Bool) (e : Dev nD) (j : ℕ) : sProp 𝕄 :=
  if j < 56 then iprop(∃ S : Finset ℕ, ⌜S ⊆ Finset.range 56 ∧ j ≤ S.card⌝ ∗ atPos ER ((d : Thread nD τ), .reg s) 0 S j
    ∗ bigSep S (fun n => relTo b e (n + 9)))
  else atPos ER ((d : Thread nD τ), .reg s) 1 ∅ 0

/-- A device's standing with a credit semaphore before its wait `j`, and what it has learnt. -/
def Cr (s : Sem sig) (b : Bool) (e : Dev nD) (j : ℕ) : sProp 𝕄 :=
  iprop(crPos d s b e j ∗ relTo b e (j + 8) ∗ bigSep (Finset.Ico j 56) (fun k => cred (tallyAt ((d : Thread nD τ), .reg s) k 1)))

/-- Among `j + 1` different numbers one is at least `j`. -/
theorem exists_ge {S : Finset ℕ} {j : ℕ} (h : j + 1 ≤ S.card) : ∃ n ∈ S, j ≤ n := by
  by_contra hn
  push Not at hn
  have : S ⊆ Finset.range j := fun x hx => Finset.mem_range.mpr (hn x hx)
  have := Finset.card_le_card this
  rw [Finset.card_range] at this; omega

/-- A wait for a credit. -/
theorem creditWait {s : Sem sig} {b : Bool} {e : Dev nD} {κ : ℕ} (hdut : (Rd m).duties ((d : Thread nD τ), .reg s) 0 = Finset.range 56)
    (hexp : (Rd m).expect ((d : Thread nD τ), .reg s) 0 = 56) (hpay : ∀ n, (Rd m).payload ((d : Thread nD τ), .reg s) 0 n = relTo b e (n + 9))
    {k : PUnit → PR F} {Q : PUnit → sProp 𝕄} {O : CellTallies nD τ sig ℕ} {j : ℕ} (hj : j < 56) :
    iprop(cellInv ER (Rd m) κ ((d : Thread nD τ), .reg s) ∗ Cr d s b e j ∗ OwO d O ∗ MayWait (d : Thread nD τ) (.reg s) j O)
      ⊢ iprop((iprop(Cr d s b e (j + 1) ∗ OwO d O) -∗ wp frame (wpE (defs₀ (F := F)) 𝒱₀ (d : Thread nD τ) none) Set.univ (k ⟨⟩) Q)
        -∗ wp frame (wpE (defs₀ (F := F)) 𝒱₀ (d : Thread nD τ) none) Set.univ (.op (.semWait s 1) k) Q) := by
  unfold Cr OwO
  rw [bigSep_Ico_succ_bot hj]
  unfold crPos
  rw [if_pos hj]
  rcases Nat.lt_or_ge (j + 1) 56 with hj' | hj'
  · rw [if_pos hj']
    iintro ⟨Hi, ⟨⟨%T, %hT, Hat, #HT⟩, -, Hc, Hcs⟩, ⟨%W, HO⟩, Hmw⟩ Hk
    iapply (Rounds.wp_wait 𝒱₀ ER (Rd m) (d : Thread nD τ) none (κ := κ) (sm := .reg s) (k' := 1)
      (wpE_semWait_eq 𝒱₀ (d : Thread nD τ) none Set.univ) (Set.mem_univ _) (cr := Finsupp.single j 1) (O := O) (W := W) {(.reg s, j)} (R := 0) (m := j) (T := T)
      (by rw [Util.total_single]) (image_single_subset (.reg s) j 1)) $$ [Hi Hc HO Hmw Hat]
    · isplitl [Hi]; · iexact Hi
      isplitl [Hc]; · iexact Hc
      isplitl [HO]; · iexact HO
      isplitl [Hmw] <;> iassumption
    simp only [hpay]
    iintro %S ⟨%hS, HO, Hat, Hpay⟩
    obtain ⟨hTS, hSd, hcard⟩ := hS
    rw [hdut] at hSd
    have hc : j + 1 ≤ S.card := by
      rw [hdut, hexp, Finset.card_sdiff_of_subset hSd, Finset.card_range] at hcard
      have := Finset.card_le_card hSd
      rw [Finset.card_range] at this; omega
    obtain ⟨n, hn, hjn⟩ := exists_ge hc
    ihave #HS : bigSep S (fun n => relTo b e (n + 9)) $$ [Hpay]
    · rw [bigSplit hTS]
      isplitr; · iexact HT
      iexact Hpay
    iapply Hk
    isplitr [HO]
    · isplitl [Hat]
      · iexists S
        isplitr; · ipureintro; exact ⟨hSd, hc⟩
        isplitl [Hat]; · iexact Hat
        iexact HS
      isplitr
      · iapply (relTo_mono b e (show j + 1 + 8 ≤ n + 9 by omega))
        iapply (bigElim (Φ := fun n => relTo b e (n + 9)) hn); iexact HS
      iexact Hcs
    iexists _; iexact HO
  · have hj55 : j = 55 := by omega
    rw [if_neg (by omega)]
    iintro ⟨Hi, ⟨⟨%T, %hT, Hat, #HT⟩, -, Hc, Hcs⟩, ⟨%W, HO⟩, Hmw⟩ Hk
    iapply (Rounds.wp_wait_rest_token 𝒱₀ ER (Rd m) (d : Thread nD τ) none (κ := κ) (sm := .reg s) (k' := 1)
      (wpE_semWait_eq 𝒱₀ (d : Thread nD τ) none Set.univ) (Set.mem_univ _) j (O := O) (W := W) (R := 0) (m := j) (T := T)
      (by rw [hexp, hj55])) $$ [Hi Hc HO Hmw Hat]
    · isplitl [Hi]; · iexact Hi
      isplitl [Hc]; · iexact Hc
      isplitl [HO]; · iexact HO
      isplitl [Hmw] <;> iassumption
    simp only [hdut, hpay]
    iintro ⟨HO, Hat, -, Hpay⟩
    ihave #HS : bigSep (Finset.range 56) (fun n => relTo b e (n + 9)) $$ [Hpay]
    · rw [bigSplit hT.1]
      isplitr; · iexact HT
      iexact Hpay
    iapply Hk
    isplitr [HO]
    · isplitl [Hat]; · iexact Hat
      isplitr
      · iapply (relTo_mono b e (show j + 1 + 8 ≤ 55 + 9 by omega))
        iapply (bigElim (Φ := fun n => relTo b e (n + 9)) (Finset.mem_range.mpr (show 55 < 56 by omega))); iexact HS
      iexact Hcs
    iexists _; iexact HO

variable {m K I}

/-- The credits from the `y` neighbour. -/
abbrev CD (j : ℕ) : sProp 𝕄 := Cr d cdSem true (yn d) j
/-- The credits from the `x` neighbour. -/
abbrev CF (j : ℕ) : sProp 𝕄 := Cr d cfSem false (xn d) j

/-- A credit of the `y` neighbour is waited for: one more slot of its direct buffer is known to be given. -/
theorem t_cDW (j a b p q : ℕ) (hj : j < 56) (ha : a < 64 → j + 5 < a + 1) (hb : b < 64 → j + 5 < b + 3) (hp : p < 56 → j < p) (hq : q < 56 → j + 5 < q + 7) :
    Tr m K I d iprop(CD d j ∗ Ow d a b p q) [.cDW] iprop(CD d (j + 1) ∗ Ow d a b p q) := by
  refine Tr.step (R := iprop(emp)) (fun rest Q => creditWait m d (s := cdSem) (κ := K (d, .inl (.inr 0))) (duties_cd m d) (expect_cd m d) (payload_cd m d) (k := fun _ => seq d rest) (Q := Q) (O := ow d a b p q) hj) ?_ ?_
  · iintro ⟨#Hc, HC, HO⟩
    imodintro
    isplitl
    · isplitr; · iapply (ctx_cell m K I (d, .inl (.inr 0))); iexact Hc
      isplitl [HC]; · iexact HC
      isplitl [HO]; · iexact HO
      iapply ((ctx_lev m K I).trans (mayWait d (.reg cdSem) j (j + 5) a b p q hj (le_of_eq (lv_cd d j)) ha hb (by omega) hq)); iexact Hc
    · iempintro
  · iintro ⟨-, H, -⟩; imodintro; iexact H

/-- A credit of the `x` neighbour is waited for: one more slot of its forward buffer is known to be given. -/
theorem t_cFW (j a b p q : ℕ) (hj : j < 56) (ha : a < 64 → j + 7 < a + 1) (hb : b < 64 → j + 7 < b + 3) (hp : p < 56 → j + 7 < p + 5) (hq : q < 56 → j < q) :
    Tr m K I d iprop(CF d j ∗ Ow d a b p q) [.cFW] iprop(CF d (j + 1) ∗ Ow d a b p q) := by
  refine Tr.step (R := iprop(emp)) (fun rest Q => creditWait m d (s := cfSem) (κ := K (d, .inl (.inr 1))) (duties_cf m d) (expect_cf m d) (payload_cf m d) (k := fun _ => seq d rest) (Q := Q) (O := ow d a b p q) hj) ?_ ?_
  · iintro ⟨#Hc, HC, HO⟩
    imodintro
    isplitl
    · isplitr; · iapply (ctx_cell m K I (d, .inl (.inr 1))); iexact Hc
      isplitl [HC]; · iexact HC
      isplitl [HO]; · iexact HO
      iapply ((ctx_lev m K I).trans (mayWait d (.reg cfSem) j (j + 7) a b p q hj (le_of_eq (lv_cf d j)) ha hb hp (by omega))); iexact Hc
    · iempintro
  · iintro ⟨-, H, -⟩; imodintro; iexact H

/-! ## Giving slots away -/

/-- A slot of the direct buffer has entries. -/
theorem slot_nonempty_d (c : Fin 64) : (dSlot c).view.set.Nonempty :=
  ⟨_, View.emb_mem_set _ (fun a => ⟨0, by revert a; decide⟩)⟩
/-- A slot of the forward buffer has entries. -/
theorem slot_nonempty_f (c : Fin 64) : (fSlot c).view.set.Nonempty :=
  ⟨_, View.emb_mem_set _ (fun a => ⟨0, by revert a; decide⟩)⟩

/-- A receive slot is there only once. -/
theorem Sl_excl (k : Key) : iprop(Sl k ∗ Sl k) ⊢ (False : sProp 𝕄) := by
  rcases k with ⟨e, b, c⟩
  cases b
  · exact Release.slot_slot_false (slot_nonempty_f c)
  · exact Release.slot_slot_false (slot_nonempty_d c)

/-- A slot given away: the device knows one more of its slots to be so. -/
theorem give (b : Bool) (n : ℕ) : iprop(ctx m K I ∗ Sl ((d, b, ch n) : Key) ∗ Release.readerAt EK ((d, b, ch n) : Key) 0 ∗ relTo b d n)
    ⊢ iprop(|={Set.univ}=> (relTo b d (n + 1) : sProp 𝕄)) := by
  rw [relTo_succ]
  iintro ⟨#Hc, HS, Hr, Hrel⟩
  imod (Release.slot_release EK (S := Sl ((d, b, ch n) : Key)) (Set.mem_univ (I (d, b, ch n))) (Sl_excl _) 0) $$ [HS Hr] with ⟨-, Hw⟩
  · isplitr; · iapply (ctx_slot m K I (d, b, ch n)); iexact Hc
    isplitl [Hr] <;> iassumption
  imodintro
  isplitl [Hrel]; · iexact Hrel
  iexact Hw

/-- A credit is signalled to the `y` neighbour. -/
theorem t_cDS (a b p q : ℕ) (hp : p < 56) :
    Tr m K I d iprop(relTo true d (p + 9) ∗ dutyTok ER (cdCell (yn d)) 0 p ∗ Ow d a b p q) [.cDS] (Ow d a b (p + 1) q) := by
  refine Tr.step (R := iprop(emp)) (fun rest Q => unitSignal m d (yn d) (s := cdSem) (κ := K (yn d, .inl (.inr 0))) (n := p) (ι := p) (by rw [duties_cd]; exact Finset.mem_range.mpr hp)
    (k := fun _ => seq d rest) (Q := Q) (ow d a b (p + 1) q) (ow_cd d a b p q hp) (Y := relTo true d (p + 9)) (by rw [payload_cd, yn_yn])) ?_ ?_
  · iintro ⟨#Hc, Hr, Ht, HO⟩
    imodintro
    isplitl
    · isplitr; · iapply (ctx_cell m K I (yn d, .inl (.inr 0))); iexact Hc
      isplitl [HO]; · iexact HO
      isplitl [Ht]; · iexact Ht
      isplitl [Hr]; · iexact Hr
      iapply (ctx_reached m K I (yn d, .inl (.inr 0))); iexact Hc
    · iempintro
  · iintro ⟨-, H, -⟩; imodintro; iexact H

/-- A credit is signalled to the `x` neighbour. -/
theorem t_cFS (a b p q : ℕ) (hq : q < 56) :
    Tr m K I d iprop(relTo false d (q + 9) ∗ dutyTok ER (cfCell (xn d)) 0 q ∗ Ow d a b p q) [.cFS] (Ow d a b p (q + 1)) := by
  refine Tr.step (R := iprop(emp)) (fun rest Q => unitSignal m d (xn d) (s := cfSem) (κ := K (xn d, .inl (.inr 1))) (n := q) (ι := q) (by rw [duties_cf]; exact Finset.mem_range.mpr hq)
    (k := fun _ => seq d rest) (Q := Q) (ow d a b p (q + 1)) (ow_cf d a b p q hq) (Y := relTo false d (q + 9)) (by rw [payload_cf, xn_xn])) ?_ ?_
  · iintro ⟨#Hc, Hr, Ht, HO⟩
    imodintro
    isplitl
    · isplitr; · iapply (ctx_cell m K I (xn d, .inl (.inr 1))); iexact Hc
      isplitl [HO]; · iexact HO
      isplitl [Ht]; · iexact Ht
      isplitl [Hr]; · iexact Hr
      iapply (ctx_reached m K I (xn d, .inl (.inr 1))); iexact Hc
    · iempintro
  · iintro ⟨-, H, -⟩; imodintro; iexact H

/-! ## The barrier -/

/-- Both neighbours told, the barrier passed: the first eight slots of either buffer of either side are known to
    have been given away. -/
theorem t_barrier :
    Tr m K I d iprop(relTo true d 8 ∗ relTo false d 8 ∗ dutyTok ER (bCell (yn d)) 0 0 ∗ dutyTok ER (bCell (xn d)) 0 1
        ∗ cred (tallyAt (bCell d) 0 2) ∗ atPos ER (bCell d) 0 ∅ 0 ∗ OwO d (O₀ d)) [.sigY, .sigX, .waitB]
      iprop(relTo true (yn d) 8 ∗ relTo false (xn d) 8 ∗ atPos ER (bCell d) 1 ∅ 0 ∗ Ow d 0 0 0 0) := by
  intro rest Q
  iintro ⟨#Hc, Hry, Hrx, Hty, Htx, Hcr, Hat, HO⟩ Hk
  iapply (unitSignal m d (yn d) (s := bSem) (κ := K (yn d, .inr ())) (n := 0) (ι := 0) (by rw [duties_b]; decide)
    (k := fun _ => seq d (.sigX :: .waitB :: rest)) (Q := Q) (ow d 0 0 0 0 + tallyAt (bCell (xn d)) 0 1) rfl (Y := relTo true d 8) (by rw [payload_b0, yn_yn])) $$ [HO Hty Hry]
  · isplitr; · iapply (ctx_cell m K I (yn d, .inr ())); iexact Hc
    isplitl [HO]; · iexact HO
    isplitl [Hty]; · iexact Hty
    isplitl [Hry]; · iexact Hry
    iapply (ctx_reached m K I (yn d, .inr ())); iexact Hc
  iintro HO
  iapply (unitSignal m d (xn d) (s := bSem) (κ := K (xn d, .inr ())) (n := 1) (ι := 0) (by rw [duties_b]; decide)
    (k := fun _ => seq d (.waitB :: rest)) (Q := Q) (ow d 0 0 0 0) rfl (Y := relTo false d 8) (by rw [payload_b1, xn_xn])) $$ [HO Htx Hrx]
  · isplitr; · iapply (ctx_cell m K I (xn d, .inr ())); iexact Hc
    isplitl [HO]; · iexact HO
    isplitl [Htx]; · iexact Htx
    isplitl [Hrx]; · iexact Hrx
    iapply (ctx_reached m K I (xn d, .inr ())); iexact Hc
  unfold OwO
  iintro ⟨%W, HO⟩
  iapply (Rounds.wp_wait_rest_token 𝒱₀ ER (Rd m) (d : Thread nD τ) none (κ := K (d, .inr ())) (sm := .reg bSem) (k' := 2) (k := fun _ => seq d rest) (Q := Q)
      (wpE_semWait_eq 𝒱₀ (d : Thread nD τ) none Set.univ) (Set.mem_univ _) 0 (O := ow d 0 0 0 0) (W := W) (R := 0) (m := 0) (T := ∅)
      (by rw [expect_b])) $$ [Hcr HO Hat]
  · isplitr; · iapply (ctx_cell m K I (d, .inr ())); iexact Hc
    isplitl [Hcr]; · iexact Hcr
    isplitl [HO]; · iexact HO
    isplitr; · iapply (mw0 d (lv_b d 0) 0 0 0 0); iexact Hc
    iexact Hat
  rw [duties_b, Finset.sdiff_empty, bigInsert (by decide), bigSep_singleton, payload_b0, payload_b1]
  iintro ⟨HO, Hat, -, ⟨H0, H1⟩⟩
  iapply Hk
  isplitl [H0]; · iexact H0
  isplitl [H1]; · iexact H1
  isplitl [Hat]; · iexact Hat
  unfold Ow OwO; iexists _; iexact HO

end Cert.K01

end
-- ==== Proof.Machines.lean ====
/- Where a device stands between two groups of operations, and that each group leads from one standing to the next. -/
module

public import proofs.«01_k».proof.Proof.Credits

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-! ## Small facts -/

/-- A conditional step is there where its condition `a ≤ b` holds. -/
theorem opt_ble {a b : ℕ} (h : a ≤ b) (l : List Op) : opt (Nat.ble a b) l = l := by
  rw [Nat.ble_eq_true_of_le h]; rfl
/-- A conditional step is not there where its condition `a ≤ b` fails. -/
theorem opt_nble {a b : ℕ} (h : b < a) (l : List Op) : opt (Nat.ble a b) l = [] := by
  rw [show Nat.ble a b = false from Bool.eq_false_iff.mpr fun e => absurd (Nat.le_of_ble_eq_true e) (by omega)]; rfl
/-- A conditional step is there where its condition `a < b` holds. -/
theorem opt_blt {a b : ℕ} (h : a < b) (l : List Op) : opt (Nat.blt a b) l = l := opt_ble h l
/-- A conditional step is not there where its condition `a < b` fails. -/
theorem opt_nblt {a b : ℕ} (h : b ≤ a) (l : List Op) : opt (Nat.blt a b) l = [] := opt_nble (Nat.lt_succ_of_le h) l

/-- Over an empty interval there is nothing. -/
theorem ico_emp {a b : ℕ} (h : b ≤ a) (A : ℕ → sProp 𝕄) : bigSep (Ico a b) A = iprop(emp) := by
  rw [Finset.Ico_eq_empty_of_le h]; exact bigSep_empty

/-- One more at the top of a run. -/
theorem ico_push {a b : ℕ} (h : a ≤ b) (A : ℕ → sProp 𝕄) : iprop(A b ∗ bigSep (Ico a b) A) ⊢ bigSep (Ico a (b + 1)) A :=
  Entails.of_eq (bigSep_Ico_succ_top h A).symm
/-- One taken off the bottom of a run. -/
theorem ico_pop {a b : ℕ} (h : a < b) (A : ℕ → sProp 𝕄) : bigSep (Ico a b) A ⊢ iprop(A a ∗ bigSep (Ico (a + 1) b) A) :=
  Entails.of_eq (bigSep_Ico_succ_bot h A)

/-- Numbers two apart name stages of the same parity. -/
theorem sg_mod {a b : ℕ} (h : a % 2 = b % 2) : (sg a).val % 2 = (sg b).val % 2 := by
  show a % 128 % 2 = b % 128 % 2; omega
/-- Numbers eight apart name chunks of the same slot. -/
theorem ch_mod {a b : ℕ} (h : a % 8 = b % 8) : (ch a).val % 8 = (ch b).val % 8 := by
  show a % 64 % 8 = b % 64 % 8; omega
/-- Stages two apart share their staging slot. -/
theorem stgAny_eq {s s' : Fin 128} (h : s.val % 2 = s'.val % 2) : (stgAny d s : sProp 𝕄) = stgAny d s' := by
  unfold stgAny; rw [stg_eq h]
/-- Chunks eight apart share their slot of the direct buffer. -/
theorem Sl_d_eq {c c' : Fin 64} (h : c.val % 8 = c'.val % 8) : (Sl ((d, true, c) : Key) : sProp 𝕄) = Sl ((d, true, c') : Key) := by
  show Release.slot _ _ = Release.slot _ _; rw [dSlot_eq h]
/-- Chunks eight apart share their slot of the forward buffer. -/
theorem Sl_f_eq {c c' : Fin 64} (h : c.val % 8 = c'.val % 8) : (Sl ((d, false, c) : Key) : sProp 𝕄) = Sl ((d, false, c') : Key) := by
  show Release.slot _ _ = Release.slot _ _; rw [fSlot_eq h]

/-- A direct slot in two half shares, for the two copies that read it. -/
theorem dPts_split (c : Fin 64) : (dPts m fullShare d c : sProp 𝕄) ⊢ iprop(dPts m fullShare.left d c ∗ dPts m fullShare.right d c) := by
  unfold dPts; exact (pointsTo_share (PosShare.mem_left_op_right fullShare)).1
/-- The two half shares are the slot again. -/
theorem dPts_slot (c : Fin 64) : iprop(dPts m fullShare.left d c ∗ dPts m fullShare.right d c) ⊢ (Sl ((d, true, c) : Key) : sProp 𝕄) := by
  show _ ⊢ Release.slot _ _
  unfold Release.slot dPts
  refine (pointsTo_share (PosShare.mem_left_op_right fullShare)).2.trans ?_
  iintro H; iexists (Dbuf m d c); iexact H
/-- A forward slot that has been read is a slot again. -/
theorem fPts_slot (c : Fin 64) : fPts m fullShare d c ⊢ (Sl ((d, false, c) : Key) : sProp 𝕄) := by
  show _ ⊢ Release.slot _ _
  unfold Release.slot fPts
  iintro H; iexists (Fbuf m d c); iexact H

/-! ## Staging -/

/-- The staging buffer not being filled: free before the first stage, then on its way out. -/
def Pv (n : ℕ) : sProp 𝕄 := if n = 0 then iprop(stgAny d (sg 1) ∗ sv d (outSem (sg 1))) else FlOut m d (sg (n - 1))

/-- Before stage `n`, whose rows are on their way in. -/
def StR (n : ℕ) : sProp 𝕄 :=
  iprop(bigSep (Ico (n + 1) 128) (fun k => xSt m d (sg k)) ∗ bigSep (Ico 0 n) (fun k => xSt m d (sg k))
    ∗ bigSep (Ico n 128) (fun k => outAny d (outOwn d (sg k))) ∗ bigSep (Ico 0 (n - 1)) (fun k => ownDone m d (sg k))
    ∗ FlIn m d (sg n) ∗ sv d (inSem (sg (n + 1))) ∗ sv d (outSem (sg n)) ∗ Pv m d n)

/-- After the last stage. -/
def StE : sProp 𝕄 :=
  iprop(bigSep (Ico 0 128) (fun k => xSt m d (sg k)) ∗ bigSep (Ico 0 126) (fun k => ownDone m d (sg k))
    ∗ FlOut m d (sg 126) ∗ FlOut m d (sg 127) ∗ sv d (inSem (sg 0)) ∗ sv d (inSem (sg 1)))

/-- The staging before stage `n`. -/
def St (n : ℕ) : sProp 𝕄 := if n < 128 then StR m d n else StE m d

variable {m K I}

/-- The other staging slot is made free before the next stage is fetched. -/
theorem t_free (n a b p q : ℕ) (hn : n < 127) :
    Tr m K I d iprop(Pv m d n ∗ bigSep (Ico 0 (n - 1)) (fun k => ownDone m d (sg k)) ∗ Ow d a b p q) (opt (Nat.ble 1 n) [.outW (sg (n - 1))])
      iprop(stgAny d (sg (n + 1)) ∗ sv d (outSem (sg (n + 1))) ∗ bigSep (Ico 0 n) (fun k => ownDone m d (sg k)) ∗ Ow d a b p q) := by
  rcases Nat.eq_zero_or_pos n with rfl | hn0
  · rw [opt_nble (by omega)]
    refine Tr.nil ?_
    unfold Pv; rw [if_pos rfl]
    iintro ⟨-, ⟨Hs, Hv⟩, Hd, HO⟩
    imodintro
    isplitl [Hs]; · iexact Hs
    isplitl [Hv]; · iexact Hv
    isplitl [Hd]; · iexact Hd
    iexact HO
  · rw [opt_ble (by omega)]
    intro rest Q
    unfold Pv; rw [if_neg (by omega)]
    iintro ⟨#Hc, Hf, Hd, HO⟩ Hk
    iapply (t_outW d (sg (n - 1)) a b p q rest Q) $$ [Hf HO]
    · isplitr; · iexact Hc
      isplitl [Hf] <;> iassumption
    have e1 : (sg (n - 1)).val % 2 = (sg (n + 1)).val % 2 := sg_mod (by omega)
    rw [stgAny_eq d e1, outSem_eq e1]
    iintro ⟨Hs, Ho, Hv, HO⟩
    iapply Hk
    isplitl [Hs]; · iexact Hs
    isplitl [Hv]; · iexact Hv
    isplitr [HO]
    · obtain ⟨k, rfl⟩ : ∃ k, n = k + 1 := ⟨n - 1, by omega⟩
      iapply (ico_push (Nat.zero_le k) (fun k => ownDone m d (sg k)))
      isplitl [Ho]; · iexact Ho
      iexact Hd
    iexact HO

/-- One stage, but for the last. -/
theorem t_stage (n a b p q : ℕ) (hn : n < 127) :
    Tr m K I d iprop(StR m d n ∗ Ow d a b p q) (stageOps n) iprop(StR m d (n + 1) ∗ Ow d a b p q) := by
  intro rest Q
  rw [show stageOps n ++ rest = opt (Nat.ble 1 n) [.outW (sg (n - 1))] ++ ([.insS (sg (n + 1))] ++ ([.insW (sg n)] ++ ([.outS (sg n)] ++ rest))) by
    unfold stageOps; rw [opt_blt (by omega)]; simp only [List.append_assoc, List.cons_append, List.nil_append]]
  unfold StR
  iintro ⟨#Hc, ⟨Hxs, Hxd, Ho, Hod, Hin, Hvi, Hvo, Hpv⟩, HO⟩ Hk
  iapply (t_free d n a b p q hn ([.insS (sg (n + 1))] ++ ([.insW (sg n)] ++ ([.outS (sg n)] ++ rest))) Q) $$ [Hpv Hod HO]
  · isplitr; · iexact Hc
    isplitl [Hpv]; · iexact Hpv
    isplitl [Hod] <;> iassumption
  iintro ⟨Hs, Hv, Hod, HO⟩
  ihave ⟨Hx, Hxs⟩ := (ico_pop (show n + 1 < 128 by omega) (fun k => xSt m d (sg k))) $$ Hxs
  iapply (t_insS d (sg (n + 1)) ([.insW (sg n)] ++ ([.outS (sg n)] ++ rest)) Q) $$ [Hx Hs Hvi]
  · isplitr; · iexact Hc
    isplitl [Hx]; · iexact Hx
    isplitl [Hs] <;> iassumption
  iintro Hin'
  iapply (t_insW d (sg n) a b p q ([.outS (sg n)] ++ rest) Q) $$ [Hin HO]
  · isplitr; · iexact Hc
    isplitl [Hin] <;> iassumption
  iintro ⟨Hx, Hs, Hvi, HO⟩
  ihave ⟨Hp, Ho⟩ := (ico_pop (show n < 128 by omega) (fun k => outAny d (outOwn d (sg k)))) $$ Ho
  iapply (t_outS d (sg n) rest Q) $$ [Hs Hp Hvo]
  · isplitr; · iexact Hc
    isplitl [Hs]; · iexact Hs
    isplitl [Hp] <;> iassumption
  iintro Hf
  iapply Hk
  rw [show inSem (sg (n + 1 + 1)) = inSem (sg n) from inSem_eq (sg_mod (by omega)), show n + 1 - 1 = n from rfl]
  unfold Pv
  rw [if_neg (Nat.succ_ne_zero n)]
  isplitr [HO]
  · isplitl [Hxs]; · iexact Hxs
    isplitl [Hx Hxd]
    · iapply (ico_push (Nat.zero_le n) (fun k => xSt m d (sg k)))
      isplitl [Hx] <;> iassumption
    isplitl [Ho]; · iexact Ho
    isplitl [Hod]; · iexact Hod
    isplitl [Hin']; · iexact Hin'
    isplitl [Hvi]; · iexact Hvi
    isplitl [Hv]; · iexact Hv
    iexact Hf
  iexact HO

/-- The last stage. -/
theorem t_stage_last (a b p q : ℕ) :
    Tr m K I d iprop(StR m d 127 ∗ Ow d a b p q) (stageOps 127) iprop(StE m d ∗ Ow d a b p q) := by
  intro rest Q
  rw [show stageOps 127 ++ rest = [.insW (sg 127)] ++ ([.outS (sg 127)] ++ rest) from rfl]
  unfold StR Pv StE
  rw [if_neg (by omega), ico_emp (show 128 ≤ 127 + 1 by omega)]
  iintro ⟨#Hc, ⟨-, Hxd, Ho, Hod, Hin, Hvi, Hvo, Hpv⟩, HO⟩ Hk
  iapply (t_insW d (sg 127) a b p q ([.outS (sg 127)] ++ rest) Q) $$ [Hin HO]
  · isplitr; · iexact Hc
    isplitl [Hin] <;> iassumption
  iintro ⟨Hx, Hs, Hvi', HO⟩
  ihave ⟨Hp, -⟩ := (ico_pop (show 127 < 128 by omega) (fun k => outAny d (outOwn d (sg k)))) $$ Ho
  iapply (t_outS d (sg 127) rest Q) $$ [Hs Hp Hvo]
  · isplitr; · iexact Hc
    isplitl [Hs]; · iexact Hs
    isplitl [Hp] <;> iassumption
  iintro Hf
  iapply Hk
  rw [show inSem (sg (127 + 1)) = inSem (sg 0) from inSem_eq (sg_mod (by omega)), show inSem (sg 127) = inSem (sg 1) from inSem_eq (sg_mod (by omega))]
  isplitr [HO]
  · isplitl [Hx Hxd]
    · iapply (ico_push (Nat.zero_le 127) (fun k => xSt m d (sg k)))
      isplitl [Hx] <;> iassumption
    isplitl [Hod]; · iexact Hod
    isplitl [Hpv]; · iexact Hpv
    isplitl [Hf]; · iexact Hf
    isplitl [Hvi] <;> iassumption
  iexact HO

/-- One stage. -/
theorem t_stage' (n a b p q : ℕ) (hn : n < 128) :
    Tr m K I d iprop(St m d n ∗ Ow d a b p q) (stageOps n) iprop(St m d (n + 1) ∗ Ow d a b p q) := by
  unfold St
  rw [if_pos hn]
  rcases Nat.lt_or_ge n 127 with h | h
  · rw [if_pos (by omega)]; exact t_stage d n a b p q h
  · obtain rfl : n = 127 := by omega
    rw [if_neg (by omega)]; exact t_stage_last d a b p q

end Cert.K01

end
-- ==== Proof.Groups.lean ====
/- The five groups of operations on one chunk, each leading from one standing of a device to the next. -/
module

public import proofs.«01_k».proof.Proof.Machines

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-! ## Sending -/

/-- What sending chunk `k` takes. -/
def sndPre (k : ℕ) : sProp 𝕄 :=
  iprop(xSendPts m fullShare.right d (ch k) ∗ Release.writeTok EK ((yn d, true, ch k) : Key) 1
    ∗ dutyTok ER (dsCell d (ch k)) 0 0 ∗ dutyTok ER (dvCell (yn d) (ch k)) 0 0)

/-- `a` chunks sent. -/
def SndS (a : ℕ) : sProp 𝕄 :=
  iprop(bigSep (Ico a 64) (sndPre m d) ∗ bigSep (Ico 0 a) (fun k => cred (tallyAt (dsCell d (ch k)) 0 N)) ∗ CD d (a - 8))

variable {m K I}

/-- The credit that chunk `a` needs, once the first eight are out. -/
theorem t_take (a b p q : ℕ) (ha : a < 64) (hb : b < 64 → a ≤ b + 2) (hp : p < 56 → a ≤ p + 4) (hq : q < 56 → a ≤ q + 6) :
    Tr m K I d iprop(CD d (a - 8) ∗ Ow d a b p q) (opt (Nat.ble 8 a) [.cDW]) iprop(CD d (a + 1 - 8) ∗ Ow d a b p q) := by
  rcases Nat.lt_or_ge a 8 with h | h
  · rw [opt_nble h, show a + 1 - 8 = a - 8 by omega]
    refine Tr.nil ?_
    iintro ⟨-, H⟩; imodintro; iexact H
  · rw [opt_ble h, show a + 1 - 8 = a - 8 + 1 by omega]
    exact t_cDW d (a - 8) a b p q (by omega) (by omega) (by omega) (by omega) (by omega)

/-- Chunk `a` is sent, and two more stages go by. -/
theorem t_send (a b p q : ℕ) (ha : a < 64) (hb : b < 64 → a ≤ b + 2) (hp : p < 56 → a ≤ p + 4) (hq : q < 56 → a ≤ q + 6) :
    Tr m K I d iprop(SndS m d a ∗ St m d (2 * a) ∗ Ow d a b p q) (sendOps a)
      iprop(SndS m d (a + 1) ∗ St m d (2 * (a + 1)) ∗ Ow d (a + 1) b p q) := by
  intro rest Q
  rw [show sendOps a ++ rest = opt (Nat.ble 8 a) [.cDW] ++ ([.dS (ch a)] ++ (stageOps (2 * a) ++ (stageOps (2 * a + 1) ++ rest))) by
    unfold sendOps; simp only [List.append_assoc]]
  unfold SndS
  iintro ⟨#Hc, ⟨Hs, Hcr, HD⟩, Hst, HO⟩ Hk
  iapply (t_take d a b p q ha hb hp hq ([.dS (ch a)] ++ (stageOps (2 * a) ++ (stageOps (2 * a + 1) ++ rest))) Q) $$ [HD HO]
  · isplitr; · iexact Hc
    isplitl [HD] <;> iassumption
  iintro ⟨HD, HO⟩
  unfold CD Cr
  icases HD with ⟨HD1, #HD2, HD3⟩
  ihave Hrel := (relTo_at (F := F) true (yn d) (show a < a + 1 - 8 + 8 by omega)) $$ HD2
  ihave ⟨Hp, Hs⟩ := (ico_pop ha (sndPre m d)) $$ Hs
  unfold sndPre
  icases Hp with ⟨Hx, Hw, Ht1, Ht2⟩
  iapply (t_dS d a b p q ha (stageOps (2 * a) ++ (stageOps (2 * a + 1) ++ rest)) Q) $$ [Hx Hw Ht1 Ht2 Hrel HO]
  · isplitr; · iexact Hc
    isplitl [Hx]; · iexact Hx
    isplitl [Hrel]; · iexact Hrel
    isplitl [Hw]; · iexact Hw
    isplitl [Ht1]; · iexact Ht1
    isplitl [Ht2]; · iexact Ht2
    iexact HO
  iintro ⟨Hcr', HO⟩
  iapply (t_stage' d (2 * a) (a + 1) b p q (by omega) (stageOps (2 * a + 1) ++ rest) Q) $$ [Hst HO]
  · isplitr; · iexact Hc
    isplitl [Hst] <;> iassumption
  iintro ⟨Hst, HO⟩
  iapply (t_stage' d (2 * a + 1) (a + 1) b p q (by omega) rest Q) $$ [Hst HO]
  · isplitr; · iexact Hc
    isplitl [Hst] <;> iassumption
  iintro ⟨Hst, HO⟩
  iapply Hk
  rw [show 2 * (a + 1) = 2 * a + 1 + 1 by omega]
  isplitr [Hst HO]
  · isplitl [Hs]; · iexact Hs
    isplitl [Hcr Hcr']
    · iapply (ico_push (Nat.zero_le a) (fun k => cred (tallyAt (dsCell d (ch k)) 0 N)))
      isplitl [Hcr'] <;> iassumption
    isplitl [HD1]; · iexact HD1
    isplitr; · iexact HD2
    iexact HD3
  isplitl [Hst] <;> iassumption

/-! ## Receiving from the neighbour along the first axis, and forwarding -/

variable (m)

/-- What taking in chunk `k` and forwarding it needs. -/
def rcvPre (k : ℕ) : sProp 𝕄 :=
  iprop(atPos ER (dvCell d (ch k)) 0 ∅ 0 ∗ cred (tallyAt (dvCell d (ch k)) 0 N) ∗ Release.writeTok EK ((xn d, false, ch k) : Key) 1
    ∗ dutyTok ER (fsCell d (ch k)) 0 0 ∗ dutyTok ER (fvCell (xn d) (ch k)) 0 0 ∗ outAny (F := F) d (outDir d (ch k)))

/-- `r` chunks received and forwarded. -/
def RcvS (r : ℕ) : sProp 𝕄 :=
  iprop(bigSep (Ico r 64) (rcvPre (F := F) d) ∗ CF d (r - 8) ∗ bigSep (Ico 0 r) (fun k => atPos ER (dvCell d (ch k)) 1 ∅ 0))

/-- Of the copies out of the first receive buffer, those from `e` up to `r` are in flight. -/
def MidD (e r : ℕ) : sProp 𝕄 :=
  iprop(bigSep (Ico r (e + 8)) (fun k => sv d (drSem (ch k)))
    ∗ bigSep (Ico e r) (fun k => iprop(FlDr m d (ch k) ∗ cred (tallyAt (fsCell d (ch k)) 0 N))))

variable {m}

/-- Before chunk `r` is forwarded: the credit for its slot, from the ninth chunk on. -/
theorem t_takeF (r a p q : ℕ) (hr : r < 64) (ha : a < 64 → r < a) (hp : p < 56 → r < p + 4) (hq : q < 56 → r < q + 6) :
    Tr m K I d iprop(CF d (r - 8) ∗ Ow d a r p q) (opt (Nat.ble 8 r) [.cFW]) iprop(CF d (r + 1 - 8) ∗ Ow d a r p q) := by
  rcases Nat.lt_or_ge r 8 with h | h
  · rw [opt_nble h, show r + 1 - 8 = r - 8 by omega]
    refine Tr.nil ?_
    iintro ⟨-, H⟩; imodintro; iexact H
  · rw [opt_ble h, show r + 1 - 8 = r - 8 + 1 by omega]
    exact t_cFW d (r - 8) a r p q (by omega) (by omega) (by omega) (by omega) (by omega)

/-- Chunk `r` comes in, starts on its way to the result, and is forwarded. -/
theorem t_recv (e r a p q : ℕ) (hr : r < 64) (he : e ≤ r) (he' : r < e + 8) (ha : a < 64 → r < a) (hp : p < 56 → r < p + 4) (hq : q < 56 → r < q + 6) :
    Tr m K I d iprop(RcvS (F := F) d r ∗ MidD m d e r ∗ Ow d a r p q) (recvOps r)
      iprop(RcvS (F := F) d (r + 1) ∗ MidD m d e (r + 1) ∗ Ow d a (r + 1) p q) := by
  intro rest Q
  rw [show recvOps r ++ rest = [.dRW (ch r)] ++ ([.drS (ch r)] ++ (opt (Nat.ble 8 r) [.cFW] ++ ([.fS (ch r)] ++ rest))) by
    unfold recvOps; simp only [List.append_assoc, List.cons_append, List.nil_append]]
  unfold RcvS MidD
  iintro ⟨#Hc, ⟨Hs, HF, Hd⟩, ⟨Hv, Hm⟩, HO⟩ Hk
  ihave ⟨Hp, Hs⟩ := (ico_pop hr (rcvPre (F := F) d)) $$ Hs
  unfold rcvPre
  icases Hp with ⟨Hat, Hcr, Hw, Ht1, Ht2, Hout⟩
  have e1 : (ch r).val = r := Nat.mod_eq_of_lt hr
  iapply (t_dRW d (ch r) a r p q (by omega) (by omega) (by omega) (by omega) ([.drS (ch r)] ++ (opt (Nat.ble 8 r) [.cFW] ++ ([.fS (ch r)] ++ rest))) Q) $$ [Hat Hcr HO]
  · isplitr; · iexact Hc
    isplitl [Hcr]; · iexact Hcr
    isplitl [Hat] <;> iassumption
  iintro ⟨HP, Hat, HO⟩
  ihave ⟨HPl, HPr⟩ := (dPts_split m d (ch r)) $$ HP
  ihave ⟨Hv0, Hv⟩ := (ico_pop he' (fun k => sv d (drSem (ch k)))) $$ Hv
  iapply (t_drS d (ch r) (opt (Nat.ble 8 r) [.cFW] ++ ([.fS (ch r)] ++ rest)) Q) $$ [HPl Hout Hv0]
  · isplitr; · iexact Hc
    isplitl [HPl]; · iexact HPl
    isplitl [Hout] <;> iassumption
  iintro Hfl
  iapply (t_takeF d r a p q hr ha hp hq ([.fS (ch r)] ++ rest) Q) $$ [HF HO]
  · isplitr; · iexact Hc
    isplitl [HF] <;> iassumption
  iintro ⟨HF, HO⟩
  unfold CF Cr
  icases HF with ⟨HF1, #HF2, HF3⟩
  ihave Hrel := (relTo_at (F := F) false (xn d) (show r < r + 1 - 8 + 8 by omega)) $$ HF2
  iapply (t_fS d a r p q hr rest Q) $$ [HPr Hw Ht1 Ht2 Hrel HO]
  · isplitr; · iexact Hc
    isplitl [HPr]; · iexact HPr
    isplitl [Hrel]; · iexact Hrel
    isplitl [Hw]; · iexact Hw
    isplitl [Ht1]; · iexact Ht1
    isplitl [Ht2]; · iexact Ht2
    iexact HO
  iintro ⟨Hcr', HO⟩
  iapply Hk
  isplitr [Hv Hm Hfl Hcr' HO]
  · isplitl [Hs]; · iexact Hs
    isplitl [HF1 HF3]
    · isplitl [HF1]; · iexact HF1
      isplitr; · iexact HF2
      iexact HF3
    iapply (ico_push (Nat.zero_le r) (fun k => atPos ER (dvCell d (ch k)) 1 ∅ 0))
    isplitl [Hat] <;> iassumption
  isplitr [HO]
  · isplitl [Hv]; · iexact Hv
    iapply (ico_push he (fun k => iprop(FlDr m d (ch k) ∗ cred (tallyAt (fsCell d (ch k)) 0 N))))
    isplitr [Hm]
    · isplitl [Hfl] <;> iassumption
    iexact Hm
  iexact HO

/-! ## Freeing a slot of the first receive buffer -/

variable (m)

/-- `r` slots freed. -/
def DrnS (r : ℕ) : sProp 𝕄 :=
  iprop(bigSep (Ico r 64) (fun k => atPos ER (fsCell d (ch k)) 0 ∅ 0)
    ∗ bigSep (Ico 0 r) (fun k => iprop(atPos ER (fsCell d (ch k)) 1 ∅ 0 ∗ dirDone m d (ch k)))
    ∗ bigSep (Ico (r + 8) 64) (fun k => Release.readerAt EK ((d, true, ch k) : Key) 0)
    ∗ bigSep (Ico r 56) (fun k => dutyTok ER (cdCell (yn d)) 0 k)
    ∗ relTo true d (min r 56 + 8) ∗ bigSep (Ico 56 r) (fun k => Sl ((d, true, ch k) : Key)))

variable {m}

/-- A freed slot is given to the chunk that takes it next, and its writer hears of it. -/
theorem t_giveD (r a b q : ℕ) (hr : r < 64) :
    Tr m K I d iprop(bigSep (Ico (r + 8) 64) (fun k => Release.readerAt EK ((d, true, ch k) : Key) 0)
        ∗ bigSep (Ico r 56) (fun k => dutyTok ER (cdCell (yn d)) 0 k)
        ∗ relTo true d (min r 56 + 8) ∗ bigSep (Ico 56 r) (fun k => Sl ((d, true, ch k) : Key)) ∗ Sl ((d, true, ch r) : Key) ∗ Ow d a b (min r 56) q)
      (opt (Nat.ble r 55) [.cDS])
      iprop(bigSep (Ico (r + 1 + 8) 64) (fun k => Release.readerAt EK ((d, true, ch k) : Key) 0)
        ∗ bigSep (Ico (r + 1) 56) (fun k => dutyTok ER (cdCell (yn d)) 0 k)
        ∗ relTo true d (min (r + 1) 56 + 8) ∗ bigSep (Ico 56 (r + 1)) (fun k => Sl ((d, true, ch k) : Key)) ∗ Ow d a b (min (r + 1) 56) q) := by
  rcases Nat.lt_or_ge r 56 with h | h
  · rw [opt_ble (show r ≤ 55 by omega), show min r 56 = r by omega, show min (r + 1) 56 = r + 1 by omega,
      ico_emp (show r ≤ 56 by omega), ico_emp (show r + 1 ≤ 56 by omega),
      Sl_d_eq d (ch_mod (show r % 8 = (r + 8) % 8 by omega))]
    intro rest Q
    iintro ⟨#Hc, Hrd, Hdt, Hrel, -, Hsl, HO⟩ Hk
    ihave ⟨Hr0, Hrd⟩ := (ico_pop (show r + 8 < 64 by omega) (fun k => Release.readerAt EK ((d, true, ch k) : Key) 0)) $$ Hrd
    ihave ⟨Ht, Hdt⟩ := (ico_pop h (fun k => dutyTok ER (cdCell (yn d)) 0 k)) $$ Hdt
    ihave Hg := (give (m := m) (K := K) (I := I) d true (r + 8)) $$ [Hsl Hr0 Hrel]
    · isplitr; · iexact Hc
      isplitl [Hsl]; · iexact Hsl
      isplitl [Hr0] <;> iassumption
    imod Hg
    icases Hg with #Hrel
    iapply (t_cDS d a b r q h rest Q) $$ [Ht HO]
    · isplitr; · iexact Hc
      isplitr; · iexact Hrel
      isplitl [Ht] <;> iassumption
    iintro HO
    iapply Hk
    isplitl [Hrd]; · iexact Hrd
    isplitl [Hdt]; · iexact Hdt
    isplitr; · iexact Hrel
    isplitr; · iempintro
    iexact HO
  · rw [opt_nble (show 55 < r by omega), show min r 56 = 56 by omega, show min (r + 1) 56 = 56 by omega,
      ico_emp (show 64 ≤ r + 8 by omega), ico_emp (show 64 ≤ r + 1 + 8 by omega), ico_emp (show 56 ≤ r by omega), ico_emp (show 56 ≤ r + 1 by omega)]
    refine Tr.nil ?_
    iintro ⟨-, -, -, Hrel, Hs, Hsl, HO⟩
    imodintro
    isplitr; · iempintro
    isplitr; · iempintro
    isplitl [Hrel]; · iexact Hrel
    isplitr [HO]
    · iapply (ico_push h (fun k => Sl ((d, true, ch k) : Key)))
      isplitl [Hsl] <;> iassumption
    iexact HO

/-- Chunk `r` has left the first receive buffer both ways, and its slot is freed. -/
theorem t_drain (r nr a b q : ℕ) (hr : r < 64) (h1 : r < nr) (h2 : nr ≤ r + 8) :
    Tr m K I d iprop(DrnS m d r ∗ MidD m d r nr ∗ Ow d a b (min r 56) q) (drainOps r)
      iprop(DrnS m d (r + 1) ∗ MidD m d (r + 1) nr ∗ Ow d a b (min (r + 1) 56) q) := by
  intro rest Q
  rw [show drainOps r ++ rest = [.drW (ch r)] ++ ([.fSW (ch r)] ++ (opt (Nat.ble r 55) [.cDS] ++ rest)) by
    unfold drainOps; simp only [List.append_assoc, List.cons_append, List.nil_append]]
  unfold DrnS MidD
  iintro ⟨#Hc, ⟨Hat, Hd, Hrd, Hdt, Hrel, Hs⟩, ⟨Hv, Hm⟩, HO⟩ Hk
  ihave ⟨Hf, Hm⟩ := (ico_pop h1 (fun k => iprop(FlDr m d (ch k) ∗ cred (tallyAt (fsCell d (ch k)) 0 N)))) $$ Hm
  icases Hf with ⟨Hf, Hcr⟩
  ihave ⟨Ha, Hat⟩ := (ico_pop hr (fun k => atPos ER (fsCell d (ch k)) 0 ∅ 0)) $$ Hat
  iapply (t_drW d (ch r) a b (min r 56) q ([.fSW (ch r)] ++ (opt (Nat.ble r 55) [.cDS] ++ rest)) Q) $$ [Hf HO]
  · isplitr; · iexact Hc
    isplitl [Hf] <;> iassumption
  rw [show drSem (ch r) = drSem (ch (r + 8)) from drSem_eq (ch_mod (by omega))]
  iintro ⟨HPl, Hdd, Hv0, HO⟩
  iapply (t_fSW d (ch r) a b (min r 56) q (opt (Nat.ble r 55) [.cDS] ++ rest) Q) $$ [Hcr Ha HO]
  · isplitr; · iexact Hc
    isplitl [Hcr]; · iexact Hcr
    isplitl [Ha] <;> iassumption
  iintro ⟨HPr, Ha, HO⟩
  ihave Hsl := (dPts_slot m d (ch r)) $$ [HPl HPr]
  · isplitl [HPl] <;> iassumption
  iapply (t_giveD d r a b q hr rest Q) $$ [Hrd Hdt Hrel Hs Hsl HO]
  · isplitr; · iexact Hc
    isplitl [Hrd]; · iexact Hrd
    isplitl [Hdt]; · iexact Hdt
    isplitl [Hrel]; · iexact Hrel
    isplitl [Hs]; · iexact Hs
    isplitl [Hsl] <;> iassumption
  iintro ⟨Hrd, Hdt, Hrel, Hs, HO⟩
  iapply Hk
  isplitr [Hv Hv0 Hm HO]
  · isplitl [Hat]; · iexact Hat
    isplitl [Hd Ha Hdd]
    · iapply (ico_push (Nat.zero_le r) (fun k => iprop(atPos ER (fsCell d (ch k)) 1 ∅ 0 ∗ dirDone m d (ch k))))
      isplitr [Hd]
      · isplitl [Ha] <;> iassumption
      iexact Hd
    isplitl [Hrd]; · iexact Hrd
    isplitl [Hdt]; · iexact Hdt
    isplitl [Hrel] <;> iassumption
  isplitr [HO]
  · isplitl [Hv Hv0]
    · rw [show r + 1 + 8 = r + 8 + 1 by omega]
      iapply (ico_push h2 (fun k => sv d (drSem (ch k))))
      isplitl [Hv0] <;> iassumption
    iexact Hm
  iexact HO

/-! ## Receiving what is forwarded -/

variable (m)

/-- What taking in forwarded chunk `k` needs. -/
def fwdPre (k : ℕ) : sProp 𝕄 :=
  iprop(atPos ER (fvCell d (ch k)) 0 ∅ 0 ∗ cred (tallyAt (fvCell d (ch k)) 0 N) ∗ outAny (F := F) d (outFwd d (ch k)))

/-- `r` forwarded chunks received. -/
def FwdS (r : ℕ) : sProp 𝕄 :=
  iprop(bigSep (Ico r 64) (fwdPre (F := F) d) ∗ bigSep (Ico 0 r) (fun k => atPos ER (fvCell d (ch k)) 1 ∅ 0))

/-- Of the copies out of the second receive buffer, those from `e` up to `r` are in flight. -/
def MidF (e r : ℕ) : sProp 𝕄 :=
  iprop(bigSep (Ico r (e + 8)) (fun k => sv d (frSem (ch k))) ∗ bigSep (Ico e r) (fun k => FlFr m d (ch k)))

/-- `r` slots of the second receive buffer freed. -/
def FdrS (r : ℕ) : sProp 𝕄 :=
  iprop(bigSep (Ico 0 r) (fun k => fwdDone m d (ch k))
    ∗ bigSep (Ico (r + 8) 64) (fun k => Release.readerAt EK ((d, false, ch k) : Key) 0)
    ∗ bigSep (Ico r 56) (fun k => dutyTok ER (cfCell (xn d)) 0 k)
    ∗ relTo false d (min r 56 + 8) ∗ bigSep (Ico 56 r) (fun k => Sl ((d, false, ch k) : Key)))

variable {m}

/-- Forwarded chunk `r` comes in and starts on its way to the result. -/
theorem t_fwd (e r a b p q : ℕ) (hr : r < 64) (he : e ≤ r) (he' : r < e + 8) (ha : a < 64 → r + 2 < a) (hb : b < 64 → r < b)
    (hp : p < 56 → r < p + 2) (hq : q < 56 → r < q + 4) :
    Tr m K I d iprop(FwdS (F := F) d r ∗ MidF m d e r ∗ Ow d a b p q) (fwdOps r)
      iprop(FwdS (F := F) d (r + 1) ∗ MidF m d e (r + 1) ∗ Ow d a b p q) := by
  intro rest Q
  rw [show fwdOps r ++ rest = [.fRW (ch r)] ++ ([.frS (ch r)] ++ rest) from rfl]
  unfold FwdS MidF
  iintro ⟨#Hc, ⟨Hs, Hd⟩, ⟨Hv, Hm⟩, HO⟩ Hk
  ihave ⟨Hp, Hs⟩ := (ico_pop hr (fwdPre (F := F) d)) $$ Hs
  unfold fwdPre
  icases Hp with ⟨Hat, Hcr, Hout⟩
  have e1 : (ch r).val = r := Nat.mod_eq_of_lt hr
  iapply (t_fRW d (ch r) a b p q (by omega) (by omega) (by omega) (by omega) ([.frS (ch r)] ++ rest) Q) $$ [Hat Hcr HO]
  · isplitr; · iexact Hc
    isplitl [Hcr]; · iexact Hcr
    isplitl [Hat] <;> iassumption
  iintro ⟨HP, Hat, HO⟩
  ihave ⟨Hv0, Hv⟩ := (ico_pop he' (fun k => sv d (frSem (ch k)))) $$ Hv
  iapply (t_frS d (ch r) rest Q) $$ [HP Hout Hv0]
  · isplitr; · iexact Hc
    isplitl [HP]; · iexact HP
    isplitl [Hout] <;> iassumption
  iintro Hfl
  iapply Hk
  isplitr [Hv Hm Hfl HO]
  · isplitl [Hs]; · iexact Hs
    iapply (ico_push (Nat.zero_le r) (fun k => atPos ER (fvCell d (ch k)) 1 ∅ 0))
    isplitl [Hat] <;> iassumption
  isplitr [HO]
  · isplitl [Hv]; · iexact Hv
    iapply (ico_push he (fun k => FlFr m d (ch k)))
    isplitl [Hfl] <;> iassumption
  iexact HO

/-- A freed slot of the second receive buffer is given on, and its writer hears of it. -/
theorem t_giveF (r a b p : ℕ) (hr : r < 64) :
    Tr m K I d iprop(bigSep (Ico (r + 8) 64) (fun k => Release.readerAt EK ((d, false, ch k) : Key) 0)
        ∗ bigSep (Ico r 56) (fun k => dutyTok ER (cfCell (xn d)) 0 k)
        ∗ relTo false d (min r 56 + 8) ∗ bigSep (Ico 56 r) (fun k => Sl ((d, false, ch k) : Key)) ∗ Sl ((d, false, ch r) : Key) ∗ Ow d a b p (min r 56))
      (opt (Nat.ble r 55) [.cFS])
      iprop(bigSep (Ico (r + 1 + 8) 64) (fun k => Release.readerAt EK ((d, false, ch k) : Key) 0)
        ∗ bigSep (Ico (r + 1) 56) (fun k => dutyTok ER (cfCell (xn d)) 0 k)
        ∗ relTo false d (min (r + 1) 56 + 8) ∗ bigSep (Ico 56 (r + 1)) (fun k => Sl ((d, false, ch k) : Key)) ∗ Ow d a b p (min (r + 1) 56)) := by
  rcases Nat.lt_or_ge r 56 with h | h
  · rw [opt_ble (show r ≤ 55 by omega), show min r 56 = r by omega, show min (r + 1) 56 = r + 1 by omega,
      ico_emp (show r ≤ 56 by omega), ico_emp (show r + 1 ≤ 56 by omega),
      Sl_f_eq d (ch_mod (show r % 8 = (r + 8) % 8 by omega))]
    intro rest Q
    iintro ⟨#Hc, Hrd, Hdt, Hrel, -, Hsl, HO⟩ Hk
    ihave ⟨Hr0, Hrd⟩ := (ico_pop (show r + 8 < 64 by omega) (fun k => Release.readerAt EK ((d, false, ch k) : Key) 0)) $$ Hrd
    ihave ⟨Ht, Hdt⟩ := (ico_pop h (fun k => dutyTok ER (cfCell (xn d)) 0 k)) $$ Hdt
    ihave Hg := (give (m := m) (K := K) (I := I) d false (r + 8)) $$ [Hsl Hr0 Hrel]
    · isplitr; · iexact Hc
      isplitl [Hsl]; · iexact Hsl
      isplitl [Hr0] <;> iassumption
    imod Hg
    icases Hg with #Hrel
    iapply (t_cFS d a b p r h rest Q) $$ [Ht HO]
    · isplitr; · iexact Hc
      isplitr; · iexact Hrel
      isplitl [Ht] <;> iassumption
    iintro HO
    iapply Hk
    isplitl [Hrd]; · iexact Hrd
    isplitl [Hdt]; · iexact Hdt
    isplitr; · iexact Hrel
    isplitr; · iempintro
    iexact HO
  · rw [opt_nble (show 55 < r by omega), show min r 56 = 56 by omega, show min (r + 1) 56 = 56 by omega,
      ico_emp (show 64 ≤ r + 8 by omega), ico_emp (show 64 ≤ r + 1 + 8 by omega), ico_emp (show 56 ≤ r by omega), ico_emp (show 56 ≤ r + 1 by omega)]
    refine Tr.nil ?_
    iintro ⟨-, -, -, Hrel, Hs, Hsl, HO⟩
    imodintro
    isplitr; · iempintro
    isplitr; · iempintro
    isplitl [Hrel]; · iexact Hrel
    isplitr [HO]
    · iapply (ico_push h (fun k => Sl ((d, false, ch k) : Key)))
      isplitl [Hsl] <;> iassumption
    iexact HO

/-- Forwarded chunk `r` has reached the result, and its slot is freed. -/
theorem t_fdrain (r nr a b p : ℕ) (hr : r < 64) (h1 : r < nr) (h2 : nr ≤ r + 8) :
    Tr m K I d iprop(FdrS m d r ∗ MidF m d r nr ∗ Ow d a b p (min r 56)) (fdrainOps r)
      iprop(FdrS m d (r + 1) ∗ MidF m d (r + 1) nr ∗ Ow d a b p (min (r + 1) 56)) := by
  intro rest Q
  rw [show fdrainOps r ++ rest = [.frW (ch r)] ++ (opt (Nat.ble r 55) [.cFS] ++ rest) from rfl]
  unfold FdrS MidF
  iintro ⟨#Hc, ⟨Hd, Hrd, Hdt, Hrel, Hs⟩, ⟨Hv, Hm⟩, HO⟩ Hk
  ihave ⟨Hf, Hm⟩ := (ico_pop h1 (fun k => FlFr m d (ch k))) $$ Hm
  iapply (t_frW d (ch r) a b p (min r 56) (opt (Nat.ble r 55) [.cFS] ++ rest) Q) $$ [Hf HO]
  · isplitr; · iexact Hc
    isplitl [Hf] <;> iassumption
  rw [show frSem (ch r) = frSem (ch (r + 8)) from frSem_eq (ch_mod (by omega))]
  iintro ⟨HP, Hdd, Hv0, HO⟩
  ihave Hsl := (fPts_slot m d (ch r)) $$ HP
  iapply (t_giveF d r a b p hr rest Q) $$ [Hrd Hdt Hrel Hs Hsl HO]
  · isplitr; · iexact Hc
    isplitl [Hrd]; · iexact Hrd
    isplitl [Hdt]; · iexact Hdt
    isplitl [Hrel]; · iexact Hrel
    isplitl [Hs]; · iexact Hs
    isplitl [Hsl] <;> iassumption
  iintro ⟨Hrd, Hdt, Hrel, Hs, HO⟩
  iapply Hk
  isplitr [Hv Hv0 Hm HO]
  · isplitl [Hd Hdd]
    · iapply (ico_push (Nat.zero_le r) (fun k => fwdDone m d (ch k)))
      isplitl [Hdd] <;> iassumption
    isplitl [Hrd]; · iexact Hrd
    isplitl [Hdt]; · iexact Hdt
    isplitl [Hrel] <;> iassumption
  isplitr [HO]
  · isplitl [Hv Hv0]
    · rw [show r + 1 + 8 = r + 8 + 1 by omega]
      iapply (ico_push h2 (fun k => sv d (frSem (ch k))))
      isplitl [Hv0] <;> iassumption
    iexact Hm
  iexact HO

end Cert.K01

end
-- ==== Proof.Loop.lean ====
/- The loop, what comes before it and what comes after it. -/
module

public import proofs.«01_k».proof.Proof.Groups

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-! ## The whole standing of a device -/

/-- Without the stages: chunks sent up to `a`, received up to `nr`, freed up to `nd`, forwarded ones received up to `nf`
    and freed up to `ne`. -/
def Tc (a nr nd nf ne : ℕ) : sProp 𝕄 :=
  iprop(SndS m d a ∗ RcvS (F := F) d nr ∗ MidD m d nd nr ∗ DrnS m d nd ∗ FwdS (F := F) d nf ∗ MidF m d ne nf ∗ FdrS m d ne
    ∗ Ow d a nr (min nd 56) (min ne 56))

/-- With the stages. -/
def T (a nr nd nf ne : ℕ) : sProp 𝕄 := iprop(St m d (2 * a) ∗ Tc m d a nr nd nf ne)

variable {m K I}

/-- A chunk is sent and two stages are copied. -/
theorem T_send (a nr nd nf ne : ℕ) (ha : a < 64) (hb : nr < 64 → a ≤ nr + 2) (hp : nd < 56 → a ≤ nd + 4) (hq : ne < 56 → a ≤ ne + 6) :
    Tr m K I d (T m d a nr nd nf ne) (sendOps a) (T m d (a + 1) nr nd nf ne) := by
  refine (t_send d a nr (min nd 56) (min ne 56) ha hb (by omega) (by omega)).conseq
    (R := iprop(RcvS (F := F) d nr ∗ MidD m d nd nr ∗ DrnS m d nd ∗ FwdS (F := F) d nf ∗ MidF m d ne nf ∗ FdrS m d ne)) ?_ ?_
  · unfold T Tc
    iintro ⟨-, H0, H1, H2, H3, H4, H5, H6, H7, HO⟩
    imodintro
    isplitl [H0 H1 HO]
    · isplitl [H1]; · iexact H1
      isplitl [H0] <;> iassumption
    isplitl [H2]; · iexact H2
    isplitl [H3]; · iexact H3
    isplitl [H4]; · iexact H4
    isplitl [H5]; · iexact H5
    isplitl [H6] <;> iassumption
  · unfold T Tc
    iintro ⟨-, ⟨H1, H0, HO⟩, H2, H3, H4, H5, H6, H7⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-- A chunk is received, starts for the result and is forwarded. -/
theorem T_recv (a nr nd nf ne : ℕ) (hr : nr < 64) (h1 : nd ≤ nr) (h2 : nr < nd + 8) (ha : a < 64 → nr < a) (hp : nd < 56 → nr < nd + 4) (hq : ne < 56 → nr < ne + 6) :
    Tr m K I d (T m d a nr nd nf ne) (recvOps nr) (T m d a (nr + 1) nd nf ne) := by
  refine (t_recv d nd nr a (min nd 56) (min ne 56) hr h1 h2 ha (by omega) (by omega)).conseq
    (R := iprop(St m d (2 * a) ∗ SndS m d a ∗ DrnS m d nd ∗ FwdS (F := F) d nf ∗ MidF m d ne nf ∗ FdrS m d ne)) ?_ ?_
  · unfold T Tc
    iintro ⟨-, H0, H1, H2, H3, H4, H5, H6, H7, HO⟩
    imodintro
    isplitl [H2 H3 HO]
    · isplitl [H2]; · iexact H2
      isplitl [H3] <;> iassumption
    isplitl [H0]; · iexact H0
    isplitl [H1]; · iexact H1
    isplitl [H4]; · iexact H4
    isplitl [H5]; · iexact H5
    isplitl [H6] <;> iassumption
  · unfold T Tc
    iintro ⟨-, ⟨H2, H3, HO⟩, H0, H1, H4, H5, H6, H7⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-- A direct chunk is done and its slot is given back. -/
theorem T_drain (a nr nd nf ne : ℕ) (hr : nd < 64) (h1 : nd < nr) (h2 : nr ≤ nd + 8) :
    Tr m K I d (T m d a nr nd nf ne) (drainOps nd) (T m d a nr (nd + 1) nf ne) := by
  refine (t_drain d nd nr a nr (min ne 56) hr h1 h2).conseq
    (R := iprop(St m d (2 * a) ∗ SndS m d a ∗ RcvS (F := F) d nr ∗ FwdS (F := F) d nf ∗ MidF m d ne nf ∗ FdrS m d ne)) ?_ ?_
  · unfold T Tc
    iintro ⟨-, H0, H1, H2, H3, H4, H5, H6, H7, HO⟩
    imodintro
    isplitl [H3 H4 HO]
    · isplitl [H4]; · iexact H4
      isplitl [H3] <;> iassumption
    isplitl [H0]; · iexact H0
    isplitl [H1]; · iexact H1
    isplitl [H2]; · iexact H2
    isplitl [H5]; · iexact H5
    isplitl [H6] <;> iassumption
  · unfold T Tc
    iintro ⟨-, ⟨H4, H3, HO⟩, H0, H1, H2, H5, H6, H7⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-- A forwarded chunk is received and starts for the result. -/
theorem T_fwd (a nr nd nf ne : ℕ) (hr : nf < 64) (h1 : ne ≤ nf) (h2 : nf < ne + 8) (ha : a < 64 → nf + 2 < a) (hb : nr < 64 → nf < nr)
    (hp : nd < 56 → nf < nd + 2) (hq : ne < 56 → nf < ne + 4) :
    Tr m K I d (T m d a nr nd nf ne) (fwdOps nf) (T m d a nr nd (nf + 1) ne) := by
  refine (t_fwd d ne nf a nr (min nd 56) (min ne 56) hr h1 h2 ha hb (by omega) (by omega)).conseq
    (R := iprop(St m d (2 * a) ∗ SndS m d a ∗ RcvS (F := F) d nr ∗ MidD m d nd nr ∗ DrnS m d nd ∗ FdrS m d ne)) ?_ ?_
  · unfold T Tc
    iintro ⟨-, H0, H1, H2, H3, H4, H5, H6, H7, HO⟩
    imodintro
    isplitl [H5 H6 HO]
    · isplitl [H5]; · iexact H5
      isplitl [H6] <;> iassumption
    isplitl [H0]; · iexact H0
    isplitl [H1]; · iexact H1
    isplitl [H2]; · iexact H2
    isplitl [H3]; · iexact H3
    isplitl [H4] <;> iassumption
  · unfold T Tc
    iintro ⟨-, ⟨H5, H6, HO⟩, H0, H1, H2, H3, H4, H7⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-- A forwarded chunk is done and its slot is given back. -/
theorem T_fdrain (a nr nd nf ne : ℕ) (hr : ne < 64) (h1 : ne < nf) (h2 : nf ≤ ne + 8) :
    Tr m K I d (T m d a nr nd nf ne) (fdrainOps ne) (T m d a nr nd nf (ne + 1)) := by
  refine (t_fdrain d ne nf a nr (min nd 56) hr h1 h2).conseq
    (R := iprop(St m d (2 * a) ∗ SndS m d a ∗ RcvS (F := F) d nr ∗ MidD m d nd nr ∗ DrnS m d nd ∗ FwdS (F := F) d nf)) ?_ ?_
  · unfold T Tc
    iintro ⟨-, H0, H1, H2, H3, H4, H5, H6, H7, HO⟩
    imodintro
    isplitl [H6 H7 HO]
    · isplitl [H7]; · iexact H7
      isplitl [H6] <;> iassumption
    isplitl [H0]; · iexact H0
    isplitl [H1]; · iexact H1
    isplitl [H2]; · iexact H2
    isplitl [H3]; · iexact H3
    isplitl [H4] <;> iassumption
  · unfold T Tc
    iintro ⟨-, ⟨H7, H6, HO⟩, H0, H1, H2, H3, H4, H5⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

/-! ## The loop -/

/-- No operation changes nothing. -/
theorem Tr.rfl {P : sProp 𝕄} : Tr m K I d P [] P := Tr.nil (by iintro ⟨-, H⟩; imodintro; iexact H)

/-- A conditional piece: it is run, or there is nothing to do. -/
theorem Tr.optBle {P P' : sProp 𝕄} {l : List Op} {x y : ℕ} (h1 : x ≤ y → Tr m K I d P l P') (h2 : y < x → P = P') :
    Tr m K I d P (opt (Nat.ble x y) l) P' := by
  rcases Nat.lt_or_ge y x with h | h
  · rw [opt_nble h, h2 h]; exact Tr.rfl d
  · rw [opt_ble h]; exact h1 h

/-- Pieces one after the other. -/
theorem Tr.range {P : ℕ → sProp 𝕄} {f : ℕ → List Op} (n : ℕ) : ∀ i : ℕ, (∀ k, i ≤ k → k < i + n → Tr m K I d (P k) (f k) (P (k + 1))) →
    Tr m K I d (P i) (rangeOps f i n) (P (i + n)) := by
  induction n with
  | zero => exact fun i _ => Tr.rfl d
  | succ n ih =>
    intro i h
    rw [show i + (n + 1) = i + 1 + n by omega]
    exact (h i (Nat.le_refl i) (by omega)).app (ih (i + 1) fun k h1 h2 => h k (by omega) (by omega))

/-- The standing before iteration `i`. -/
def Ti (m : (ℓ : Loc nD τ sig) → Buf (Elt F) ℓ) (d : Dev nD) (i : ℕ) : sProp 𝕄 := T m d (min i 64) (i - 2) (i - 4) (i - 4) (i - 6)

/-- One iteration. -/
theorem t_iter (i : ℕ) (hi : i < 66) : Tr m K I d (Ti m d i) (iterOps i) (Ti m d (i + 1)) := by
  unfold iterOps Ti
  refine Tr.app (P' := T m d (min (i + 1) 64) (i + 1 - 2) (i + 1 - 4) (i + 1 - 4) (i - 6))
    (Tr.app (P' := T m d (min (i + 1) 64) (i + 1 - 2) (i - 4) (i - 4) (i - 6))
      (Tr.app (P' := T m d (min (i + 1) 64) (i - 2) (i - 4) (i - 4) (i - 6)) ?_ ?_) ?_) ?_
  · refine Tr.optBle d (fun h => ?_) fun h => ?_
    · rw [show min i 64 = i by omega, show min (i + 1) 64 = i + 1 by omega]
      exact T_send d i _ _ _ _ (by omega) (by omega) (by omega) (by omega)
    · rw [show min i 64 = min (i + 1) 64 by omega]
  · refine Tr.optBle d (fun h => ?_) fun h => ?_
    · rw [show i + 1 - 2 = i - 2 + 1 by omega]
      exact T_recv d _ _ _ _ _ (by omega) (by omega) (by omega) (by omega) (by omega) (by omega)
    · rw [show i + 1 - 2 = i - 2 by omega]
  · refine Tr.optBle d (fun h => ?_) fun h => ?_
    · rw [show i + 1 - 4 = i - 4 + 1 by omega]
      exact (T_drain d _ _ _ _ _ (by omega) (by omega) (by omega)).app
        (T_fwd d _ _ _ _ _ (by omega) (by omega) (by omega) (by omega) (by omega) (by omega) (by omega))
    · rw [show i + 1 - 4 = i - 4 by omega]
  · refine Tr.optBle d (fun h => ?_) fun h => ?_
    · rw [show i + 1 - 6 = i - 6 + 1 by omega]
      exact T_fdrain d _ _ _ _ _ (by omega) (by omega) (by omega)
    · rw [show i + 1 - 6 = i - 6 by omega]

/-- The whole loop. -/
theorem t_loop : Tr m K I d (T m d 0 0 0 0 0) (rangeOps iterOps 0 66) (T m d 64 64 62 62 60) :=
  Tr.range d (P := Ti m d) 66 0 fun k _ h => t_iter d k (by omega)

/-! ## After the loop -/

/-- The last copies out of the receive buffers. -/
theorem t_tail : Tr m K I d (T m d 64 64 62 62 60) (rangeOps drainOps 62 2 ++ (rangeOps fwdOps 62 2 ++ rangeOps fdrainOps 60 4)) (T m d 64 64 64 64 64) :=
  (Tr.range d (P := fun k => T m d 64 64 k 62 60) 2 62 fun k _ h => T_drain d _ _ _ _ _ (by omega) (by omega) (by omega)).app
    ((Tr.range d (P := fun k => T m d 64 64 64 k 60) 2 62 fun k _ h =>
        T_fwd d _ _ _ _ _ (by omega) (by omega) (by omega) (by omega) (by omega) (by omega) (by omega)).app
      (Tr.range d (P := fun k => T m d 64 64 64 64 k) 4 60 fun k _ h => T_fdrain d _ _ _ _ _ (by omega) (by omega) (by omega)))

variable (m)

/-- Everything staged and written. -/
def StF : sProp 𝕄 :=
  iprop(bigSep (Ico 0 128) (fun k => xSt m d (sg k)) ∗ bigSep (Ico 0 128) (fun k => ownDone m d (sg k))
    ∗ (stgAny (F := F) d (sg 0) ∗ stgAny (F := F) d (sg 1)) ∗ (sv (F := F) d (inSem (sg 0)) ∗ sv d (inSem (sg 1))) ∗ (sv d (outSem (sg 0)) ∗ sv d (outSem (sg 1))))

/-- `n` sends waited for. -/
def DsS (n : ℕ) : sProp 𝕄 :=
  iprop(bigSep (Ico n 64) (fun k => iprop(atPos ER (dsCell d (ch k)) 0 ∅ 0 ∗ cred (tallyAt (dsCell d (ch k)) 0 N)))
    ∗ bigSep (Ico 0 n) (fun k => iprop(atPos ER (dsCell d (ch k)) 1 ∅ 0 ∗ xSendPts m fullShare.right d (ch k))))

variable {m}

/-- The last two stages are waited for. -/
theorem t_out (a b p q : ℕ) : Tr m K I d iprop(StE m d ∗ Ow d a b p q) [.outW (sg 126), .outW (sg 127)] iprop(StF m d ∗ Ow d a b p q) := by
  intro rest Q
  have e0 : (sg 126).val % 2 = (sg 0).val % 2 := sg_mod (by omega)
  have e1 : (sg 127).val % 2 = (sg 1).val % 2 := sg_mod (by omega)
  rw [show [.outW (sg 126), .outW (sg 127)] ++ rest = [.outW (sg 126)] ++ ([.outW (sg 127)] ++ rest) from rfl]
  unfold StE StF
  iintro ⟨#Hc, ⟨Hx, Ho, H1, H2, Hv⟩, HO⟩ Hk
  iapply (t_outW d (sg 126) a b p q ([.outW (sg 127)] ++ rest) Q) $$ [H1 HO]
  · isplitr; · iexact Hc
    isplitl [H1] <;> iassumption
  rw [stgAny_eq d e0, outSem_eq e0]
  iintro ⟨Hs1, Ho1, Hv1, HO⟩
  iapply (t_outW d (sg 127) a b p q rest Q) $$ [H2 HO]
  · isplitr; · iexact Hc
    isplitl [H2] <;> iassumption
  rw [stgAny_eq d e1, outSem_eq e1]
  iintro ⟨Hs2, Ho2, Hv2, HO⟩
  iapply Hk
  isplitr [HO]
  · isplitl [Hx]; · iexact Hx
    isplitl [Ho Ho1 Ho2]
    · iapply (ico_push (Nat.zero_le 127) (fun k => ownDone m d (sg k)))
      isplitl [Ho2]; · iexact Ho2
      iapply (ico_push (Nat.zero_le 126) (fun k => ownDone m d (sg k)))
      isplitl [Ho1] <;> iassumption
    isplitl [Hs1 Hs2]; · isplitl [Hs1] <;> iassumption
    isplitl [Hv]; · iexact Hv
    isplitl [Hv1] <;> iassumption
  iexact HO

/-- One more sent chunk is waited for. -/
theorem t_ds (n a b p q : ℕ) (hn : n < 64) : Tr m K I d iprop(DsS m d n ∗ Ow d a b p q) [.dSW (ch n)] iprop(DsS m d (n + 1) ∗ Ow d a b p q) := by
  intro rest Q
  unfold DsS
  iintro ⟨#Hc, ⟨H, Hd⟩, HO⟩ Hk
  ihave ⟨H0, H⟩ := (ico_pop hn (fun k => iprop(atPos ER (dsCell d (ch k)) 0 ∅ 0 ∗ cred (tallyAt (dsCell d (ch k)) 0 N)))) $$ H
  icases H0 with ⟨Hat, Hcr⟩
  iapply (t_dSW d (ch n) a b p q rest Q) $$ [Hat Hcr HO]
  · isplitr; · iexact Hc
    isplitl [Hcr]; · iexact Hcr
    isplitl [Hat] <;> iassumption
  iintro ⟨Hx, Hat, HO⟩
  iapply Hk
  isplitr [HO]
  · isplitl [H]; · iexact H
    iapply (ico_push (Nat.zero_le n) (fun k => iprop(atPos ER (dsCell d (ch k)) 1 ∅ 0 ∗ xSendPts m fullShare.right d (ch k))))
    isplitr [Hd]
    · isplitl [Hat] <;> iassumption
    iexact Hd
  iexact HO

end Cert.K01

end
-- ==== Proof.Body.lean ====
/- All the operations of a device, from what it has at the start to what it has at the end. -/
module

public import proofs.«01_k».proof.Proof.Loop

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)
variable (K : Dev nD × Cl → ℕ) (I : Key → ℕ) (d : Dev nD)

/-! ## The start and the end -/

/-- What is staged through: the argument, the device's own rows of the result, the staging buffers and their semaphores. -/
def StS : sProp 𝕄 :=
  iprop(bigSep (Ico 0 128) (fun k => xSt m d (sg k)) ∗ bigSep (Ico 0 128) (fun k => outAny (F := F) d (outOwn d (sg k)))
    ∗ (stgAny (F := F) d (sg 0) ∗ stgAny (F := F) d (sg 1)) ∗ (sv (F := F) d (inSem (sg 0)) ∗ sv d (inSem (sg 1))) ∗ (sv d (outSem (sg 0)) ∗ sv d (outSem (sg 1))))

/-- A receive buffer's side: its slots, their readers, the local semaphores that empty it. -/
def Bufs (b : Bool) (sem : Fin 64 → DmaSem sig) : sProp 𝕄 :=
  iprop(bigSep (Ico 0 64) (fun k => Release.readerAt EK ((d, b, ch k) : Key) 0) ∗ bigSep (Ico 0 8) (fun k => Sl (F := F) ((d, b, ch k) : Key))
    ∗ bigSep (Ico 0 8) (fun k => sv d (sem (ch k))))

/-- A credit semaphore's side: where its owner stands, the credits to come, and the tokens for those to send to `e`. -/
def Crs (s : Sem sig) (e : Dev nD) : sProp 𝕄 :=
  iprop(atPos ER ((d : Thread nD τ), .reg s) 0 ∅ 0 ∗ bigSep (Ico 0 56) (fun k => cred (tallyAt ((d : Thread nD τ), .reg s) k 1))
    ∗ bigSep (Ico 0 56) (fun k => dutyTok ER ((e : Thread nD τ), .reg s) 0 k))

/-- The barrier's side. -/
def Bar : sProp 𝕄 :=
  iprop(dutyTok ER (bCell (yn d)) 0 0 ∗ dutyTok ER (bCell (xn d)) 0 1 ∗ cred (tallyAt (bCell d) 0 2) ∗ atPos ER (bCell d) 0 ∅ 0)

/-- What a device has at the start. -/
def S0 : sProp 𝕄 :=
  iprop(bigSep (Ico 0 64) (sndPre m d) ∗ bigSep (Ico 0 64) (rcvPre (F := F) d) ∗ bigSep (Ico 0 64) (fwdPre (F := F) d)
    ∗ bigSep (Ico 0 64) (fun k => atPos ER (fsCell d (ch k)) 0 ∅ 0) ∗ bigSep (Ico 0 64) (fun k => atPos ER (dsCell d (ch k)) 0 ∅ 0)
    ∗ Crs (F := F) d cdSem (yn d) ∗ Crs (F := F) d cfSem (xn d) ∗ Bufs (F := F) d true drSem ∗ Bufs (F := F) d false frSem ∗ StS m d ∗ Bar (F := F) d)

/-- What it has at the end. -/
def S1 : sProp 𝕄 :=
  iprop(bigSep (Ico 0 64) (fun k => iprop(atPos ER (dsCell d (ch k)) 1 ∅ 0 ∗ xSendPts m fullShare.right d (ch k)))
    ∗ bigSep (Ico 0 64) (fun k => atPos ER (dvCell d (ch k)) 1 ∅ 0)
    ∗ bigSep (Ico 0 64) (fun k => iprop(atPos ER (fsCell d (ch k)) 1 ∅ 0 ∗ dirDone m d (ch k)))
    ∗ bigSep (Ico 0 64) (fun k => atPos ER (fvCell d (ch k)) 1 ∅ 0)
    ∗ bigSep (Ico 0 64) (fun k => fwdDone m d (ch k))
    ∗ (atPos ER (cdCell d) 1 ∅ 0 ∗ atPos ER (cfCell d) 1 ∅ 0 ∗ atPos ER (bCell d) 1 ∅ 0)
    ∗ (bigSep (Ico 56 64) (fun k => Sl (F := F) ((d, true, ch k) : Key)) ∗ bigSep (Ico 64 72) (fun k => sv d (drSem (ch k))))
    ∗ (bigSep (Ico 56 64) (fun k => Sl (F := F) ((d, false, ch k) : Key)) ∗ bigSep (Ico 64 72) (fun k => sv d (frSem (ch k))))
    ∗ StF m d)

variable {m K I}

/-- The first eight slots of a receive buffer are given to their writer. -/
theorem give_first (b : Bool) (j : ℕ) (hj : j ≤ 8) :
    iprop(ctx m K I ∗ bigSep (Ico (8 - j) 64) (fun k => Release.readerAt EK ((d, b, ch k) : Key) 0)
        ∗ bigSep (Ico (8 - j) 8) (fun k => Sl (F := F) ((d, b, ch k) : Key)) ∗ relTo b d (8 - j))
      ⊢ iprop(|={Set.univ}=> (bigSep (Ico 8 64) (fun k => Release.readerAt EK ((d, b, ch k) : Key) 0) ∗ relTo b d 8)) := by
  induction j with
  | zero =>
    iintro ⟨-, Hr, -, H⟩
    imodintro
    isplitl [Hr]; · iexact Hr
    iexact H
  | succ j ih =>
    iintro ⟨#Hc, Hr, Hs, H⟩
    ihave ⟨Hr0, Hr⟩ := (ico_pop (show 8 - (j + 1) < 64 by omega) (fun k => Release.readerAt EK ((d, b, ch k) : Key) 0)) $$ Hr
    ihave ⟨Hs0, Hs⟩ := (ico_pop (show 8 - (j + 1) < 8 by omega) (fun k => Sl (F := F) ((d, b, ch k) : Key))) $$ Hs
    imod (give (m := m) (K := K) (I := I) d b (8 - (j + 1))) $$ [Hs0 Hr0 H] with H
    · isplitr; · iexact Hc
      isplitl [Hs0]; · iexact Hs0
      isplitl [Hr0] <;> iassumption
    have e : 8 - (j + 1) + 1 = 8 - j := by omega
    rw [e]
    iapply (ih (by omega))
    isplitr; · iexact Hc
    isplitl [Hr]; · iexact Hr
    isplitl [Hs] <;> iassumption

/-- Where a device stands with a credit semaphore before its first wait. -/
theorem Cr_zero (s : Sem sig) (b : Bool) (e : Dev nD) :
    iprop(atPos ER ((d : Thread nD τ), .reg s) 0 ∅ 0 ∗ bigSep (Ico 0 56) (fun k => cred (tallyAt ((d : Thread nD τ), .reg s) k 1)) ∗ relTo b e 8)
      ⊢ Cr (F := F) d s b e 0 := by
  unfold Cr crPos
  rw [if_pos (by omega)]
  iintro ⟨Ha, Hc, #Hr⟩
  isplitl [Ha]
  · iexists (∅ : Finset ℕ)
    isplitr; · ipureintro; exact ⟨Finset.empty_subset _, Nat.zero_le _⟩
    isplitl [Ha]; · iexact Ha
    iapply (Entails.of_eq (bigSep_empty (Φ := fun n => relTo (F := F) b e (n + 9))).symm)
    iempintro
  isplitr; · iexact Hr
  iexact Hc

/-- After the last wait the semaphore's round is over. -/
theorem Cr_done (s : Sem sig) (b : Bool) (e : Dev nD) : Cr (F := F) d s b e 56 ⊢ atPos ER ((d : Thread nD τ), .reg s) 1 ∅ 0 := by
  unfold Cr crPos
  rw [if_neg (by omega)]
  iintro ⟨Ha, -, -⟩; iexact Ha

/-! ## Before the loop -/

/-- The handshake, and the first stage on its way in. -/
theorem t_start : Tr m K I d iprop(S0 m d ∗ OwO d (O₀ d)) startOps
    iprop(T m d 0 0 0 0 0 ∗ (bigSep (Ico 0 64) (fun k => atPos ER (dsCell d (ch k)) 0 ∅ 0) ∗ atPos ER (bCell d) 1 ∅ 0)) := by
  intro rest Q
  rw [show startOps ++ rest = [.sigY, .sigX, .waitB] ++ ([.insS (sg 0)] ++ rest) from rfl]
  unfold S0 Crs Bufs StS Bar
  iintro ⟨#Hc, ⟨H1, H2, H3, H4, H5, ⟨HA1, HC1, HT1⟩, ⟨HA2, HC2, HT2⟩, ⟨HR1, HS1, HV1⟩, ⟨HR2, HS2, HV2⟩, ⟨Hx, Ho, ⟨Hg0, Hg1⟩, ⟨Hi0, Hi1⟩, ⟨Ho0, Ho1⟩⟩, Hb1, Hb2, Hb3, Hb4⟩, HO⟩ Hk
  imod (give_first (m := m) (K := K) (I := I) d true 8 (Nat.le_refl 8)) $$ [HR1 HS1] with ⟨HR1, #HL1⟩
  · isplitr; · iexact Hc
    isplitl [HR1]; · iexact HR1
    isplitl [HS1]; · iexact HS1
    unfold relTo
    iapply (Entails.of_eq (bigSep_empty (Φ := fun i => Release.released EK ((d, true, ch i) : Key) 1)).symm); iempintro
  imod (give_first (m := m) (K := K) (I := I) d false 8 (Nat.le_refl 8)) $$ [HR2 HS2] with ⟨HR2, #HL2⟩
  · isplitr; · iexact Hc
    isplitl [HR2]; · iexact HR2
    isplitl [HS2]; · iexact HS2
    unfold relTo
    iapply (Entails.of_eq (bigSep_empty (Φ := fun i => Release.released EK ((d, false, ch i) : Key) 1)).symm); iempintro
  iapply (t_barrier d ([.insS (sg 0)] ++ rest) Q) $$ [Hb1 Hb2 Hb3 Hb4 HO]
  · isplitr; · iexact Hc
    isplitr; · iexact HL1
    isplitr; · iexact HL2
    isplitl [Hb1]; · iexact Hb1
    isplitl [Hb2]; · iexact Hb2
    isplitl [Hb3]; · iexact Hb3
    isplitl [Hb4] <;> iassumption
  iintro ⟨#HL3, #HL4, Hb4, HO⟩
  ihave ⟨Hx0, Hx⟩ := (ico_pop (show 0 < 128 by omega) (fun k => xSt m d (sg k))) $$ Hx
  iapply (t_insS d (sg 0) rest Q) $$ [Hx0 Hg0 Hi0]
  · isplitr; · iexact Hc
    isplitl [Hx0]; · iexact Hx0
    isplitl [Hg0] <;> iassumption
  iintro Hf
  iapply Hk
  isplitr [H5 Hb4]
  · unfold T Tc St
    rw [if_pos (by omega)]
    unfold StR Pv SndS RcvS MidD DrnS FwdS MidF FdrS
    rw [if_pos rfl, ico_emp (Nat.le_refl 0), ico_emp (Nat.le_refl 0), ico_emp (Nat.le_refl 0), ico_emp (Nat.le_refl 0), ico_emp (Nat.le_refl 0),
      ico_emp (Nat.le_refl 0), ico_emp (Nat.le_refl 0), ico_emp (Nat.le_refl 0), ico_emp (Nat.le_refl 0), ico_emp (show 0 ≤ 56 by omega), ico_emp (show 0 ≤ 56 by omega)]
    isplitl [Hx Ho Hf Hi1 Ho0 Hg1 Ho1]
    · isplitl [Hx]; · iexact Hx
      isplitr; · iempintro
      isplitl [Ho]; · iexact Ho
      isplitr; · iempintro
      isplitl [Hf]; · iexact Hf
      isplitl [Hi1]; · iexact Hi1
      isplitl [Ho0]; · iexact Ho0
      isplitl [Hg1] <;> iassumption
    isplitl [H1 HA1 HC1]
    · isplitl [H1]; · iexact H1
      isplitr; · iempintro
      iapply (Cr_zero d cdSem true (yn d))
      isplitl [HA1]; · iexact HA1
      isplitl [HC1]; · iexact HC1
      iexact HL3
    isplitl [H2 HA2 HC2]
    · isplitl [H2]; · iexact H2
      isplitl
      · iapply (Cr_zero d cfSem false (xn d))
        isplitl [HA2]; · iexact HA2
        isplitl [HC2]; · iexact HC2
        iexact HL4
      iempintro
    isplitl [HV1]
    · isplitl [HV1]; · iexact HV1
      iempintro
    isplitl [H4 HR1 HT1]
    · isplitl [H4]; · iexact H4
      isplitr; · iempintro
      isplitl [HR1]; · iexact HR1
      isplitl [HT1]; · iexact HT1
      isplitr; · iexact HL1
      iempintro
    isplitl [H3]
    · isplitl [H3]; · iexact H3
      iempintro
    isplitl [HV2]
    · isplitl [HV2]; · iexact HV2
      iempintro
    isplitr [HO]
    · isplitr; · iempintro
      isplitl [HR2]; · iexact HR2
      isplitl [HT2]; · iexact HT2
      isplitr; · iexact HL2
      iempintro
    iexact HO
  isplitl [H5] <;> iassumption

/-! ## All of it -/

/-- After the loop and the last copies: the stages' last writes, and the sends. -/
theorem t_finish : Tr m K I d
    iprop(T m d 64 64 64 64 64 ∗ (bigSep (Ico 0 64) (fun k => atPos ER (dsCell d (ch k)) 0 ∅ 0) ∗ atPos ER (bCell d) 1 ∅ 0))
    ([.outW (sg 126), .outW (sg 127)] ++ rangeOps (fun c => [.dSW (ch c)]) 0 64) iprop(S1 m d ∗ Ow d 64 64 56 56) := by
  intro rest Q
  rw [List.append_assoc]
  unfold T Tc St
  rw [if_neg (by omega)]
  unfold SndS RcvS MidD DrnS FwdS MidF FdrS
  rw [show min 64 56 = 56 from rfl]
  iintro ⟨#Hc, ⟨Hst, ⟨-, Hcr, HC1⟩, ⟨-, HC2, H2⟩, ⟨HV1, -⟩, ⟨-, H4, -, -, -, HS1⟩, ⟨-, H3⟩, ⟨HV2, -⟩, ⟨H7, -, -, -, HS2⟩, HO⟩, H5, Hb⟩ Hk
  iapply (t_out d 64 64 56 56 (rangeOps (fun c => [.dSW (ch c)]) 0 64 ++ rest) Q) $$ [Hst HO]
  · isplitr; · iexact Hc
    isplitl [Hst] <;> iassumption
  iintro ⟨Hst, HO⟩
  iapply (Tr.range d (P := fun n => iprop(DsS m d n ∗ Ow d 64 64 56 56)) 64 0 (fun k _ h => t_ds d k 64 64 56 56 (by omega)) rest Q) $$ [H5 Hcr HO]
  · isplitr; · iexact Hc
    unfold DsS
    rw [ico_emp (Nat.le_refl 0)]
    isplitr [HO]
    · isplitl
      · iapply (Entails.of_eq (bigSep_sep' (Ico 0 64) (fun k => atPos ER (dsCell d (ch k)) 0 ∅ 0) (fun k => cred (tallyAt (dsCell d (ch k)) 0 N))).symm)
        isplitl [H5] <;> iassumption
      iempintro
    iexact HO
  unfold DsS
  iintro ⟨⟨-, H1⟩, HO⟩
  iapply Hk
  unfold S1
  isplitr [HO]
  · isplitl [H1]; · iexact H1
    isplitl [H2]; · iexact H2
    isplitl [H4]; · iexact H4
    isplitl [H3]; · iexact H3
    isplitl [H7]; · iexact H7
    isplitl [HC1 HC2 Hb]
    · isplitl [HC1]; · iapply (Cr_done d cdSem true (yn d)); iexact HC1
      isplitl [HC2]; · iapply (Cr_done d cfSem false (xn d)); iexact HC2
      iexact Hb
    isplitl [HS1 HV1]
    · isplitl [HS1] <;> iassumption
    isplitl [HS2 HV2]
    · isplitl [HS2] <;> iassumption
    iexact Hst
  iexact HO

/-- All the operations of a device. -/
theorem t_all : Tr m K I d iprop(S0 m d ∗ OwO d (O₀ d)) allOps iprop(S1 m d ∗ Ow d 64 64 56 56) := by
  have e : allOps = startOps ++ (rangeOps iterOps 0 66 ++ ((rangeOps drainOps 62 2 ++ (rangeOps fwdOps 62 2 ++ rangeOps fdrainOps 60 4))
      ++ ([.outW (sg 126), .outW (sg 127)] ++ rangeOps (fun c => [.dSW (ch c)]) 0 64))) := by
    unfold allOps endOps; simp only [List.append_assoc]
  rw [e]
  exact (t_start d).app (((t_loop d).frame _).app (((t_tail d).frame _).app (t_finish d)))

end Cert.K01

end
-- ==== Proof.Split.lean ====
/- The buffers of a device cut into the pieces its operations work on, and put together again. -/
module

public import proofs.«01_k».proof.Proof.Body
public import Idealize.ShloMosaic.Lib.Ring

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ) (d : Dev nD)

/-! ## Counting by numbers -/

/-- A family numbered by `Fin n` is one numbered by an interval. -/
theorem fin_ico (n : ℕ) (A : Fin n → sProp 𝕄) (B : ℕ → sProp 𝕄) (h : ∀ (k : ℕ) (hk : k < n), B k = A ⟨k, hk⟩) :
    bigSep Finset.univ A = bigSep (Ico 0 n) B :=
  (Ring.bigSep_fin_eq_range n A B h).trans (by rw [Finset.range_eq_Ico])
/-- A family over the stages is one numbered by an interval. -/
theorem fin_sg (A : Fin 128 → sProp 𝕄) : bigSep Finset.univ A = bigSep (Ico 0 128) (fun k => A (sg k)) :=
  fin_ico 128 A _ fun k hk => congrArg A (Fin.ext (Nat.mod_eq_of_lt hk))
/-- A family over the chunks is one numbered by an interval. -/
theorem fin_ch (A : Fin 64 → sProp 𝕄) : bigSep Finset.univ A = bigSep (Ico 0 64) (fun k => A (ch k)) :=
  fin_ico 64 A _ fun k hk => congrArg A (Fin.ext (Nat.mod_eq_of_lt hk))

/-! ## The argument -/

/-- The rows no copy sends, of the half share the copies read. -/
def xRest : sProp 𝕄 :=
  (d : Thread nD τ).loc main_arg0 ↦[Finset.univ \ (Finset.univ : Finset (Fin 64)).biUnion (fun c => ((xSend d c).view.set : Finset S16384x1024.Idx))]{fullShare.right} xc m d

/-- One half share of the argument, in stages. -/
theorem x_left : ((d : Thread nD τ).loc main_arg0 ↦{fullShare.left} xc m d : sProp 𝕄) = bigSep (Ico 0 128) (fun k => xSt m d (sg k)) :=
  ((congrArg (fun S : Finset S16384x1024.Idx => ((d : Thread nD τ).loc main_arg0 ↦[S]{fullShare.left} xc m d : sProp 𝕄)) xStage_cover.symm).trans
    (pointsTo_biUnion (ℓ := (d : Thread nD τ).loc main_arg0) Finset.univ (fun s => ((xStage s).view.set : Finset S16384x1024.Idx)) fun s _ s' _ h => xStage_disj s s' h)).trans
    (fin_sg (fun s => xSt m d s))

/-- The other half share, in the chunks that are sent and the rest. -/
theorem x_right : ((d : Thread nD τ).loc main_arg0 ↦{fullShare.right} xc m d : sProp 𝕄)
    ⊣⊢ iprop(bigSep (Ico 0 64) (fun k => xSendPts m fullShare.right d (ch k)) ∗ xRest m d) := by
  refine (pointsTo_split_subset (I := (Finset.univ : Finset (Fin 64)).biUnion fun c => ((xSend d c).view.set : Finset S16384x1024.Idx)) (Finset.subset_univ _)).trans ?_
  rw [pointsTo_biUnion (ℓ := (d : Thread nD τ).loc main_arg0) Finset.univ (fun c => ((xSend d c).view.set : Finset S16384x1024.Idx)) fun s _ s' _ h => xSend_disj d s s' h]
  rw [fin_ch]
  exact ⟨Entails.rfl, Entails.rfl⟩

/-! ## The result -/

/-- The result in its parts. -/
theorem out_parts (f : Buf (Elt F) ((d : Thread nD τ).loc main_v1)) : ((d : Thread nD τ).loc main_v1 ↦{fullShare} f : sProp 𝕄)
    = iprop(bigSep (Ico 0 128) (fun k => (outOwn d (sg k)).view.loc (d : Thread nD τ) ↦[(outOwn d (sg k)).view.set]{fullShare} f)
      ∗ bigSep (Ico 0 64) (fun k => (outDir d (ch k)).view.loc (d : Thread nD τ) ↦[(outDir d (ch k)).view.set]{fullShare} f)
      ∗ bigSep (Ico 0 64) (fun k => (outFwd d (ch k)).view.loc (d : Thread nD τ) ↦[(outFwd d (ch k)).view.set]{fullShare} f)) := by
  refine ((congrArg (fun S : Finset S32768x1024.Idx => ((d : Thread nD τ).loc main_v1 ↦[S]{fullShare} f : sProp 𝕄)) (part_cover d).symm).trans
    (pointsTo_biUnion (ℓ := (d : Thread nD τ).loc main_v1) Finset.univ (part d) fun s _ s' _ h => part_disj d s s' h)).trans ?_
  rw [bigSep_univ_sum, bigSep_univ_sum, fin_sg, fin_ch, fin_ch]
  rfl

/-- The result in its parts, whatever they hold. -/
theorem out_split (f : Buf (Elt F) ((d : Thread nD τ).loc main_v1)) : ((d : Thread nD τ).loc main_v1 ↦{fullShare} f : sProp 𝕄)
    ⊢ iprop(bigSep (Ico 0 128) (fun k => outAny (F := F) d (outOwn d (sg k))) ∗ bigSep (Ico 0 64) (fun k => outAny (F := F) d (outDir d (ch k)))
      ∗ bigSep (Ico 0 64) (fun k => outAny (F := F) d (outFwd d (ch k)))) := by
  rw [out_parts d f]
  have h (v : Memref sig .tc .hbm S128x1024 .f32) (g : Buf (Elt F) (v.view.loc (d : Thread nD τ))) :
      (v.view.loc (d : Thread nD τ) ↦[v.view.set]{fullShare} g : sProp 𝕄) ⊢ outAny (F := F) d v := by
    unfold outAny Release.slot; iintro H; iexists g; iexact H
  exact sep_mono (bigSep_mono fun k _ => h (outOwn d (sg k)) f) (sep_mono (bigSep_mono fun k _ => h (outDir d (ch k)) f) (bigSep_mono fun k _ => h (outFwd d (ch k)) f))

/-- The parts done are the result done. -/
theorem out_join : iprop(bigSep (Ico 0 128) (fun k => ownDone m d (sg k)) ∗ bigSep (Ico 0 64) (fun k => dirDone m d (ch k))
      ∗ bigSep (Ico 0 64) (fun k => fwdDone m d (ch k))) = ((d : Thread nD τ).loc main_v1 ↦{fullShare} outVal m d : sProp 𝕄) :=
  (out_parts d (outVal m d)).symm

/-! ## The scratch buffers -/

/-- A buffer's slots, cut off it. -/
theorem slots_split {ℓ : Loc nD τ sig} (S : Finset ℕ) (J : ℕ → Finset (Idx ℓ)) (hd : ∀ a ∈ S, ∀ b ∈ S, a ≠ b → Disjoint (J a) (J b))
    (hc : S.biUnion J = Finset.univ) : (iprop(∃ f : Buf (Elt F) ℓ, ℓ ↦{fullShare} f) : sProp 𝕄) ⊢ bigSep S (fun k => Release.slot ℓ (J k)) := by
  refine exists_elim fun f => ?_
  rw [← hc, pointsTo_biUnion S J hd]
  exact bigSep_mono fun k _ => exists_intro (Φ := fun g => (ℓ ↦[J k]{fullShare} g : sProp 𝕄)) f

/-- Its slots, each at its own contents, are the buffer at some. -/
theorem slots_join {ℓ : Loc nD τ sig} (S : Finset ℕ) (J : ℕ → Finset (Idx ℓ)) (hd : ∀ a ∈ S, ∀ b ∈ S, a ≠ b → Disjoint (J a) (J b))
    (hc : S.biUnion J = Finset.univ) (hne : Nonempty (Buf (Elt F) ℓ)) : bigSep S (fun k => Release.slot ℓ (J k)) ⊢ (iprop(∃ f : Buf (Elt F) ℓ, ℓ ↦{fullShare} f) : sProp 𝕄) := by
  obtain ⟨f₀⟩ := hne
  refine (BI.bigSep_exists_pi S fun k (f : Buf (Elt F) ℓ) => (ℓ ↦[J k]{fullShare} f : sProp 𝕄)).trans ?_
  refine exists_elim fun fs => ?_
  refine (pointsTo_biUnion_join S J fs f₀ hd).trans ?_
  rw [hc]
  iintro ⟨%g, -, H⟩; iexists g; iexact H

/-- Slots told apart by a coordinate have no entry in common. -/
theorem slot_disj {s : Shape} {J : ℕ → Finset s.Idx} (S : Finset ℕ) (r : s.Idx → ℕ) (n : ℕ) (hJ : ∀ k i, i ∈ J k ↔ r i = k % n)
    (hS : ∀ a ∈ S, ∀ b ∈ S, a % n = b % n → a = b) : ∀ a ∈ S, ∀ b ∈ S, a ≠ b → Disjoint (J a) (J b) := fun a ha b hb h =>
  Finset.disjoint_left.mpr fun i h1 h2 => h (hS a ha b hb (((hJ a i).mp h1).symm.trans ((hJ b i).mp h2)))
/-- Slots told apart by a coordinate cover the buffer, if every coordinate is taken. -/
theorem slot_cover {s : Shape} {J : ℕ → Finset s.Idx} (S : Finset ℕ) (r : s.Idx → ℕ) (n : ℕ) (hJ : ∀ k i, i ∈ J k ↔ r i = k % n)
    (hS : ∀ i, ∃ k ∈ S, r i = k % n) : S.biUnion J = Finset.univ :=
  Finset.eq_univ_of_forall fun i => by
    obtain ⟨k, hk, e⟩ := hS i
    exact Finset.mem_biUnion.mpr ⟨k, hk, (hJ k i).mpr e⟩

/-- The entries of the slot of chunk number `k` in the direct buffer. -/
theorem dJ (k : ℕ) (i : S8x128x1024.Idx) : i ∈ ((dSlot (ch k)).view.set : Finset S8x128x1024.Idx) ↔ (i 0).val = k % 8 := by
  rw [mem_dSlot, show (ch k).val = k % 64 from rfl, Nat.mod_mod_of_dvd k (by decide)]
/-- The entries of the slot of chunk number `k` in the forward buffer. -/
theorem fJ (k : ℕ) (i : S8x128x1024.Idx) : i ∈ ((fSlot (ch k)).view.set : Finset S8x128x1024.Idx) ↔ (i 0).val = k % 8 := by
  rw [mem_fSlot, show (ch k).val = k % 64 from rfl, Nat.mod_mod_of_dvd k (by decide)]
/-- The entries of the slot of stage number `k` in the staging buffer. -/
theorem gJ (k : ℕ) (i : S2x128x1024.Idx) : i ∈ ((stg (sg k)).view.set : Finset S2x128x1024.Idx) ↔ (i 0).val = k % 2 := by
  rw [mem_stg, show (sg k).val = k % 128 from rfl, Nat.mod_mod_of_dvd k (by decide)]

end Cert.K01

end
-- ==== Proof.Sems.lean ====
/- The kernel's own semaphores, numbered, and which of them the devices share. -/
module

public import proofs.«01_k».proof.Proof.Split

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

/-- A semaphore of the two local machines and of the two read-out families. -/
abbrev Lo : Type := Fin 2 × Fin 2 ⊕ Fin 2 × Fin 8
/-- The local semaphore that a name stands for. -/
def loSem : Lo → DmaSem sig
  | .inl (k, s) => (![inSem, outSem] : Fin 2 → Fin 128 → DmaSem sig) k (sg s.val)
  | .inr (k, j) => (![drSem, frSem] : Fin 2 → Fin 64 → DmaSem sig) k (ch j.val)

/-- The kernel's own semaphores: the shared ones but the barrier, and the local ones. -/
abbrev Os : Type := (Fin 4 × Fin 64 ⊕ Fin 2) ⊕ Lo
/-- The semaphore that a name stands for. -/
def osem : Os → SemLoc sig
  | .inl x => clSem (.inl x)
  | .inr x => .dma (loSem x)

/-- Where a transfer family's semaphores lie. -/
theorem cl_val (k : Fin 4) (c : Fin 64) : ((![dsSem, dvSem, fsSem, fvSem] : Fin 4 → Fin 64 → DmaSem sig) k c).val = 20 + 64 * k.val + c.val := by
  fin_cases k
  · exact dsSem_val c
  · exact dvSem_val c
  · exact fsSem_val c
  · exact fvSem_val c

/-- Where a local semaphore lies. -/
def loNo : Lo → ℕ
  | .inl (k, s) => 2 * k.val + s.val
  | .inr (k, j) => 4 + 8 * k.val + j.val
/-- Where a local semaphore lies, by its name. -/
theorem lo_val (x : Lo) : (loSem x).val = loNo x := by
  rcases x with ⟨k, s⟩ | ⟨k, j⟩
  · have hs : (sg s.val).val = s.val := Nat.mod_eq_of_lt (by omega)
    fin_cases k
    · show (inSem (sg s.val)).val = 2 * 0 + s.val
      rw [inSem_val, hs]; omega
    · show (outSem (sg s.val)).val = 2 * 1 + s.val
      rw [outSem_val, hs]; omega
  · have hj : (ch j.val).val = j.val := Nat.mod_eq_of_lt (by omega)
    fin_cases k
    · show (drSem (ch j.val)).val = 4 + 8 * 0 + j.val
      rw [drSem_val, hj]; omega
    · show (frSem (ch j.val)).val = 4 + 8 * 1 + j.val
      rw [frSem_val, hj]; omega

/-- Different names, different local semaphores. -/
theorem lo_injective : Function.Injective loSem := by
  intro x y h
  have h' : loNo x = loNo y := by rw [← lo_val, ← lo_val, h]
  rcases x with ⟨k, s⟩ | ⟨k, s⟩ <;> rcases y with ⟨k', s'⟩ | ⟨k', s'⟩ <;> unfold loNo at h' <;> dsimp only at h'
  · have e1 : k = k' := Fin.ext (by omega)
    have e2 : s = s' := Fin.ext (by omega)
    rw [e1, e2]
  · omega
  · omega
  · have e1 : k = k' := Fin.ext (by omega)
    have e2 : s = s' := Fin.ext (by omega)
    rw [e1, e2]

/-- Different names, different shared semaphores. -/
theorem cl_injective : Function.Injective clSem := by
  intro x y h
  rcases x with (⟨k, c⟩ | k) | ⟨⟩ <;> rcases y with (⟨k', c'⟩ | k') | ⟨⟩ <;> unfold clSem at h <;> dsimp only at h
  · have h' := congrArg Fin.val (SemLoc.dma.inj h)
    rw [cl_val, cl_val] at h'
    have e1 : k = k' := Fin.ext (by omega)
    have e2 : c = c' := Fin.ext (by omega)
    rw [e1, e2]
  · cases h
  · cases h
  · cases h
  · have h' := SemLoc.reg.inj h
    fin_cases k <;> fin_cases k' <;> first | rfl | exact absurd h' (by decide)
  · have h' := SemLoc.reg.inj h
    fin_cases k <;> exact absurd h' (by decide)
  · cases h
  · have h' := SemLoc.reg.inj h
    fin_cases k' <;> exact absurd h' (by decide)
  · rfl

/-- Different devices or names, different shared semaphores. -/
theorem kcell_injective : Function.Injective kcell := by
  rintro ⟨d, x⟩ ⟨d', x'⟩ h
  have h1 : d = d' := congrArg (fun g : GSem nD τ sig => g.1.1) h
  have h2 : x = x' := cl_injective (congrArg Prod.snd h)
  rw [h1, h2]

/-- Different names, different semaphores of the kernel's own. -/
theorem osem_injective : Function.Injective osem := by
  intro x y h
  rcases x with x | x <;> rcases y with y | y <;> unfold osem at h <;> dsimp only at h
  · exact congrArg Sum.inl (Sum.inl.inj (cl_injective h))
  · rcases x with ⟨k, c⟩ | k
    · have h' := congrArg Fin.val (SemLoc.dma.inj h)
      rw [cl_val, lo_val] at h'
      rcases y with ⟨k', s⟩ | ⟨k', s⟩ <;> unfold loNo at h' <;> dsimp only at h' <;> omega
    · cases h
  · rcases y with ⟨k, c⟩ | k
    · have h' := congrArg Fin.val (SemLoc.dma.inj h)
      rw [cl_val, lo_val] at h'
      rcases x with ⟨k', s⟩ | ⟨k', s⟩ <;> unfold loNo at h' <;> dsimp only at h' <;> omega
    · cases h
  · exact congrArg Sum.inr (lo_injective (SemLoc.dma.inj h))

/-- Every semaphore for transfers is the kernel's own. -/
theorem dma_scoped (i : DmaSem sig) : (SemLoc.dma i : SemLoc sig).isScoped .tc = true := by revert i; decide

/-- The named semaphores are the ones the kernel owns. -/
theorem ownSemFacts : Pipeline.OwnSemFacts cfg0.spec osem where
  isScoped := by
    rintro ((⟨k, c⟩ | k) | x)
    · exact dma_scoped _
    · fin_cases k <;> decide
    · exact dma_scoped _
  inj := osem_injective
  disj := fun _ w => w.elim0

/-- The barrier is the only semaphore that is not. -/
theorem unscopedSems0_eq (c : Dev nD) : (unscopedSems0 c : sProp 𝕄) = semVal (bCell c) 0 := by
  unfold unscopedSems0; rw [bigSep_eq_bigSepL_of_eq [SemLoc.reg bSem] (by decide) (by decide)]; rfl

/-- The local semaphores at zero. -/
def locals (d : Dev nD) : sProp 𝕄 := bigSep (Finset.univ : Finset Lo) fun x => semVal ((d : Thread nD τ), SemLoc.dma (loSem x)) 0

/-- The kernel's own semaphores at zero: the shared ones and the local ones. -/
theorem ownSems0_eq (d : Dev nD) :
    (Pipeline.ownSems0 (Ix := ℕ) (Name := ℕ) (U := UU) (Lvl := ℕ) (Val := Elt F) (τ := τ) osem d : sProp 𝕄)
      = iprop(bigSep (Finset.univ : Finset (Fin 4 × Fin 64 ⊕ Fin 2)) (fun x => semVal (kcell (d, .inl x)) 0) ∗ locals d) := by
  unfold Pipeline.ownSems0
  rw [bigSep_univ_sum]; rfl

/-- The shared semaphores' part of the kernel's own, with the barrier. -/
theorem shared_eq (d : Dev nD) (A : GSem nD τ sig → sProp 𝕄) :
    bigSep (Finset.univ : Finset Cl) (fun x => A (kcell (d, x)))
      = iprop(bigSep (Finset.univ : Finset (Fin 4 × Fin 64 ⊕ Fin 2)) (fun x => A (kcell (d, .inl x))) ∗ A (bCell d)) := by
  rw [bigSep_univ_sum]
  congr 1
  rw [Finset.univ_unique, bigSep_singleton]; rfl

/-- All of a device's semaphores at zero: the shared ones, the barrier with them, and the local ones. -/
theorem sems0_eq (d : Dev nD) :
    iprop(Pipeline.ownSems0 (Ix := ℕ) (Name := ℕ) (U := UU) (Lvl := ℕ) (Val := Elt F) (τ := τ) osem d ∗ unscopedSems0 d)
      ⊣⊢ iprop(bigSep (Finset.univ : Finset Cl) (fun x => semVal (kcell (d, x)) 0) ∗ locals d) := by
  rw [ownSems0_eq, unscopedSems0_eq, shared_eq d fun g => semVal g 0]
  constructor
  · iintro ⟨⟨H1, H2⟩, H3⟩
    isplitl [H1 H3]
    · isplitl [H1] <;> iassumption
    iexact H2
  · iintro ⟨⟨H1, H3⟩, H2⟩
    isplitl [H1 H2]
    · isplitl [H1] <;> iassumption
    iexact H3

/-- Three things, grouped either way. -/
theorem sepAssoc (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H1, H2⟩, H3⟩
    isplitl [H1]; · iexact H1
    isplitl [H2] <;> iassumption
  · iintro ⟨H1, H2, H3⟩
    isplitl [H1 H2]
    · isplitl [H1] <;> iassumption
    iexact H3

/-- A family over the shared semaphores of a device, one kind at a time. -/
theorem cl_split (d : Dev nD) (A : GSem nD τ sig → sProp 𝕄) :
    bigSep (Finset.univ : Finset Cl) (fun x => A (kcell (d, x)))
      = iprop((bigSep Finset.univ (fun c : Fin 64 => A (dsCell d c)) ∗ bigSep Finset.univ (fun c : Fin 64 => A (dvCell d c))
          ∗ bigSep Finset.univ (fun c : Fin 64 => A (fsCell d c)) ∗ bigSep Finset.univ (fun c : Fin 64 => A (fvCell d c)))
        ∗ (A (cdCell d) ∗ A (cfCell d)) ∗ A (bCell d)) := by
  rw [shared_eq, bigSep_univ_sum, bigSep_univ_prod, bigSep_univ_eq_bigSepL [0, 1, 2, 3] (by decide) (by decide),
    bigSep_univ_eq_bigSepL [0, 1] (by decide) (by decide)]
  exact sepAssoc _ _ _

/-- The local semaphores, one machine at a time. -/
theorem locals_eq (d : Dev nD) : locals d
    = (iprop(((sv d (inSem (sg 0)) ∗ sv d (inSem (sg 1))) ∗ (sv d (outSem (sg 0)) ∗ sv d (outSem (sg 1))))
        ∗ bigSep (Ico 0 8) (fun k => sv d (drSem (ch k))) ∗ bigSep (Ico 0 8) (fun k => sv d (frSem (ch k)))) : sProp 𝕄) := by
  unfold locals
  rw [bigSep_univ_sum, bigSep_univ_prod, bigSep_univ_prod, BI.bigSep_fin_two, BI.bigSep_fin_two, BI.bigSep_fin_two, BI.bigSep_fin_two]
  rw [← fin_ico 8 (fun j : Fin 8 => sv (F := F) d (drSem (ch j.val))) (fun k => sv d (drSem (ch k))) (fun _ _ => rfl),
    ← fin_ico 8 (fun j : Fin 8 => sv (F := F) d (frSem (ch j.val))) (fun k => sv d (frSem (ch k))) (fun _ _ => rfl)]
  rfl

end Cert.K01

end
-- ==== Proof.Ghost.lean ====
/- The shared state set up at the launch, and what of it each device gets. -/
module

public import proofs.«01_k».proof.Proof.Sems

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)

/-- The contributions one device's shared semaphores get: the semaphore, and which contribution. -/
abbrev TokIx : Type := Fin 4 × Fin 64 ⊕ Fin 2 × Fin 56 ⊕ Fin 2
/-- The semaphore and the number of a contribution. -/
def tk : TokIx → Cl × ℕ
  | .inl x => (.inl (.inl x), 0)
  | .inr (.inl (k, n)) => (.inl (.inr k), n.val)
  | .inr (.inr n) => (.inr (), n.val)
/-- Different names, different contributions. -/
theorem tk_injective : Function.Injective tk := by
  rintro (x | ⟨k, n⟩ | n) (x' | ⟨k', n'⟩ | n') h <;> unfold tk at h <;> dsimp only at h
  · rw [Sum.inl.inj (Sum.inl.inj (congrArg Prod.fst h))]
  · cases Sum.inl.inj (congrArg Prod.fst h)
  · cases congrArg Prod.fst h
  · cases Sum.inl.inj (congrArg Prod.fst h)
  · rw [Sum.inr.inj (Sum.inl.inj (congrArg Prod.fst h)), Fin.ext (congrArg Prod.snd h)]
  · cases congrArg Prod.fst h
  · cases congrArg Prod.fst h
  · cases congrArg Prod.fst h
  · rw [Fin.ext (congrArg Prod.snd h)]

/-- A contribution on a given device, in its one round. -/
def tokOf (x : Dev nD × TokIx) : GSem nD τ sig × ℕ × ℕ := (kcell (x.1, (tk x.2).1), 0, (tk x.2).2)
/-- Different devices or names, different contributions. -/
theorem tokOf_injective : Function.Injective tokOf := by
  rintro ⟨d, x⟩ ⟨d', x'⟩ h
  have h1 := kcell_injective (congrArg Prod.fst h)
  have h2 : (tk x).2 = (tk x').2 := congrArg (fun y : GSem nD τ sig × ℕ × ℕ => y.2.2) h
  have h3 : x = x' := tk_injective (Prod.ext (congrArg Prod.snd h1) h2)
  have h0 : d = d' := congrArg (fun y : Dev nD × Cl => y.1) h1
  rw [h0, h3]

/-- All the shared semaphores. -/
def kcells : Finset (GSem nD τ sig) := Finset.univ.map ⟨kcell, kcell_injective⟩
/-- All the contributions. -/
def ktoks : Finset (GSem nD τ sig × ℕ × ℕ) := Finset.univ.map ⟨tokOf, tokOf_injective⟩

/-- The launch element. -/
def u₀ : UU :=
  (initOf (Pipeline.cells cfgs cellOf_inj) (Pipeline.launchToks cfgs cellOf_inj), (initOf kcells ktoks, (Release.initSlots Finset.univ 1, 1)))

/-- The contributions of device `d`'s semaphores, one kind at a time. -/
def toks (d : Dev nD) : sProp 𝕄 :=
  iprop(bigSep Finset.univ (fun c : Fin 64 => dutyTok ER (dsCell d c) 0 0) ∗ bigSep Finset.univ (fun c : Fin 64 => dutyTok ER (dvCell d c) 0 0)
    ∗ bigSep Finset.univ (fun c : Fin 64 => dutyTok ER (fsCell d c) 0 0) ∗ bigSep Finset.univ (fun c : Fin 64 => dutyTok ER (fvCell d c) 0 0)
    ∗ bigSep Finset.univ (fun n : Fin 56 => dutyTok ER (cdCell d) 0 n.val) ∗ bigSep Finset.univ (fun n : Fin 56 => dutyTok ER (cfCell d) 0 n.val)
    ∗ dutyTok ER (bCell d) 0 0 ∗ dutyTok ER (bCell d) 0 1)

/-- The receive slots of device `d`: its right to lend each, and the right to write each once. -/
def slots (d : Dev nD) : sProp 𝕄 :=
  iprop((bigSep Finset.univ (fun c : Fin 64 => Release.readerAt EK ((d, true, c) : Key) 0) ∗ bigSep Finset.univ (fun c : Fin 64 => Release.readerAt EK ((d, false, c) : Key) 0))
    ∗ bigSep Finset.univ (fun c : Fin 64 => Release.writeTok EK ((d, true, c) : Key) 1) ∗ bigSep Finset.univ (fun c : Fin 64 => Release.writeTok EK ((d, false, c) : Key) 1))

/-- The receive slots' invariants. -/
def slotInvs : sProp 𝕄 := iprop(∃ I : Key → ℕ, bigSep (Finset.univ : Finset Key) (fun k => Release.slotInv EK (I k) k (Sl k)))
/-- The slots' invariants stay known. -/
instance slotInvs_persistent : BI.Persistent (slotInvs (F := F)) := by unfold slotInvs; infer_instance

/-- What the launch element is worth to device `d`. -/
def G (d : Dev nD) : sProp 𝕄 :=
  iprop(bigSep Finset.univ (fun x : Cl => roundState ER (Rd m) (kcell (d, x)) 0) ∗ bigSep Finset.univ (fun x : Cl => reached ER (kcell (d, x)) 0)
    ∗ bigSep Finset.univ (fun x : Cl => atPos ER (kcell (d, x)) 0 ∅ 0) ∗ toks d ∗ slots d ∗ slotInvs)

/-- Something for every receive slot: device by device, buffer by buffer. -/
theorem key_split (A : Key → sProp 𝕄) :
    bigSep Finset.univ A = bigSep Finset.univ fun d : Dev nD => iprop(bigSep Finset.univ (fun c : Fin 64 => A (d, true, c)) ∗ bigSep Finset.univ (fun c : Fin 64 => A (d, false, c))) := by
  rw [bigSep_univ_prod]
  refine bigSep_congr fun d _ => ?_
  rw [bigSep_univ_prod, bigSep_univ_eq_bigSepL [true, false] (by decide) (by decide)]; rfl

/-- The shared semaphores' part of the launch element: their rounds, who stands where, and the contributions. -/
theorem fund_cells : (BI.own (ER (F := F) (initOf kcells ktoks)) : sProp 𝕄) ⊢
    (|==> (bigSep Finset.univ (fun d : Dev nD => bigSep Finset.univ (fun x : Cl => roundState ER (Rd m) (kcell (d, x)) 0))
      ∗ bigSep Finset.univ (fun d : Dev nD => bigSep Finset.univ (fun x : Cl => reached ER (kcell (d, x)) 0))
      ∗ bigSep Finset.univ (fun d : Dev nD => bigSep Finset.univ (fun x : Cl => atPos ER (kcell (d, x)) 0 ∅ 0))
      ∗ bigSep Finset.univ (fun d : Dev nD => toks d))) := by
  have hX (Φ : GSem nD τ sig → sProp 𝕄) : bigSep kcells Φ = bigSep Finset.univ fun d : Dev nD => bigSep Finset.univ fun x : Cl => Φ (kcell (d, x)) := by
    unfold kcells; rw [bigSep_map, bigSep_univ_prod]; rfl
  have hT : bigSep ktoks (fun x => (dutyTok ER x.1 x.2.1 x.2.2 : sProp 𝕄)) = bigSep Finset.univ fun d : Dev nD => toks d := by
    unfold ktoks; rw [bigSep_map, bigSep_univ_prod]
    refine bigSep_congr fun d _ => ?_
    rw [bigSep_univ_sum, bigSep_univ_sum, bigSep_univ_prod, bigSep_univ_prod, bigSep_univ_eq_bigSepL [0, 1, 2, 3] (by decide) (by decide),
      BI.bigSep_fin_two, BI.bigSep_fin_two]
    unfold toks
    refine (sepAssoc _ _ _).trans ?_
    refine congrArg (fun R => iprop(_ ∗ R)) ((sepAssoc _ _ _).trans ?_)
    refine congrArg (fun R => iprop(_ ∗ R)) ((sepAssoc _ _ _).trans ?_)
    refine congrArg (fun R => iprop(_ ∗ R)) ?_
    refine congrArg (fun R => iprop(_ ∗ R)) ?_
    exact sepAssoc _ _ _
  iintro HX
  imod (Rounds.fund ER (Rd m) kcells ktoks) $$ HX with ⟨Hst, Hr, Hat, Htok⟩
  imodintro
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- The receive slots' part: the invariants, with the slots lent to nobody, and the rights to lend and to write each. -/
theorem fund_slots : (BI.own (EK (F := F) (Release.initSlots Finset.univ 1)) : sProp 𝕄) ⊢
    (|={Set.univ}=> (bigSep Finset.univ (fun d : Dev nD => slots d) ∗ slotInvs)) := by
  iintro H
  imod (Release.slots_init EK (Finset.univ : Finset Key) 1 Sl ∅) $$ H with ⟨%I, -, #HI, Hr, Hw⟩
  imodintro
  isplitl
  · unfold slots
    iapply (Entails.of_eq (bigSep_sep' Finset.univ
      (fun d : Dev nD => iprop(bigSep Finset.univ (fun c : Fin 64 => Release.readerAt EK ((d, true, c) : Key) 0) ∗ bigSep Finset.univ (fun c : Fin 64 => Release.readerAt EK ((d, false, c) : Key) 0)))
      (fun d : Dev nD => iprop(bigSep Finset.univ (fun c : Fin 64 => Release.writeTok EK ((d, true, c) : Key) 1) ∗ bigSep Finset.univ (fun c : Fin 64 => Release.writeTok EK ((d, false, c) : Key) 1)))).symm)
    isplitl [Hr]
    · iapply (Entails.of_eq (key_split (F := F) fun k => Release.readerAt EK k 0)); iexact Hr
    · iapply (Entails.of_eq (key_split (F := F) fun k => Release.writeTok EK k 1))
      iapply (Entails.of_eq (show bigSep ((Finset.univ : Finset Key) ×ˢ Finset.range 1) (fun x => (Release.writeTok EK x.1 (x.2 + 1) : sProp 𝕄))
          = bigSep Finset.univ (fun k : Key => Release.writeTok EK k 1) from by
        rw [show (Finset.univ : Finset Key) ×ˢ Finset.range 1 = Finset.univ.map ⟨fun k : Key => (k, 0), fun _ _ h => congrArg Prod.fst h⟩ from by
          ext ⟨k, i⟩
          simp only [Finset.mem_product, Finset.mem_univ, Finset.mem_range, Finset.mem_map, Function.Embedding.coeFn_mk]
          constructor
          · rintro ⟨-, h⟩; exact ⟨k, trivial, by rw [Nat.lt_one_iff.mp h]; rfl⟩
          · rintro ⟨k', -, h⟩; exact ⟨trivial, by rw [show i = 0 from (congrArg Prod.snd h).symm]; exact Nat.one_pos⟩]
        rw [bigSep_map]; rfl))
      iexact Hw
  · unfold slotInvs; iexists I; iexact HI

/-- The launch element in its parts. -/
theorem own_parts (a : UR sig nD τ) (b : URounds (GSem nD τ sig) ℕ) (k : Release.USlots Key) (c : Counters) :
    (ownU ((a, (b, (k, c))) : UU) : sProp 𝕄) ⊢ iprop(BI.own (EP (F := F) a) ∗ BI.own (ER (F := F) b) ∗ BI.own (EK (F := F) k)) := by
  iintro Hu
  ihave H := (ownU_pair _ _) $$ Hu
  icases H with ⟨HP, HX⟩
  isplitl [HP]; · iexact HP
  ihave H := (show (BI.own (embR ((b, (k, c)) : UB)) : sProp 𝕄) ⊢ iprop(BI.own (ER (F := F) b) ∗ BI.own ((Emb.inr.trans (EB (F := F))) (k, c))) from
    own_pair_emb EB b (k, c)) $$ HX
  icases H with ⟨HC, HX⟩
  isplitl [HC]; · iexact HC
  ihave H := (show (BI.own ((Emb.inr.trans (EB (F := F))) (k, c)) : sProp 𝕄) ⊢ iprop(BI.own (EK (F := F) k) ∗ BI.own ((Emb.inr.trans (Emb.inr.trans (EB (F := F)))) c)) from
    own_pair_emb (Emb.inr.trans EB) k c) $$ HX
  icases H with ⟨HK, -⟩
  iexact HK

/-- The launch element gives the pipeline its part and every device `G`. -/
theorem fund_all : (ownU u₀ : sProp 𝕄) ⊢ |={Set.univ}=> iprop(BI.own (EP (F := F) (initOf (Pipeline.cells cfgs cellOf_inj) (Pipeline.launchToks cfgs cellOf_inj)))
    ∗ bigSep Finset.univ (G m)) := by
  unfold u₀
  iintro Hu
  ihave H := (own_parts (F := F) _ _ _ _) $$ Hu
  icases H with ⟨HP, HC, HK⟩
  imod (fund_cells m) $$ HC with ⟨Hst, Hr, Hat, Htok⟩
  imod (fund_slots (F := F)) $$ HK with ⟨Hsl, #HI⟩
  imodintro
  isplitl [HP]; · iexact HP
  unfold G
  simp only [bigSep_sep']
  isplitl [Hst]; · iexact Hst
  isplitl [Hr]; · iexact Hr
  isplitl [Hat]; · iexact Hat
  isplitl [Htok]; · iexact Htok
  isplitl [Hsl]; · iexact Hsl
  iapply (BI.bigSep_of_persistent Finset.univ (slotInvs (F := F))); iexact HI

end Cert.K01

end
-- ==== Proof.Deal.lean ====
/- What the launch deals each device against what the others owe it. -/
module

public import proofs.«01_k».proof.Proof.Sems

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

/-- The `y` neighbours as a permutation of the devices. -/
def yE : Dev nD ≃ Dev nD := ⟨yn, yn, yn_yn, yn_yn⟩
/-- The `x` neighbours as a permutation of the devices. -/
def xE : Dev nD ≃ Dev nD := ⟨xn, xn, xn_xn, xn_xn⟩

/-- The direct chunks that are owed to device `e`. -/
def tD (e : Dev nD) : CellTallies nD τ sig ℕ := ∑ k ∈ Finset.Ico 0 64, tallyAt (dvCell e (ch k)) 0 N
/-- The forwarded chunks that are owed to device `e`. -/
def tF (e : Dev nD) : CellTallies nD τ sig ℕ := ∑ k ∈ Finset.Ico 0 64, tallyAt (fvCell e (ch k)) 0 N
/-- The credits that its `y` neighbour owes device `e`. -/
def tC (e : Dev nD) : CellTallies nD τ sig ℕ := ∑ k ∈ Finset.Ico 0 56, tallyAt (cdCell e) k 1
/-- The credits that its `x` neighbour owes device `e`. -/
def tE (e : Dev nD) : CellTallies nD τ sig ℕ := ∑ k ∈ Finset.Ico 0 56, tallyAt (cfCell e) k 1
/-- One signal of the barrier, owed to device `e`. -/
def tB (e : Dev nD) : CellTallies nD τ sig ℕ := tallyAt (bCell e) 0 1

/-- What is owed to device `e` in all. -/
def dueTo (e : Dev nD) : CellTallies nD τ sig ℕ := tD e + tF e + tC e + tE e + tB e + tB e

/-- What all the devices owe is what is owed to all of them. -/
theorem sum_due : (∑ d, O₀ d) = ∑ d, dueTo d := by
  have h : ∀ d, O₀ d = tD (yE d) + tF (xE d) + tC (yE d) + tE (xE d) + tB (xE d) + tB (yE d) := fun _ => rfl
  simp only [h, dueTo, Finset.sum_add_distrib]
  rw [Equiv.sum_comp yE tD, Equiv.sum_comp xE tF, Equiv.sum_comp yE tC, Equiv.sum_comp xE tE, Equiv.sum_comp xE tB, Equiv.sum_comp yE tB]

/-- A tally on a device's own semaphores only. -/
def On (e : Dev nD) (T : CellTallies nD τ sig ℕ) : Prop := ∀ g : GSem nD τ sig, g.1 ≠ (e : Thread nD τ) → T g = 0
/-- Two tallies on one device add up to one on it. -/
theorem On.add {e : Dev nD} {T T' : CellTallies nD τ sig ℕ} (h : On e T) (h' : On e T') : On e (T + T') := fun g hg => by
  rw [Pi.add_apply, h g hg, h' g hg, add_zero]
/-- Any number of tallies on one device add up to one on it. -/
theorem On.sum {e : Dev nD} {S : Finset ℕ} {T : ℕ → CellTallies nD τ sig ℕ} (h : ∀ k, On e (T k)) : On e (∑ k ∈ S, T k) := fun g hg => by
  rw [Finset.sum_apply]; exact Finset.sum_eq_zero fun k _ => h k g hg
/-- A tally at one semaphore is on its device. -/
theorem On.at (e : Dev nD) (s : SemLoc sig) (i k : ℕ) : On e (tallyAt ((e : Thread nD τ), s) i k) := fun g hg =>
  tallyAt_ne_cell (fun h => hg (congrArg Prod.fst h)) i k

/-- What is owed to a device is on its own semaphores. -/
theorem due_on (e : Dev nD) : On e (dueTo e) := by
  unfold dueTo tD tF tC tE tB
  exact ((((((On.sum fun k => On.at e _ _ _).add (On.sum fun k => On.at e _ _ _)).add (On.sum fun k => On.at e _ _ _)).add
    (On.sum fun k => On.at e _ _ _)).add (On.at e _ _ _)).add (On.at e _ _ _))

/-- A credit for a sum is a credit for each term. -/
theorem credFam (S : Finset ℕ) (T : ℕ → CellTallies nD τ sig ℕ) : (cred (∑ a ∈ S, T a) : sProp 𝕄) ⊢ bigSep S fun a => cred (T a) := by
  induction S using Finset.induction_on with
  | empty => rw [Finset.sum_empty, cred_zero, bigSep_empty]; exact Entails.rfl
  | insert c S hc ih =>
    rw [Finset.sum_insert hc, bigInsert hc]
    iintro H
    ihave H' := (cred_add _ _).1 $$ H
    icases H' with ⟨H1, H2⟩
    isplitl [H1]; · iexact H1
    iapply ih; iexact H2

/-- What the launch deals device `c`. -/
theorem dealt (c : Dev nD) : (Pipeline.launchCred O₀ c : sProp 𝕄) ⊢
    iprop(bigSep (Ico 0 64) (fun k => cred (tallyAt (dvCell c (ch k)) 0 N)) ∗ bigSep (Ico 0 64) (fun k => cred (tallyAt (fvCell c (ch k)) 0 N))
      ∗ bigSep (Ico 0 56) (fun k => cred (tallyAt (cdCell c) k 1)) ∗ bigSep (Ico 0 56) (fun k => cred (tallyAt (cfCell c) k 1))
      ∗ cred (tallyAt (bCell c) 0 2)) := by
  have hT : ∀ d (g : GSem nD τ sig), dueTo d g ≠ 0 → g.1 = (d.tc : Thread nD τ) := fun d g h => by
    by_contra h'; exact h (due_on d g h')
  rw [Pipeline.launchCred_of_sum O₀ dueTo sum_due hT c]
  have hB : tB c + tB c = tallyAt (bCell c) 0 2 := tallyAt_add _ _ _ _
  have hd : dueTo c = tD c + (tF c + (tC c + (tE c + tallyAt (bCell c) 0 2))) := by
    rw [← hB]; unfold dueTo; ac_rfl
  rw [hd]
  unfold tD tF tC tE
  iintro H
  ihave H := (cred_add _ _).1 $$ H
  icases H with ⟨H1, H⟩
  ihave H := (cred_add _ _).1 $$ H
  icases H with ⟨H2, H⟩
  ihave H := (cred_add _ _).1 $$ H
  icases H with ⟨H3, H⟩
  ihave H := (cred_add _ _).1 $$ H
  icases H with ⟨H4, H5⟩
  isplitl [H1]; · iapply (credFam (F := F) _ _); iexact H1
  isplitl [H2]; · iapply (credFam (F := F) _ _); iexact H2
  isplitl [H3]; · iapply (credFam (F := F) _ _); iexact H3
  isplitl [H4]; · iapply (credFam (F := F) _ _); iexact H4
  iexact H5

end Cert.K01

end
-- ==== Proof.Share.lean ====
/- The shared semaphores' invariants set up, and every right handed to the device that uses it. -/
module

public import proofs.«01_k».proof.Proof.Ghost
public import proofs.«01_k».proof.Proof.Deal

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ)

/-- The shared part of what every device knows, but for the levels. -/
def ctx0 (K : Dev nD × Cl → ℕ) (I : Key → ℕ) : sProp 𝕄 :=
  iprop(bigSep (Finset.univ : Finset (Dev nD × Cl)) (fun x => cellInv ER (Rd m) (K x) (kcell x))
    ∗ bigSep (Finset.univ : Finset (Dev nD × Cl)) (fun x => reached ER (kcell x) 0)
    ∗ bigSep (Finset.univ : Finset Key) (fun k => Release.slotInv EK (I k) k (Sl k)))
/-- What every device knows, but for the levels, stays known. -/
instance ctx0_persistent (K : Dev nD × Cl → ℕ) (I : Key → ℕ) : BI.Persistent (ctx0 m K I) := by unfold ctx0; infer_instance

/-- The contributions device `d` makes. -/
def mine (d : Dev nD) : sProp 𝕄 :=
  iprop(bigSep Finset.univ (fun c : Fin 64 => dutyTok ER (dsCell d c) 0 0) ∗ bigSep Finset.univ (fun c : Fin 64 => dutyTok ER (dvCell (yn d) c) 0 0)
    ∗ bigSep Finset.univ (fun c : Fin 64 => dutyTok ER (fsCell d c) 0 0) ∗ bigSep Finset.univ (fun c : Fin 64 => dutyTok ER (fvCell (xn d) c) 0 0)
    ∗ bigSep Finset.univ (fun n : Fin 56 => dutyTok ER (cdCell (yn d)) 0 n.val) ∗ bigSep Finset.univ (fun n : Fin 56 => dutyTok ER (cfCell (xn d)) 0 n.val)
    ∗ dutyTok ER (bCell (yn d)) 0 0 ∗ dutyTok ER (bCell (xn d)) 0 1)

/-- The receive slots device `d` lends, and those it writes. -/
def lends (d : Dev nD) : sProp 𝕄 :=
  iprop((bigSep Finset.univ (fun c : Fin 64 => Release.readerAt EK ((d, true, c) : Key) 0) ∗ bigSep Finset.univ (fun c : Fin 64 => Release.readerAt EK ((d, false, c) : Key) 0))
    ∗ bigSep Finset.univ (fun c : Fin 64 => Release.writeTok EK ((yn d, true, c) : Key) 1) ∗ bigSep Finset.univ (fun c : Fin 64 => Release.writeTok EK ((xn d, false, c) : Key) 1))

/-- What stays with device `d`. -/
def lin (d : Dev nD) : sProp 𝕄 := iprop(bigSep Finset.univ (fun x : Cl => atPos ER (kcell (d, x)) 0 ∅ 0) ∗ mine d ∗ lends d ∗ locals d)

/-- What device `d` starts from. -/
def G' (d : Dev nD) : sProp 𝕄 := iprop(∃ (K : Dev nD × Cl → ℕ) (I : Key → ℕ), ctx0 m K I ∗ lin d)

/-- One device's shared semaphores' invariants set up. -/
def set1 (d : Dev nD) : sProp 𝕄 :=
  iprop(bigSep Finset.univ (fun x : Cl => iprop(∃ κ : ℕ, cellInv ER (Rd m) κ (kcell (d, x)))) ∗ bigSep Finset.univ (fun x : Cl => reached ER (kcell (d, x)) 0)
    ∗ bigSep Finset.univ (fun x : Cl => atPos ER (kcell (d, x)) 0 ∅ 0) ∗ toks d ∗ slots d ∗ slotInvs ∗ locals d)

/-- One device's semaphores at zero become its shared semaphores' invariants and its local semaphores. -/
theorem core_alloc (d : Dev nD) :
    iprop(Pipeline.ownSems0 (Ix := ℕ) (Name := ℕ) (U := UU) (Lvl := ℕ) (Val := Elt F) (τ := τ) osem d ∗ unscopedSems0 d ∗ G m d)
      ⊢ |={Set.univ}=> set1 m d := by
  unfold G set1
  iintro ⟨Hos, Hus, Hst, Hr, Hat, Htok, Hsl, HI⟩
  ihave Hv := (sems0_eq (F := F) d).1 $$ [Hos Hus]
  · isplitl [Hos] <;> iassumption
  icases Hv with ⟨Hv, Hloc⟩
  imod (show iprop((bigSep Finset.univ fun x : Cl => semVal (kcell (d, x)) 0) ∗ bigSep Finset.univ fun x : Cl => roundState ER (Rd m) (kcell (d, x)) 0)
      ⊢ (|={Set.univ}=> bigSep Finset.univ fun x => iprop(∃ κ : ℕ, cellInv ER (Rd m) κ (kcell (d, x))) : sProp 𝕄) from by
        rw [← bigSep_sep']
        exact (bigSep_mono fun k _ => (Rounds.body_intro ER (Rd m) (kcell (d, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Hsl]; · iexact Hsl
  isplitl [HI] <;> iassumption

/-- Every contribution to the device that makes it. -/
theorem toks_around : (bigSep Finset.univ fun d : Dev nD => (toks d : sProp 𝕄)) ⊢ bigSep Finset.univ fun d : Dev nD => mine d := by
  unfold toks mine
  simp only [bigSep_sep']
  rw [bigSep_univ_equiv yE (fun d : Dev nD => bigSep Finset.univ (fun c : Fin 64 => (dutyTok ER (dvCell d c) 0 0 : sProp 𝕄))),
    bigSep_univ_equiv xE (fun d : Dev nD => bigSep Finset.univ (fun c : Fin 64 => (dutyTok ER (fvCell d c) 0 0 : sProp 𝕄))),
    bigSep_univ_equiv yE (fun d : Dev nD => bigSep Finset.univ (fun n : Fin 56 => (dutyTok ER (cdCell d) 0 n.val : sProp 𝕄))),
    bigSep_univ_equiv xE (fun d : Dev nD => bigSep Finset.univ (fun n : Fin 56 => (dutyTok ER (cfCell d) 0 n.val : sProp 𝕄))),
    bigSep_univ_equiv yE (fun d : Dev nD => (dutyTok ER (bCell d) 0 0 : sProp 𝕄)),
    bigSep_univ_equiv xE (fun d : Dev nD => (dutyTok ER (bCell d) 0 1 : sProp 𝕄))]
  exact Entails.rfl

/-- Every slot's right to be written to the device that writes it. -/
theorem slots_around : (bigSep Finset.univ fun d : Dev nD => (slots d : sProp 𝕄)) ⊢ bigSep Finset.univ fun d : Dev nD => lends d := by
  unfold slots lends
  simp only [bigSep_sep']
  rw [bigSep_univ_equiv yE (fun d : Dev nD => bigSep Finset.univ (fun c : Fin 64 => (Release.writeTok EK ((d, true, c) : Key) 1 : sProp 𝕄))),
    bigSep_univ_equiv xE (fun d : Dev nD => bigSep Finset.univ (fun c : Fin 64 => (Release.writeTok EK ((d, false, c) : Key) 1 : sProp 𝕄)))]
  exact Entails.rfl

/-- What stays known can be handed to every device. -/
theorem deal_persistent {R : sProp 𝕄} [BI.Persistent R] {Φ Ψ : Dev nD → sProp 𝕄}
    (h : ∀ d, iprop(R ∗ Φ d) ⊢ Ψ d) : iprop(R ∗ bigSep Finset.univ Φ) ⊢ bigSep Finset.univ Ψ :=
  (sep_mono_left (BI.bigSep_of_persistent Finset.univ R)).trans (by rw [← bigSep_sep']; exact bigSep_mono fun d _ => h d)

/-- Every device's share becomes what it starts from. -/
theorem regroup : (bigSep Finset.univ (set1 m) : sProp 𝕄) ⊢ bigSep Finset.univ (G' m) := by
  unfold set1
  rw [bigSep_sep', bigSep_sep', bigSep_sep', bigSep_sep', bigSep_sep', bigSep_sep',
    ← bigSep_univ_prod (fun x : Dev nD × Cl => iprop(∃ κ : ℕ, cellInv ER (Rd m) κ (kcell x))),
    ← bigSep_univ_prod (fun x : Dev nD × Cl => (reached ER (kcell x) 0 : sProp 𝕄))]
  iintro ⟨HI, #HR, Hat, Htok, Hsl, HS, Hloc⟩
  ihave HK := (BI.bigSep_exists_pi Finset.univ (fun (x : Dev nD × Cl) (κ : ℕ) => (cellInv ER (Rd m) κ (kcell x) : sProp 𝕄))) $$ HI
  icases HK with ⟨%K, #HI⟩
  ihave HS := (bigElim (F := F) (Φ := fun _ : Dev nD => slotInvs (F := F)) (Finset.mem_univ (0 : Dev nD))) $$ HS
  unfold slotInvs
  icases HS with ⟨%I, #HS⟩
  ihave Htok := (toks_around (F := F)) $$ Htok
  ihave Hsl := (slots_around (F := F)) $$ Hsl
  iapply (deal_persistent (R := ctx0 m K I) (Φ := fun d => lin d) (Ψ := G' m) fun d => by
    unfold G'; iintro H; iexists K; iexists I; iexact H)
  isplitr
  · unfold ctx0
    isplitr; · iexact HI
    isplitr; · iexact HR
    iexact HS
  unfold lin
  simp only [bigSep_sep']
  isplitl [Hat]; · iexact Hat
  isplitl [Htok]; · iexact Htok
  isplitl [Hsl]; · iexact Hsl
  iexact Hloc

/-- From all the semaphores at zero and the launch element's worth, every device gets what it starts from. -/
theorem glob : (bigSep Finset.univ fun d => iprop(Pipeline.ownSems0 (Ix := ℕ) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

end Cert.K01

end
-- ==== Proof.Enter.lean ====
/- From what the launch deals a device to what the body starts from, and from what the body leaves to what the launch takes back. -/
module

public import proofs.«01_k».proof.Proof.Share

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

variable (m : (ℓ : Loc nD τ sig) → Buf (Elt F) ℓ) (d : Dev nD)

/-! ## The scratch buffers, whole and in slots -/

/-- The direct buffer, whole. -/
def dbuf : sProp 𝕄 := iprop(∃ f : Buf (Elt F) ((d : Thread nD τ).loc cc0_scratch0), (d : Thread nD τ).loc cc0_scratch0 ↦{fullShare} f)
/-- The forward buffer, whole. -/
def fbuf : sProp 𝕄 := iprop(∃ f : Buf (Elt F) ((d : Thread nD τ).loc cc0_scratch1), (d : Thread nD τ).loc cc0_scratch1 ↦{fullShare} f)
/-- The staging buffer, whole. -/
def gbuf : sProp 𝕄 := iprop(∃ f : Buf (Elt F) ((d : Thread nD τ).loc cc0_scratch2), (d : Thread nD τ).loc cc0_scratch2 ↦{fullShare} f)

/-- Eight numbers in a row have different slots. -/
theorem slots8 (a : ℕ) : ∀ x ∈ Ico a (a + 8), ∀ y ∈ Ico a (a + 8), x % 8 = y % 8 → x = y := fun x hx y hy h => by
  rw [Finset.mem_Ico] at hx hy; omega
/-- Eight numbers in a row, from a multiple of eight on, have every slot. -/
theorem all8 (a n : ℕ) (h : n < 8) : ∃ k ∈ Ico (8 * a) (8 * a + 8), n = k % 8 :=
  ⟨8 * a + n, Finset.mem_Ico.mpr ⟨by omega, by omega⟩, by omega⟩

/-- The direct buffer is cut into its slots. -/
theorem dbuf_split : dbuf (F := F) d ⊢ bigSep (Ico 0 8) (fun k => Sl (F := F) ((d, true, ch k) : Key)) :=
  slots_split (ℓ := (d : Thread nD τ).loc cc0_scratch0) (Ico 0 8) (fun k => ((dSlot (ch k)).view.set : Finset S8x128x1024.Idx))
    (slot_disj (s := S8x128x1024) _ (fun i => (i 0).val) 8 dJ (slots8 0)) (slot_cover (s := S8x128x1024) _ (fun i => (i 0).val) 8 dJ fun i => all8 0 _ (i 0).isLt)
/-- The forward buffer is cut into its slots. -/
theorem fbuf_split : fbuf (F := F) d ⊢ bigSep (Ico 0 8) (fun k => Sl (F := F) ((d, false, ch k) : Key)) :=
  slots_split (ℓ := (d : Thread nD τ).loc cc0_scratch1) (Ico 0 8) (fun k => ((fSlot (ch k)).view.set : Finset S8x128x1024.Idx))
    (slot_disj (s := S8x128x1024) _ (fun i => (i 0).val) 8 fJ (slots8 0)) (slot_cover (s := S8x128x1024) _ (fun i => (i 0).val) 8 fJ fun i => all8 0 _ (i 0).isLt)
include m in
/-- The slots of the last eight chunks are the direct buffer. -/
theorem dbuf_join : bigSep (Ico 56 64) (fun k => Sl (F := F) ((d, true, ch k) : Key)) ⊢ dbuf d :=
  slots_join (ℓ := (d : Thread nD τ).loc cc0_scratch0) (Ico 56 64) (fun k => ((dSlot (ch k)).view.set : Finset S8x128x1024.Idx))
    (slot_disj (s := S8x128x1024) _ (fun i => (i 0).val) 8 dJ (slots8 56)) (slot_cover (s := S8x128x1024) _ (fun i => (i 0).val) 8 dJ fun i => all8 7 _ (i 0).isLt)
    ⟨Dbuf m d 0⟩
include m in
/-- The slots of the last eight forwarded chunks are the forward buffer. -/
theorem fbuf_join : bigSep (Ico 56 64) (fun k => Sl (F := F) ((d, false, ch k) : Key)) ⊢ fbuf d :=
  slots_join (ℓ := (d : Thread nD τ).loc cc0_scratch1) (Ico 56 64) (fun k => ((fSlot (ch k)).view.set : Finset S8x128x1024.Idx))
    (slot_disj (s := S8x128x1024) _ (fun i => (i 0).val) 8 fJ (slots8 56)) (slot_cover (s := S8x128x1024) _ (fun i => (i 0).val) 8 fJ fun i => all8 7 _ (i 0).isLt)
    ⟨Fbuf m d 0⟩

/-- Two pieces. -/
theorem two (A : ℕ → sProp 𝕄) : bigSep (Ico 0 2) A = iprop(A 0 ∗ A 1) := by
  rw [← fin_ico 2 (fun k : Fin 2 => A k.val) A (fun _ _ => rfl), BI.bigSep_fin_two]; rfl
/-- The first two numbers have both staging slots. -/
theorem all2 (n : ℕ) (h : n < 2) : ∃ k ∈ Ico 0 2, n = k % 2 := ⟨n, Finset.mem_Ico.mpr ⟨by omega, by omega⟩, by omega⟩
/-- The first two numbers have different staging slots. -/
theorem slots2 : ∀ x ∈ Ico 0 2, ∀ y ∈ Ico 0 2, x % 2 = y % 2 → x = y := fun x hx y hy h => by
  rw [Finset.mem_Ico] at hx hy; omega

/-- The staging buffer is cut into its two slots. -/
theorem gbuf_split : gbuf (F := F) d ⊢ iprop(stgAny d (sg 0) ∗ stgAny d (sg 1)) :=
  (slots_split (ℓ := (d : Thread nD τ).loc cc0_scratch2) (Ico 0 2) (fun k => ((stg (sg k)).view.set : Finset S2x128x1024.Idx))
    (slot_disj (s := S2x128x1024) _ (fun i => (i 0).val) 2 gJ slots2) (slot_cover (s := S2x128x1024) _ (fun i => (i 0).val) 2 gJ fun i => all2 _ (i 0).isLt)).trans
    (Entails.of_eq (two fun k => stgAny d (sg k)))
include m in
/-- The two staging slots are the staging buffer. -/
theorem gbuf_join : iprop(stgAny (F := F) d (sg 0) ∗ stgAny d (sg 1)) ⊢ gbuf d :=
  (Entails.of_eq (two fun k => stgAny d (sg k)).symm).trans
    (slots_join (ℓ := (d : Thread nD τ).loc cc0_scratch2) (Ico 0 2) (fun k => ((stg (sg k)).view.set : Finset S2x128x1024.Idx))
      (slot_disj (s := S2x128x1024) _ (fun i => (i 0).val) 2 gJ slots2) (slot_cover (s := S2x128x1024) _ (fun i => (i 0).val) 2 gJ fun i => all2 _ (i 0).isLt)
      ⟨m ((d : Thread nD τ).loc cc0_scratch2)⟩)

/-! ## The argument, whole and in chunks -/

/-- The argument: a half share in stages, the other half in the chunks that are sent and the rest. -/
theorem arg_split : ((d : Thread nD τ).loc main_arg0 ↦{fullShare} xc m d : sProp 𝕄)
    ⊣⊢ iprop(bigSep (Ico 0 128) (fun k => xSt m d (sg k)) ∗ bigSep (Ico 0 64) (fun k => xSendPts m fullShare.right d (ch k)) ∗ xRest m d) := by
  have h : ((d : Thread nD τ).loc main_arg0 ↦{fullShare} xc m d : sProp 𝕄)
      ⊣⊢ iprop(((d : Thread nD τ).loc main_arg0 ↦{fullShare.left} xc m d) ∗ (d : Thread nD τ).loc main_arg0 ↦{fullShare.right} xc m d) :=
    pointsTo_share (PosShare.mem_left_op_right fullShare)
  constructor
  · iintro H
    ihave H := h.1 $$ H
    icases H with ⟨H1, H2⟩
    isplitl [H1]; · iapply (Entails.of_eq (x_left m d)); iexact H1
    iapply (x_right m d).1; iexact H2
  · iintro ⟨H1, H2⟩
    iapply h.2
    isplitl [H1]; · iapply (Entails.of_eq (x_left m d).symm); iexact H1
    iapply (x_right m d).2; iexact H2

/-! ## The local semaphores of the two receive buffers, eight further on -/

/-- The semaphores of chunks 64 to 71 are those of the first eight. -/
theorem shift8 (s : Fin 64 → DmaSem sig) : bigSep (Ico 64 72) (fun k => (sv d (s (ch k)) : sProp 𝕄)) = bigSep (Ico 0 8) (fun k => sv d (s (ch k))) := by
  rw [show Ico 64 72 = (Ico 0 8).map ⟨fun k => k + 64, fun _ _ h => Nat.add_right_cancel h⟩ from by decide, bigSep_map]
  refine bigSep_congr fun k _ => ?_
  show sv d (s (ch (k + 64))) = _
  rw [show ch (k + 64) = ch k from Fin.ext (Nat.add_mod_right k 64)]

/-! ## Before the body -/

/-- What the launch deals a device against what its neighbours owe it. -/
def dealP : sProp 𝕄 :=
  iprop(bigSep (Ico 0 64) (fun k => cred (tallyAt (dvCell d (ch k)) 0 N)) ∗ bigSep (Ico 0 64) (fun k => cred (tallyAt (fvCell d (ch k)) 0 N))
    ∗ bigSep (Ico 0 56) (fun k => cred (tallyAt (cdCell d) k 1)) ∗ bigSep (Ico 0 56) (fun k => cred (tallyAt (cfCell d) k 1))
    ∗ cred (tallyAt (bCell d) 0 2))

/-- The credits, numbered by an interval. -/
theorem fin_56 (A : ℕ → sProp 𝕄) : bigSep Finset.univ (fun n : Fin 56 => A n.val) = bigSep (Ico 0 56) A :=
  fin_ico 56 _ A fun _ _ => rfl

/-- The buffers of a device, whole: the argument, the result at any contents, the three scratch buffers. -/
def bufs (f : Buf (Elt F) ((d : Thread nD τ).loc main_v1)) : sProp 𝕄 :=
  iprop((((d : Thread nD τ).loc main_arg0 ↦{fullShare} xc m d) ∗ ((d : Thread nD τ).loc main_v1 ↦{fullShare} f)) ∗ dbuf d ∗ fbuf d ∗ gbuf d)

/-- What a device starts with is what the body starts from. -/
theorem enter (f : Buf (Elt F) ((d : Thread nD τ).loc main_v1)) : iprop(lin d ∗ dealP d ∗ bufs m d f) ⊢ iprop(S0 m d ∗ xRest m d) := by
  unfold lin mine lends dealP bufs
  rw [cl_split d fun g => atPos ER g 0 ∅ 0, locals_eq]
  simp only [fin_ch]
  rw [fin_56 fun n => dutyTok ER (cdCell (yn d)) 0 n, fin_56 fun n => dutyTok ER (cfCell (xn d)) 0 n]
  iintro ⟨⟨⟨⟨Pds, Pdv, Pfs, Pfv⟩, ⟨Pcd, Pcf⟩, Pb⟩, ⟨Tds, Tdv, Tfs, Tfv, Tcd, Tcf, Tb0, Tb1⟩, ⟨⟨Rd, Rf⟩, Wd, Wf⟩, ⟨Vi, Vo⟩, Vd, Vf⟩,
    ⟨Cdv, Cfv, Ccd, Ccf, Cb⟩, ⟨HA, HV⟩, HD, HF, HG⟩
  ihave HA := (arg_split m d).1 $$ HA
  icases HA with ⟨Hx, Hs, Hrest⟩
  ihave HV := (out_split d f) $$ HV
  icases HV with ⟨Oo, Od, Of⟩
  ihave HD := (dbuf_split (F := F) d) $$ HD
  ihave HF := (fbuf_split (F := F) d) $$ HF
  ihave HG := (gbuf_split (F := F) d) $$ HG
  isplitr [Hrest]
  rotate_left
  · iexact Hrest
  unfold S0 Crs Bufs StS Bar
  isplitl [Hs Wd Tds Tdv]
  · unfold sndPre
    rw [bigSep_sep', bigSep_sep', bigSep_sep']
    isplitl [Hs]; · iexact Hs
    isplitl [Wd]; · iexact Wd
    isplitl [Tds] <;> iassumption
  isplitl [Pdv Cdv Wf Tfs Tfv Od]
  · unfold rcvPre
    rw [bigSep_sep', bigSep_sep', bigSep_sep', bigSep_sep', bigSep_sep']
    isplitl [Pdv]; · iexact Pdv
    isplitl [Cdv]; · iexact Cdv
    isplitl [Wf]; · iexact Wf
    isplitl [Tfs]; · iexact Tfs
    isplitl [Tfv] <;> iassumption
  isplitl [Pfv Cfv Of]
  · unfold fwdPre
    rw [bigSep_sep', bigSep_sep']
    isplitl [Pfv]; · iexact Pfv
    isplitl [Cfv] <;> iassumption
  isplitl [Pfs]; · iexact Pfs
  isplitl [Pds]; · iexact Pds
  isplitl [Pcd Ccd Tcd]
  · isplitl [Pcd]; · iexact Pcd
    isplitl [Ccd]; · iexact Ccd
    iexact Tcd
  isplitl [Pcf Ccf Tcf]
  · isplitl [Pcf]; · iexact Pcf
    isplitl [Ccf]; · iexact Ccf
    iexact Tcf
  isplitl [Rd HD Vd]
  · isplitl [Rd]; · iexact Rd
    isplitl [HD] <;> iassumption
  isplitl [Rf HF Vf]
  · isplitl [Rf]; · iexact Rf
    isplitl [HF] <;> iassumption
  isplitl [Hx Oo HG Vi Vo]
  · isplitl [Hx]; · iexact Hx
    isplitl [Oo]; · iexact Oo
    isplitl [HG]; · iexact HG
    isplitl [Vi] <;> iassumption
  isplitl [Tb0]; · iexact Tb0
  isplitl [Tb1]; · iexact Tb1
  isplitl [Cb] <;> iassumption

/-! ## After the body -/

variable (K : Dev nD × Cl → ℕ) (I : Key → ℕ)

/-- The shared semaphores of a device whose round is over, taken back at zero. -/
theorem close : iprop(ctx m K I ∗ bigSep Finset.univ (fun x : Cl => atPos ER (kcell (d, x)) 1 ∅ 0))
    ⊢ |={Set.univ}=> bigSep Finset.univ (fun x : Cl => (semVal (kcell (d, x)) 0 : sProp 𝕄)) := by
  unfold ctx
  iintro ⟨⟨#HI, -, -, -⟩, HP⟩
  ihave HI' := (Entails.of_eq (bigSep_univ_prod fun x : Dev nD × Cl => (cellInv ER (Rd m) (K x) (kcell x) : sProp 𝕄))) $$ HI
  ihave HI' := (bigElim (F := F) (Φ := fun e : Dev nD => bigSep Finset.univ fun x : Cl => cellInv ER (Rd m) (K (e, x)) (kcell (e, x))) (Finset.mem_univ d)) $$ HI'
  iapply (Rounds.cells_close ER (Rd m) Finset.univ (fun x : Cl => kcell (d, x)) (fun x => K (d, x)) (fun _ _ => Set.mem_univ _) (fun _ _ h => h) (fun _ => 1)
    (fun x _ r hr => duties_later m (kcell (d, x)) r hr))
  iapply (Entails.of_eq (bigSep_sep' Finset.univ (fun x : Cl => (cellInv ER (Rd m) (K (d, x)) (kcell (d, x)) : sProp 𝕄)) (fun x : Cl => atPos ER (kcell (d, x)) 1 ∅ 0)).symm)
  isplitl [HI'] <;> iassumption

/-- What the body ends with gives back every semaphore at zero and the buffers, the result done. -/
theorem leave : iprop(ctx m K I ∗ S1 m d ∗ xRest m d)
    ⊢ |={Set.univ}=> iprop((Pipeline.ownSems0 (Ix := ℕ) (Name := ℕ) (U := UU) (Lvl := ℕ) (Val := Elt F) (τ := τ) osem d ∗ unscopedSems0 d) ∗ bufs m d (outVal m d)) := by
  unfold S1 StF bufs
  rw [bigSep_sep', bigSep_sep', shift8 d drSem, shift8 d frSem]
  iintro ⟨#Hc, ⟨⟨Pds, Hs⟩, Pdv, ⟨Pfs, Od⟩, Pfv, Of, ⟨Pcd, Pcf, Pb⟩, ⟨HD, Vd⟩, ⟨HF, Vf⟩, Hx, Oo, HG, Vi, Vo⟩, Hrest⟩
  imod (close m d K I) $$ [Pds Pdv Pfs Pfv Pcd Pcf Pb] with HS
  · isplitr; · iexact Hc
    rw [cl_split d fun g => atPos ER g 1 ∅ 0]
    simp only [fin_ch]
    isplitl [Pds Pdv Pfs Pfv]
    · isplitl [Pds]; · iexact Pds
      isplitl [Pdv]; · iexact Pdv
      isplitl [Pfs] <;> iassumption
    isplitl [Pcd Pcf]
    · isplitl [Pcd] <;> iassumption
    iexact Pb
  imodintro
  isplitl [HS Vi Vo Vd Vf]
  · iapply (sems0_eq (F := F) d).2
    isplitl [HS]; · iexact HS
    rw [locals_eq]
    isplitl [Vi Vo]
    · isplitl [Vi] <;> iassumption
    isplitl [Vd] <;> iassumption
  isplitl [Hx Hs Hrest Oo Od Of]
  · isplitl [Hx Hs Hrest]
    · iapply (arg_split m d).2
      isplitl [Hx]; · iexact Hx
      isplitl [Hs] <;> iassumption
    iapply (Entails.of_eq (out_join m d))
    isplitl [Oo]; · iexact Oo
    isplitl [Od] <;> iassumption
  isplitl [HD]; · iapply (dbuf_join m d); iexact HD
  isplitl [HF]; · iapply (fbuf_join m d); iexact HF
  iapply (gbuf_join m d); iexact HG

end Cert.K01

end
-- ==== Proof.Run.lean ====
/- The body between its two ends, and the whole run. -/
module

public import proofs.«01_k».proof.Proof.Enter

@[expose] public section

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]
local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-- What a device brings to the kernel besides its scratch buffers. -/
def start (d : Dev nD) : sProp 𝕄 :=
  iprop((∃ (K : Dev nD × Cl → ℕ) (I : Key → ℕ), ctx m K I ∗ lin d) ∗ dealP d
    ∗ ((d : Thread nD τ).loc main_arg0 ↦{fullShare} xc m d) ∗ ((d : Thread nD τ).loc main_v1 ↦{fullShare} m ((d : Thread nD τ).loc main_v1)))
/-- What a device has before the body. -/
def Φ₀ (d : Dev nD) : sProp 𝕄 := iprop(start m d ∗ dbuf d ∗ fbuf d ∗ gbuf d)
/-- What a device has after the body: the result holds what it is to hold, every semaphore is at zero. -/
def Φ₁ (d : Dev nD) : sProp 𝕄 :=
  iprop((Pipeline.ownSems0 (Ix := ℕ) (Name := ℕ) (U := UU) (Lvl := ℕ) (Val := Elt F) (τ := τ) osem d ∗ unscopedSems0 d) ∗ bufs m d (outVal m d))

/-- A body that asks which device it is on, then runs its operations. -/
theorem ask_device (d : Dev nD) (l : List Op) (Q : PUnit → sProp 𝕄) :
    wp frame (wpE (defs₀ (F := F)) 𝒱₀ (d : Thread nD τ) none) Set.univ (.op .deviceId fun d => seq d l) Q = WPs d l Q := by
  rw [wp_deviceId]

/-- Operations with nothing after them. -/
theorem at_end {K : Dev nD × Cl → ℕ} {I : Key → ℕ} {d : Dev nD} {P P' : sProp 𝕄} {l : List Op} (h : Tr m K I d P l P') (Q : PUnit → sProp 𝕄) :
    iprop(ctx m K I ∗ P) ⊢ iprop((P' -∗ |={Set.univ}=> Q ⟨⟩) -∗ WPs d l Q) := by
  have h' := h [] Q
  rw [List.append_nil] at h'
  exact h'

/-- The body, from end to end. -/
theorem body_run (d : Dev nD) : iprop(Φ₀ m d ∗ OwO d (O₀ d))
    ⊢ wp frame (wpE (defs₀ (F := F)) 𝒱₀ (d : Thread nD τ) none) Set.univ (bodyAt0 (F := F) t0_0) (fun _ => iprop(Φ₁ m d ∗ OwO d 0)) := by
  rw [body_eq, ask_device]
  unfold Φ₀ start
  iintro ⟨⟨⟨⟨%K, %I, #Hc, Hl⟩, Hcr, Ha, Hv⟩, Hb⟩, HO⟩
  ihave H := (enter m d (m ((d : Thread nD τ).loc main_v1))) $$ [Hl Hcr Ha Hv Hb]
  · isplitl [Hl]; · iexact Hl
    isplitl [Hcr]; · iexact Hcr
    unfold bufs
    isplitl [Ha Hv]
    · isplitl [Ha] <;> iassumption
    iexact Hb
  icases H with ⟨HS, Hrest⟩
  iapply (at_end m (t_all d) (fun _ => iprop(Φ₁ m d ∗ OwO d 0))) $$ [HS HO]
  · isplitr; · iexact Hc
    isplitl [HS] <;> iassumption
  iintro ⟨HS, HO⟩
  imod (leave m d K I) $$ [HS Hrest] with H
  · isplitr; · iexact Hc
    isplitl [HS] <;> iassumption
  imodintro
  isplitl [H]; · unfold Φ₁; iexact H
  unfold Ow
  rw [ow_end]
  · iexact HO
  all_goals exact Nat.le_refl _

/-- What the launch is told of the kernel: no window, what a device has before and after the body, and what it owes. -/
def dats (_ : Fin 1) (d : Dev nD) : Dat τ (Elt F) ℕ ℕ UU ℕ cfg0 d where
  A := fun w => w.elim0
  after := fun w => w.elim0
  Φ := fun
    | ⟨0, _⟩ => Φ₀ m d
    | ⟨_ + 1, _⟩ => Φ₁ m d
  q := fun _ => fullShare
  owed := fun
    | ⟨0, _⟩ => O₀ d
    | ⟨_ + 1, _⟩ => 0

/-- The program the launch runs is the body. -/
theorem launched : defs₀ (F := F) .tc cfg0.body (cfg0.bodyArgs t0_0 (cfg0.slots t0_0)) = bodyAt0 (F := F) t0_0 := rfl

/-- No array is windowed. -/
theorem no_windows (A : Fin cfg0.W → sProp 𝕄) : bigSep Finset.univ A = iprop(emp) := by
  rw [show (Finset.univ : Finset (Fin cfg0.W)) = ∅ from rfl]; rfl

/-- What a device owes, as the launch has it. -/
theorem obligation_of (d : Dev nD) (p : Prog (TpuEff nD τ sig (Elt F) Λ₀ .tc) PUnit) (A B : Fin cfg0.W → sProp 𝕄)
    (h : iprop(Φ₀ m d ∗ OwO d (O₀ d)) ⊢ wp frame (wpE (defs₀ (F := F)) 𝒱₀ (d : Thread nD τ) none) Set.univ p (fun _ => iprop(Φ₁ m d ∗ OwO d 0))) :
    iprop((dats m 0 d).Φ t0_0.castSucc ∗ (dats m 0 d).owesAt 0 t0_0.castSucc ∗ bigSep Finset.univ A)
      ⊢ wp frame (wpE (defs₀ (F := F)) 𝒱₀ (d : Thread nD τ) none) Set.univ
        p (fun _ => iprop((dats m 0 d).Φ t0_0.succ ∗ (dats m 0 d).owesAt 0 t0_0.succ ∗ bigSep Finset.univ B)) := by
  rw [show (dats m 0 d).Φ t0_0.castSucc = Φ₀ m d from rfl, show (dats m 0 d).Φ t0_0.succ = Φ₁ m d from rfl, no_windows, no_windows]
  have h1 : iprop(Φ₀ m d ∗ (dats m 0 d).owesAt 0 t0_0.castSucc ∗ emp) ⊢ iprop(Φ₀ m d ∗ OwO d (O₀ d)) := by
    unfold OwO
    iintro ⟨H, ⟨%W, -, HO⟩, -⟩
    isplitl [H]; · iexact H
    iexists W; iexact HO
  have h2 : iprop(Φ₁ m d ∗ OwO d 0) ⊢ iprop(Φ₁ m d ∗ (dats m 0 d).owesAt 0 t0_0.succ ∗ emp) := by
    unfold OwO
    iintro ⟨H, ⟨%W, HO⟩⟩
    isplitl [H]; · iexact H
    isplitl [HO]
    · iexists W
      isplitr; · ipureintro; exact fun _ _ => Or.inl trivial
      iexact HO
    iempintro
  exact (h1.trans h).trans (wp_mono _ _ _ fun _ => h2)

/-- The body meets its obligation. -/
theorem body_obligation (d : Dev nD) : BodyObligation (dats (F := F) m 0 d) (defs₀ (F := F)) 𝒱₀ 0 Set.univ := fun t => by
  rw [fin_N0 t, launched]
  have h := obligation_of m d _ (fun w => w.elim0) (fun w => w.elim0) (body_run m d)
  rw [no_windows] at h
  rw [no_windows, no_windows]
  generalize bodyAt0 (F := F) t0_0 = p at h ⊢
  exact h

/-! ## The launch's side conditions -/

/-- What the launch hands a device is what it brings to the kernel. -/
theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  rw [Pipeline.unscopedRestP_none, unscopedRest0_eq]
  unfold G'
  iintro ⟨⟨Ha, Hv⟩, Hlev, Hcr, -, ⟨%K, %I, Hc, Hl⟩⟩
  imodintro
  isplitl
  · unfold start
    isplitl [Hlev Hc Hl]
    · iexists K; iexists I
      isplitl [Hlev Hc]
      · unfold ctx0 ctx
        icases Hc with ⟨H1, H2, H3⟩
        isplitl [H1]; · iexact H1
        isplitl [H2]; · iexact H2
        isplitl [H3] <;> iassumption
      iexact Hl
    isplitl [Hcr]; · unfold dealP; iapply (dealt (F := F) d); iexact Hcr
    isplitl [Ha]; · iexact Ha
    iexact Hv
  · iempintro

/-- What a device brings to the kernel and its scratch buffers are what it has before the body. -/
theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀
  iintro ⟨Hs, -, Hr⟩
  isplitl [Hs]; · iexact Hs
  iexact Hr

/-- What a device ends with that the claims read. -/
def fin (d : Dev nD) : sProp 𝕄 :=
  iprop((((d : Thread nD τ).loc main_arg0 ↦{fullShare} xc m d) ∗ ((d : Thread nD τ).loc main_v1 ↦{fullShare} outVal m d)) ∗ unscopedSems0 d)

/-- What a device has after the body is what the claims read, the kernel's semaphores at zero and the scratch buffers. -/
theorem phi1_exit (d : Dev nD) :
    (dats m 0 d).Φ (Fin.last cfg0.N) ⊢ iprop(fin m d ∗ Pipeline.ownSems0 osem d ∗ Pipeline.scopedRest cfg0.spec d) := by
  rw [show (dats m 0 d).Φ (Fin.last cfg0.N) = Φ₁ m d from rfl, scopedRest0_eq]
  unfold Φ₁ bufs fin
  iintro ⟨⟨Ho, Hu⟩, Hav, Hb⟩
  isplitl [Hav Hu]
  · isplitl [Hav] <;> iassumption
  isplitl [Ho]; · iexact Ho
  iexact Hb

/-- No window is waited for. -/
theorem waits (d : Dev nD) : (levAts L lv : sProp 𝕄) ⊢ Pipeline.cellsWaits cfgs (dats m) 0 0 d :=
  Pipeline.cellsWaits_intro cfgs (dats m) 0 0 d fun w _ _ => w.elim0

/-- What the claims read at the end, of device `d`. -/
def QY (d : Dev nD) (s : MemSt nD τ sig (Elt F)) : Prop :=
  (s.mem ((d : Thread nD τ).loc main_arg0) = m ((d : Thread nD τ).loc main_arg0) ∧ s.mem ((d : Thread nD τ).loc main_v1) = outVal m d)
    ∧ ∀ sm : SemLoc sig, sm.isScoped .tc = false → s.sem ((d.tc : Thread nD τ), sm) = 0

/-- The memory at the end is what the device holds at the end. -/
theorem read_end (d : Dev nD) (s' : Phys nD τ sig (Elt F)) : iprop(fin m d ∗ SI s') ⊢ |={Set.univ}=> iprop(⌜QY m d s'.mem⌝ ∗ SI s') := by
  unfold fin
  iintro ⟨⟨⟨Ha, Hv⟩, Hu⟩, HSI⟩
  ihave %h1 := (SI_pointsTo_agree (ℓ := (d : Thread nD τ).loc main_arg0) (I := Finset.univ) (q := fullShare) (f := xc m d) (st := s')) $$ [HSI Ha]
  · isplitl [HSI] <;> iassumption
  ihave %h2 := (SI_pointsTo_agree (ℓ := (d : Thread nD τ).loc main_v1) (I := Finset.univ) (q := fullShare) (f := outVal m d) (st := s')) $$ [HSI Hv]
  · isplitl [HSI] <;> iassumption
  imod (Pipeline.unscopedSems0_read (X := unscopedSems0 d) (c := d) fupd_intro s') $$ [Hu HSI] with ⟨%h3, HSI⟩
  · isplitl [Hu] <;> iassumption
  imodintro
  isplitr
  · ipureintro
    exact ⟨⟨funext fun i => h1 i (Finset.mem_univ i), funext fun i => h2 i (Finset.mem_univ i)⟩, h3⟩
  iexact HSI

/-! ## The run -/

/-- The memory the run starts from. -/
def s₀ : MemSt nD τ sig (Elt F) := ⟨m, fun _ => 0, ρ⟩

set_option maxRecDepth 8000 in
/-- From any memory with zero counters, for any float values: every weakly fair execution of the program on the four
    devices terminates, and at its end every device's result holds both halves of the argument, its argument is what it
    was, and every semaphore counter is at zero. -/
theorem run_main : θ_run defs (onTc (τ := τ) (main (F := F))) (s₀ m ρ)
    (fun r => (∀ d : Dev nD, r.2.mem ((d : Thread nD τ).loc main_arg0) = m ((d : Thread nD τ).loc main_arg0)
      ∧ r.2.mem ((d : Thread nD τ).loc main_v1) = outVal m d) ∧ r.2.sem = fun _ => 0) := by
  have hbody := body_obligation m
  have hu₀ := fund_all m
  have hmain := fun d => (main_chain (F := F) d).trans rfl
  refine Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := ?_)
    (hbody := ?_) (hne := ?_) (harr := arr_whole0) (hstage := stage_whole0) (hshare := ?_)
    (hdistinct := winFacts0.arr_inj)
    (O₀ := O₀) (howed₀ := ?_) (howedN := ?_)
    (L := L) (lv := lv) (hL := L_of_ne) (hwaits := ?_)
    (G := G m) (G' := G' m) (u₀ := u₀)
    (hu₀ := ?_)
    (hglob := ?_)
    (hA := ?_) (hpf := ?_)
    (X := start m) (Y := fin m) (Z := fun _ => iprop(emp))
    (hX := ?_) (hin := ?_) (hout := ?_)
    (QY := QY m)
    (hY := ?_)
    (hQ := ?_)
  · exact hmain
  · exact fun d => (hbody d).loose
  · exact fun w => w.elim0
  · exact fun _ w => w.elim0
  · exact fun _ => rfl
  · exact fun _ => rfl
  · exact waits m
  · exact hu₀
  · exact glob m
  · exact fun _ w => w.elim0
  · exact fun _ k => k.elim0
  · exact start_intro m ρ
  · exact phi0_intro m
  · exact phi1_exit m
  · exact fun d s' => by iintro ⟨Hf, -, HSI⟩; iapply (read_end m d s'); isplitl [Hf] <;> iassumption
  · exact fun _ h hs => ⟨fun d => (h d).2.2.1, sem_eq_zero hs fun d => (h d).2.2.2⟩

end Cert.K01

end
-- ==== Proof.Value.lean ====
/- What the result holds, said of the whole array: where every device holds its half of the rows of one array, every
   device's result is that array. And the run of the reference, which returns its argument. -/
module

public import proofs.«01_k».proof.Defs
public import proofs.«01_k».proof.Proof.Run
public import proofs.«01_k».proof.Proof.Gen.ReferenceIdeal
public import Idealize.ShloMosaic.Lib.StableHlo.RunHlo

@[expose] public section

noncomputable section

namespace Cert.K01

open Cert.KernelIdeal Cert.KernelIdeal.Gen
open Idealize.ShloMosaic Idealize.ShloMosaic.TcCoe Idealize.SL.Sem

/-! ## The result -/

/-- The half of the rows that device `d` holds is the one its second mesh coordinate names. -/
theorem block_row (d : Dev nD) (h : ∀ b : Fin 2, ∀ i ∈ (![[1], []] : Fin 2 → List ℕ) b, 0 < [2, 2].getD i 0) :
    ((Layout.meshBlock [2, 2] ![[1], []] d h (0 : Fin 2)).val = d.val % 2) ∧ (Layout.meshBlock [2, 2] ![[1], []] d h (1 : Fin 2)).val = 0 := by
  have e : ∀ d : Dev nD, Layout.meshLin [2, 2] d.val [1] = d.val % 2 := by decide
  exact ⟨e d, rfl⟩

/-- The device that row `r` of a result comes from holds the half of the rows that `r` lies in. -/
theorem srcDev_mod (d : Dev nD) (r : ℕ) (hr : r < 32768) : (srcDev d r).val % 2 = r / 16384 := by
  have h1 := yn_val d
  have h2 := yn_val (xn d)
  have h3 := xn_val d
  have h4 : r / 16384 < 2 := by omega
  have h5 := Nat.mod_lt d.val (show 0 < 2 by decide)
  unfold srcDev
  split
  · omega
  split <;> omega

/-- Where every device holds its half of the rows of `v`, every device's result is `v`. -/
theorem outVal_eq {F : FTy → Type} [FloatOps F] (m : (ℓ : Loc nD τ sig) → Buf (Elt F) ℓ) (v : (⟨2, ![32768, 1024]⟩ : Shape).Idx → Elt F .f32)
    (hm : ∀ c : Dev nD, m ((c.tc : Thread nD τ).loc main_arg0)
      = Layout.blockN ⟨2, ![16384, 1024]⟩ ⟨2, ![32768, 1024]⟩ (Layout.meshBlock [2, 2] ![[1], []] c) v) (d : Dev nD) :
    outVal m d = v := by
  funext i
  unfold outVal xc
  rw [hm, Layout.blockN_apply]
  congr 1
  funext b
  have hi : (i 0).val < 32768 := (i 0).isLt
  have hb := fun h => block_row (srcDev d (i 0).val) h
  have hs := srcDev_mod d (i 0).val hi
  apply Fin.ext
  rw [Layout.TilesN.idx_val]
  fin_cases b
  · refine (congrArg (· * 16384 + (i 0).val % 16384) (hb _).1).trans ?_
    show (srcDev d (i 0).val).val % 2 * 16384 + (i 0).val % 16384 = (i 0).val
    omega
  · refine (congrArg (· * 1024 + (i 1).val) (hb _).2).trans ?_
    show 0 * 1024 + (i 1).val = (i 1).val
    omega

/-! ## The reference -/

/-- The reference runs, its argument is what it was, and it has no semaphore. -/
theorem run_reference {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  θ_run_mono (StableHlo.run_hlo Cert.ReferenceIdeal.defs Cert.ReferenceIdeal.main (ops := []) (fun _ => StableHlo.IsSeq.nil)
    (by decide) (by decide) trivial (fun _ h => nomatch h) m ρ)
    fun r h => ⟨fun c => h c Cert.ReferenceIdeal.main_arg0, sem_eq_zero_of_no_sems (by decide) r.2⟩

end Cert.K01

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value

@[expose] public section

noncomputable section

namespace Cert.Proof

open Idealize.ShloMosaic Idealize.ShloMosaic.TcCoe Idealize.SL.Sem Cert.K01

/-- The idealized kernel's run with the values dropped, over any float values. -/
theorem run_quiet {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (run_main m g)

/-- The frame of the idealized kernel. -/
theorem frame_kernel_ideal : Cert.quiescent_KernelIdeal := fun m g _ => run_quiet m g

set_option maxRecDepth 65536 in
/-- The frame of the kernel, whose text is the idealized kernel's: the same run at the machine's own floats. -/
theorem frame_kernel : Cert.quiescent_Kernel := fun m g _ => run_quiet (F := Bits) m g

/-- The frame of the reference. -/
theorem frame_reference : Cert.quiescent_ReferenceIdeal := fun m g _ => run_reference m g

/-- The kernel's result on every device is the whole array, which is what the reference returns. -/
theorem value : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.trans (outVal_eq m _ hm c), (h.1 c).1⟩) (run_main m g),
    (θ_run Cert.ReferenceIdeal.defs _ _).mono (fun _ h => ⟨h.1 0, h.1 0⟩) (run_reference m' g')⟩

/-- All the claims. -/
theorem claim : Cert.Claim := ⟨Cert.Kernel.Gen.facts, Cert.KernelIdeal.Gen.facts, Cert.ReferenceIdeal.Gen.facts,
  frame_kernel, frame_kernel_ideal, frame_reference, trivial, value⟩

end Cert.Proof

end
